-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_WeightedIdeal (m : (ℓ : Loc Cert.WeightedIdeal.nD Cert.WeightedIdeal.τ Cert.WeightedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_WeightedIdeal [hWeightedIdeal : Cert.WeightedIdeal.Facts] : Prop :=
  ∀ (m : (ℓ : Loc Cert.WeightedIdeal.nD Cert.WeightedIdeal.τ Cert.WeightedIdeal.sig) → Buf (Elt Ideal) ℓ) (g : Dev Cert.WeightedIdeal.nD → PrngReg), Pre_WeightedIdeal m →
    θ_run (Cert.WeightedIdeal.defs (F := Ideal)) (onTc (τ := Cert.WeightedIdeal.τ) (Cert.WeightedIdeal.main (F := Ideal))) ⟨m, fun _ => 0, g⟩ (fun r => (∀ c : Dev Cert.WeightedIdeal.nD,
      r.2.mem ((c.tc : Thread Cert.WeightedIdeal.nD Cert.WeightedIdeal.τ).loc Cert.WeightedIdeal.main_arg0) = m ((c.tc : Thread Cert.WeightedIdeal.nD Cert.WeightedIdeal.τ).loc Cert.WeightedIdeal.main_arg0)
      ∧ r.2.mem ((c.tc : Thread Cert.WeightedIdeal.nD Cert.WeightedIdeal.τ).loc Cert.WeightedIdeal.main_arg1) = m ((c.tc : Thread Cert.WeightedIdeal.nD Cert.WeightedIdeal.τ).loc Cert.WeightedIdeal.main_arg1)
      ∧ r.2.mem ((c.tc : Thread Cert.WeightedIdeal.nD Cert.WeightedIdeal.τ).loc Cert.WeightedIdeal.main_arg2) = m ((c.tc : Thread Cert.WeightedIdeal.nD Cert.WeightedIdeal.τ).loc Cert.WeightedIdeal.main_arg2)
      ∧ r.2.mem ((c.tc : Thread Cert.WeightedIdeal.nD Cert.WeightedIdeal.τ).loc Cert.WeightedIdeal.main_arg3) = m ((c.tc : Thread Cert.WeightedIdeal.nD Cert.WeightedIdeal.τ).loc Cert.WeightedIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![4096, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_WeightedIdeal [hKernelIdeal : Cert.KernelIdeal.Facts] [hWeightedIdeal : Cert.WeightedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.WeightedIdeal.nD Cert.WeightedIdeal.τ Cert.WeightedIdeal.sig) → Buf (Elt Ideal) ℓ) (g' : Dev Cert.WeightedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.WeightedIdeal.nD).tc : Thread Cert.WeightedIdeal.nD Cert.WeightedIdeal.τ).loc Cert.WeightedIdeal.main_arg0))
      ∧ m ((c.tc : Thread Cert.KernelIdeal.nD Cert.KernelIdeal.τ).loc Cert.KernelIdeal.main_arg1) = m' (((0 : Dev Cert.WeightedIdeal.nD).tc : Thread Cert.WeightedIdeal.nD Cert.WeightedIdeal.τ).loc Cert.WeightedIdeal.main_arg1)
      ∧ m ((c.tc : Thread Cert.KernelIdeal.nD Cert.KernelIdeal.τ).loc Cert.KernelIdeal.main_arg2) = Layout.block ⟨2, ![512, 2]⟩ ⟨2, ![4096, 2]⟩ 0 8 c (m' (((0 : Dev Cert.WeightedIdeal.nD).tc : Thread Cert.WeightedIdeal.nD Cert.WeightedIdeal.τ).loc Cert.WeightedIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.WeightedIdeal.nD).tc : Thread Cert.WeightedIdeal.nD Cert.WeightedIdeal.τ).loc Cert.WeightedIdeal.main_arg3))) →
    ∃ (v0 : Buf (Elt Ideal) (((0 : Dev Cert.WeightedIdeal.nD).tc : Thread Cert.WeightedIdeal.nD Cert.WeightedIdeal.τ).loc Cert.WeightedIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.WeightedIdeal.defs (F := Ideal)) (onTc (τ := Cert.WeightedIdeal.τ) (Cert.WeightedIdeal.main (F := Ideal))) ⟨m', fun _ => 0, g'⟩ (fun r =>
          r.2.mem (((0 : Dev Cert.WeightedIdeal.nD).tc : Thread Cert.WeightedIdeal.nD Cert.WeightedIdeal.τ).loc Cert.WeightedIdeal.main_v34) = v0
          ∧ r.2.mem (((0 : Dev Cert.WeightedIdeal.nD).tc : Thread Cert.WeightedIdeal.nD Cert.WeightedIdeal.τ).loc Cert.WeightedIdeal.main_arg0) = m' (((0 : Dev Cert.WeightedIdeal.nD).tc : Thread Cert.WeightedIdeal.nD Cert.WeightedIdeal.τ).loc Cert.WeightedIdeal.main_arg0)
          ∧ r.2.mem (((0 : Dev Cert.WeightedIdeal.nD).tc : Thread Cert.WeightedIdeal.nD Cert.WeightedIdeal.τ).loc Cert.WeightedIdeal.main_arg1) = m' (((0 : Dev Cert.WeightedIdeal.nD).tc : Thread Cert.WeightedIdeal.nD Cert.WeightedIdeal.τ).loc Cert.WeightedIdeal.main_arg1)
          ∧ r.2.mem (((0 : Dev Cert.WeightedIdeal.nD).tc : Thread Cert.WeightedIdeal.nD Cert.WeightedIdeal.τ).loc Cert.WeightedIdeal.main_arg2) = m' (((0 : Dev Cert.WeightedIdeal.nD).tc : Thread Cert.WeightedIdeal.nD Cert.WeightedIdeal.τ).loc Cert.WeightedIdeal.main_arg2)
          ∧ r.2.mem (((0 : Dev Cert.WeightedIdeal.nD).tc : Thread Cert.WeightedIdeal.nD Cert.WeightedIdeal.τ).loc Cert.WeightedIdeal.main_arg3) = m' (((0 : Dev Cert.WeightedIdeal.nD).tc : Thread Cert.WeightedIdeal.nD Cert.WeightedIdeal.τ).loc Cert.WeightedIdeal.main_arg3))

def Claim : Prop :=
  ∃ (hKernel : Cert.Kernel.Facts) (hKernelIdeal : Cert.KernelIdeal.Facts) (hReferenceIdeal : Cert.ReferenceIdeal.Facts) (hWeightedIdeal : Cert.WeightedIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_WeightedIdeal (hWeightedIdeal := hWeightedIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
    ∧ algebraic_KernelIdeal_WeightedIdeal (hKernelIdeal := hKernelIdeal) (hWeightedIdeal := hWeightedIdeal)
-- ==== Pre_finite_KernelIdeal.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S_ : Shape := ⟨0, ![]⟩

class Facts : Prop where
  bcast_S_S512x256 : S_.BroadcastsInDim S512x256 (![] : Fin 0 → Fin S512x256.rank)
  bcast_S_S256x32 : S_.BroadcastsInDim S256x32 (![] : Fin 0 → Fin S256x32.rank)

variable [Facts]

def fn {F : FTy → Type} [FloatOps F] (main_arg0 : FVec F S512x256 .f32) (main_arg1 : FVec F S256x32 .f32) (main_arg2 : IVec S512x2 32) (main_arg3 : FVec F S4x256x512 .f32) : IVec S512x256 1 × IVec S256x32 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x32 .f32 := Host.absf main_arg1
  let main_cst_0 : FVec F S_ .f32 := constant S_ .f32 0x7F800000#32
  let main_v4 : FVec F S256x32 .f32 := broadcastInDim S256x32 ![] bcast_S_S256x32 main_cst_0
  let main_v5 : IVec S256x32 1 := cmpf .olt main_v3 main_v4
  (main_v2, main_v5)
-- ==== Pre_finite_ReferenceIdeal.lean ====
abbrev S4096x256 : Shape := ⟨2, ![4096, 256]⟩
abbrev S256x32 : Shape := ⟨2, ![256, 32]⟩
abbrev S4096x2 : Shape := ⟨2, ![4096, 2]⟩
abbrev S32x256x512 : Shape := ⟨3, ![32, 256, 512]⟩
abbrev S_ : Shape := ⟨0, ![]⟩

class Facts : Prop where
  bcast_S_S4096x256 : S_.BroadcastsInDim S4096x256 (![] : Fin 0 → Fin S4096x256.rank)
  bcast_S_S256x32 : S_.BroadcastsInDim S256x32 (![] : Fin 0 → Fin S256x32.rank)

variable [Facts]

def fn {F : FTy → Type} [FloatOps F] (main_arg0 : FVec F S4096x256 .f32) (main_arg1 : FVec F S256x32 .f32) (main_arg2 : IVec S4096x2 32) (main_arg3 : FVec F S32x256x512 .f32) : IVec S4096x256 1 × IVec S256x32 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S256x32 .f32 := Host.absf main_arg1
  let main_cst_0 : FVec F S_ .f32 := constant S_ .f32 0x7F800000#32
  let main_v4 : FVec F S256x32 .f32 := broadcastInDim S256x32 ![] bcast_S_S256x32 main_cst_0
  let main_v5 : IVec S256x32 1 := cmpf .olt main_v3 main_v4
  (main_v2, main_v5)
-- ==== Kernel.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S512x512 : Shape := ⟨2, ![512, 512]⟩
abbrev S8x4x256x512 : Shape := ⟨4, ![8, 4, 256, 512]⟩
abbrev S8x512x1024 : Shape := ⟨3, ![8, 512, 1024]⟩
abbrev S6x3 : Shape := ⟨2, ![6, 3]⟩
abbrev S512x32 : Shape := ⟨2, ![512, 32]⟩
abbrev S512 : Shape := ⟨1, ![512]⟩
abbrev S512x1 : Shape := ⟨2, ![512, 1]⟩
abbrev S_ : Shape := ⟨0, ![]⟩
abbrev S1x1 : Shape := ⟨2, ![1, 1]⟩
abbrev S1x2x256x512 : Shape := ⟨4, ![1, 2, 256, 512]⟩
abbrev S2x256x512 : Shape := ⟨3, ![2, 256, 512]⟩
abbrev S512x1024 : Shape := ⟨2, ![512, 1024]⟩
abbrev S1x512x1024 : Shape := ⟨3, ![1, 512, 1024]⟩
abbrev S1024x512 : Shape := ⟨2, ![1024, 512]⟩
abbrev S1x4x256x512 : Shape := ⟨4, ![1, 4, 256, 512]⟩
abbrev S1x1x256x512 : Shape := ⟨4, ![1, 1, 256, 512]⟩
abbrev S1x256x512 : Shape := ⟨3, ![1, 256, 512]⟩
abbrev S1x1x256x256 : Shape := ⟨4, ![1, 1, 256, 256]⟩
abbrev S1x256x256 : Shape := ⟨3, ![1, 256, 256]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x2, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S256x32, .f32⟩
  | .local _ .vmem, ⟨2, _⟩ => ⟨S512x2, .i32⟩
  | .local _ .vmem, ⟨3, _⟩ => ⟨S4x256x512, .f32⟩
  | .local _ .vmem, ⟨4, _⟩ => ⟨S512x512, .f32⟩
  | .local _ .vmem, ⟨5, _⟩ => ⟨S8x4x256x512, .bf16⟩
  | .local _ .vmem, ⟨6, _⟩ => ⟨S4x256x512, .bf16⟩
  | .local _ .vmem, ⟨7, _⟩ => ⟨S8x512x1024, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_65 : BitVec 32 := 1#32
  let v135 : BitVec 32 := Scalar.muli v46 c1_i32_65
  let v136 : BitVec 32 := Scalar.addi c0_i32_66 v135
  v136.toNat
def k0_dev2 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_68 : BitVec 32 := 1#32
  let v137 : BitVec 32 := Scalar.muli v53 c1_i32_68
  let v138 : BitVec 32 := Scalar.addi c0_i32_69 v137
  v138.toNat
def k0_dev3 (d0 : Dev nD) : Nat :=
  let c0_i32_72 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let c1_i32_71 : BitVec 32 := 1#32
  let v139 : BitVec 32 := Scalar.muli v60 c1_i32_71
  let v140 : BitVec 32 := Scalar.addi c0_i32_72 v139
  v140.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_79 : BitVec 32 := 0#32
  let c0_i32_80 : BitVec 32 := 0#32
  let c0_i32_81 : BitVec 32 := 0#32
  ![v2.toNat, 0, 0, 0]
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_77 : BitVec 32 := 1#32
  let v141 : BitVec 32 := Scalar.muli v46 c1_i32_77
  let v142 : BitVec 32 := Scalar.addi c0_i32_78 v141
  v142.toNat
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_91 : BitVec 32 := 2#32
  let c0_i32_92 : BitVec 32 := 0#32
  let c0_i32_93 : BitVec 32 := 0#32
  ![v2.toNat, 2, 0, 0]
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_89 : BitVec 32 := 1#32
  let v150 : BitVec 32 := Scalar.muli v46 c1_i32_89
  let v151 : BitVec 32 := Scalar.addi c0_i32_90 v150
  v151.toNat
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_101 : BitVec 32 := 1#32
  let v159 : BitVec 32 := Scalar.muli v53 c1_i32_101
  let v160 : BitVec 32 := Scalar.addi c0_i32_102 v159
  v160.toNat
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_113 : BitVec 32 := 1#32
  let v168 : BitVec 32 := Scalar.muli v53 c1_i32_113
  let v169 : BitVec 32 := Scalar.addi c0_i32_114 v168
  v169.toNat
def k0_dev8 (d0 : Dev nD) : Nat :=
  let c0_i32_126 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let c1_i32_125 : BitVec 32 := 1#32
  let v177 : BitVec 32 := Scalar.muli v60 c1_i32_125
  let v178 : BitVec 32 := Scalar.addi c0_i32_126 v177
  v178.toNat
def k0_dev9 (d0 : Dev nD) : Nat :=
  let c0_i32_138 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let c1_i32_137 : BitVec 32 := 1#32
  let v186 : BitVec 32 := Scalar.muli v60 c1_i32_137
  let v187 : BitVec 32 := Scalar.addi c0_i32_138 v186
  v187.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c0_i32_318 : BitVec 32 := 0#32
  let c0_i32_319 : BitVec 32 := 0#32
  let c0_i32_320 : BitVec 32 := 0#32
  ![v53.toNat, 0, 0, 0]
def k0_dev10 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_316 : BitVec 32 := 1#32
  let v664 : BitVec 32 := Scalar.muli v46 c1_i32_316
  let v665 : BitVec 32 := Scalar.addi c0_i32_317 v664
  v665.toNat
def k0_off4 (d0 : Dev nD) : Fin 4 → Nat :=
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let c0_i32_342 : BitVec 32 := 0#32
  let c0_i32_343 : BitVec 32 := 0#32
  let c0_i32_344 : BitVec 32 := 0#32
  ![v60.toNat, 0, 0, 0]
def k0_dev11 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_340 : BitVec 32 := 1#32
  let v681 : BitVec 32 := Scalar.muli v53 c1_i32_340
  let v682 : BitVec 32 := Scalar.addi c0_i32_341 v681
  v682.toNat
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c0_i32_366 : BitVec 32 := 0#32
  let c0_i32_367 : BitVec 32 := 0#32
  let c0_i32_368 : BitVec 32 := 0#32
  ![v46.toNat, 0, 0, 0]
def k0_dev12 (d0 : Dev nD) : Nat :=
  let c0_i32_365 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let c1_i32_364 : BitVec 32 := 1#32
  let v698 : BitVec 32 := Scalar.muli v60 c1_i32_364
  let v699 : BitVec 32 := Scalar.addi c0_i32_365 v698
  v699.toNat
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c2_i32_390 : BitVec 32 := 2#32
  let c0_i32_391 : BitVec 32 := 0#32
  let c0_i32_392 : BitVec 32 := 0#32
  ![v53.toNat, 2, 0, 0]
def k0_dev13 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_388 : BitVec 32 := 1#32
  let v715 : BitVec 32 := Scalar.muli v46 c1_i32_388
  let v716 : BitVec 32 := Scalar.addi c0_i32_389 v715
  v716.toNat
def k0_off7 (d0 : Dev nD) : Fin 4 → Nat :=
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let c2_i32_414 : BitVec 32 := 2#32
  let c0_i32_415 : BitVec 32 := 0#32
  let c0_i32_416 : BitVec 32 := 0#32
  ![v60.toNat, 2, 0, 0]
def k0_dev14 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_412 : BitVec 32 := 1#32
  let v732 : BitVec 32 := Scalar.muli v53 c1_i32_412
  let v733 : BitVec 32 := Scalar.addi c0_i32_413 v732
  v733.toNat
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c2_i32_438 : BitVec 32 := 2#32
  let c0_i32_439 : BitVec 32 := 0#32
  let c0_i32_440 : BitVec 32 := 0#32
  ![v46.toNat, 2, 0, 0]
def k0_dev15 (d0 : Dev nD) : Nat :=
  let c0_i32_437 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let c1_i32_436 : BitVec 32 := 1#32
  let v749 : BitVec 32 := Scalar.muli v60 c1_i32_436
  let v750 : BitVec 32 := Scalar.addi c0_i32_437 v749
  v750.toNat
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let v759 : Index := Scalar.indexCast v46
  let c0_444 : Index := 0#32
  let c0_445 : Index := 0#32
  let c0_446 : Index := 0#32
  ![v759.toNat, 0, 0, 0]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let v770 : Index := Scalar.indexCast v53
  let c0_455 : Index := 0#32
  let c0_456 : Index := 0#32
  let c0_457 : Index := 0#32
  ![v770.toNat, 0, 0, 0]
def k0_off11 (d0 : Dev nD) : Fin 4 → Nat :=
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let v781 : Index := Scalar.indexCast v60
  let c0_466 : Index := 0#32
  let c0_467 : Index := 0#32
  let c0_468 : Index := 0#32
  ![v781.toNat, 0, 0, 0]
def k0_off12 (d0 : Dev nD) : Fin 4 → Nat :=
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v78 : BitVec 32 := Scalar.subi c1_i32_36 v20
  let c4_i32_37 : BitVec 32 := 4#32
  let v79 : BitVec 32 := Scalar.muli v78 c4_i32_37
  let c2_i32_38 : BitVec 32 := 2#32
  let c1_i32_35 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v77 : BitVec 32 := Scalar.subi c1_i32_35 v37
  let v80 : BitVec 32 := Scalar.muli c2_i32_38 v77
  let v81 : BitVec 32 := Scalar.addi v79 v80
  let v38 : BitVec 32 := Scalar.addi v3 v37
  let c2_i32_12 : BitVec 32 := 2#32
  let v39 : BitVec 32 := Scalar.remsi v38 c2_i32_12
  let v82 : BitVec 32 := Scalar.addi v39 v77
  let c2_i32_39 : BitVec 32 := 2#32
  let v83 : BitVec 32 := Scalar.remsi v82 c2_i32_39
  let v84 : BitVec 32 := Scalar.addi v81 v83
  let c0_i32_495 : BitVec 32 := 0#32
  let c0_i32_496 : BitVec 32 := 0#32
  let c0_i32_497 : BitVec 32 := 0#32
  ![v84.toNat, 0, 0, 0]
def k0_dev16 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_493 : BitVec 32 := 1#32
  let v800 : BitVec 32 := Scalar.muli v46 c1_i32_493
  let v801 : BitVec 32 := Scalar.addi c0_i32_494 v800
  v801.toNat
def k0_off13 (d0 : Dev nD) : Fin 4 → Nat :=
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v78 : BitVec 32 := Scalar.subi c1_i32_36 v20
  let c4_i32_37 : BitVec 32 := 4#32
  let v79 : BitVec 32 := Scalar.muli v78 c4_i32_37
  let c2_i32_38 : BitVec 32 := 2#32
  let c1_i32_35 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v77 : BitVec 32 := Scalar.subi c1_i32_35 v37
  let v80 : BitVec 32 := Scalar.muli c2_i32_38 v77
  let v81 : BitVec 32 := Scalar.addi v79 v80
  let v38 : BitVec 32 := Scalar.addi v3 v37
  let c2_i32_12 : BitVec 32 := 2#32
  let v39 : BitVec 32 := Scalar.remsi v38 c2_i32_12
  let v82 : BitVec 32 := Scalar.addi v39 v77
  let c2_i32_39 : BitVec 32 := 2#32
  let v83 : BitVec 32 := Scalar.remsi v82 c2_i32_39
  let v84 : BitVec 32 := Scalar.addi v81 v83
  let c1_i32_506 : BitVec 32 := 1#32
  let c0_i32_507 : BitVec 32 := 0#32
  let c0_i32_508 : BitVec 32 := 0#32
  ![v84.toNat, 1, 0, 0]
def k0_dev17 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_14 : BitVec 32 := 4#32
  let v41 : BitVec 32 := Scalar.muli v20 c4_i32_14
  let c2_i32_15 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let v38 : BitVec 32 := Scalar.addi v3 v37
  let c2_i32_12 : BitVec 32 := 2#32
  let v39 : BitVec 32 := Scalar.remsi v38 c2_i32_12
  let v40 : BitVec 32 := Scalar.subi c1_i32_13 v39
  let v44 : BitVec 32 := Scalar.addi v40 v37
  let c2_i32_16 : BitVec 32 := 2#32
  let v45 : BitVec 32 := Scalar.remsi v44 c2_i32_16
  let v46 : BitVec 32 := Scalar.addi v43 v45
  let c1_i32_504 : BitVec 32 := 1#32
  let v810 : BitVec 32 := Scalar.muli v46 c1_i32_504
  let v811 : BitVec 32 := Scalar.addi c0_i32_505 v810
  v811.toNat
def k0_off14 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v70 : BitVec 32 := Scalar.subi c1_i32_31 v20
  let c4_i32_32 : BitVec 32 := 4#32
  let v71 : BitVec 32 := Scalar.muli v70 c4_i32_32
  let c2_i32_33 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v72 : BitVec 32 := Scalar.muli c2_i32_33 v37
  let v73 : BitVec 32 := Scalar.addi v71 v72
  let c1_i32_30 : BitVec 32 := 1#32
  let v38 : BitVec 32 := Scalar.addi v3 v37
  let c2_i32_12 : BitVec 32 := 2#32
  let v39 : BitVec 32 := Scalar.remsi v38 c2_i32_12
  let v69 : BitVec 32 := Scalar.subi c1_i32_30 v39
  let v74 : BitVec 32 := Scalar.addi v69 v37
  let c2_i32_34 : BitVec 32 := 2#32
  let v75 : BitVec 32 := Scalar.remsi v74 c2_i32_34
  let v76 : BitVec 32 := Scalar.addi v73 v75
  let c1_i32_530 : BitVec 32 := 1#32
  let c0_i32_531 : BitVec 32 := 0#32
  let c256_i32 : BitVec 32 := 256#32
  ![v76.toNat, 1, 0, 256]
def k0_dev18 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_528 : BitVec 32 := 1#32
  let v828 : BitVec 32 := Scalar.muli v53 c1_i32_528
  let v829 : BitVec 32 := Scalar.addi c0_i32_529 v828
  v829.toNat
def k0_off15 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v70 : BitVec 32 := Scalar.subi c1_i32_31 v20
  let c4_i32_32 : BitVec 32 := 4#32
  let v71 : BitVec 32 := Scalar.muli v70 c4_i32_32
  let c2_i32_33 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v72 : BitVec 32 := Scalar.muli c2_i32_33 v37
  let v73 : BitVec 32 := Scalar.addi v71 v72
  let c1_i32_30 : BitVec 32 := 1#32
  let v38 : BitVec 32 := Scalar.addi v3 v37
  let c2_i32_12 : BitVec 32 := 2#32
  let v39 : BitVec 32 := Scalar.remsi v38 c2_i32_12
  let v69 : BitVec 32 := Scalar.subi c1_i32_30 v39
  let v74 : BitVec 32 := Scalar.addi v69 v37
  let c2_i32_34 : BitVec 32 := 2#32
  let v75 : BitVec 32 := Scalar.remsi v74 c2_i32_34
  let v76 : BitVec 32 := Scalar.addi v73 v75
  let c2_i32_553 : BitVec 32 := 2#32
  let c0_i32_554 : BitVec 32 := 0#32
  let c0_i32_555 : BitVec 32 := 0#32
  ![v76.toNat, 2, 0, 0]
def k0_dev19 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v48 : BitVec 32 := Scalar.muli v20 c4_i32_18
  let c2_i32_19 : BitVec 32 := 2#32
  let c1_i32_17 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let v49 : BitVec 32 := Scalar.muli c2_i32_19 v47
  let v50 : BitVec 32 := Scalar.addi v48 v49
  let v38 : BitVec 32 := Scalar.addi v3 v37
  let c2_i32_12 : BitVec 32 := 2#32
  let v39 : BitVec 32 := Scalar.remsi v38 c2_i32_12
  let v51 : BitVec 32 := Scalar.addi v39 v47
  let c2_i32_20 : BitVec 32 := 2#32
  let v52 : BitVec 32 := Scalar.remsi v51 c2_i32_20
  let v53 : BitVec 32 := Scalar.addi v50 v52
  let c1_i32_551 : BitVec 32 := 1#32
  let v846 : BitVec 32 := Scalar.muli v53 c1_i32_551
  let v847 : BitVec 32 := Scalar.addi c0_i32_552 v846
  v847.toNat
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_27 : BitVec 32 := 4#32
  let v63 : BitVec 32 := Scalar.muli v20 c4_i32_27
  let c2_i32_28 : BitVec 32 := 2#32
  let c1_i32_26 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v62 : BitVec 32 := Scalar.subi c1_i32_26 v37
  let v64 : BitVec 32 := Scalar.muli c2_i32_28 v62
  let v65 : BitVec 32 := Scalar.addi v63 v64
  let c1_i32_25 : BitVec 32 := 1#32
  let v38 : BitVec 32 := Scalar.addi v3 v37
  let c2_i32_12 : BitVec 32 := 2#32
  let v39 : BitVec 32 := Scalar.remsi v38 c2_i32_12
  let v61 : BitVec 32 := Scalar.subi c1_i32_25 v39
  let v66 : BitVec 32 := Scalar.addi v61 v62
  let c2_i32_29 : BitVec 32 := 2#32
  let v67 : BitVec 32 := Scalar.remsi v66 c2_i32_29
  let v68 : BitVec 32 := Scalar.addi v65 v67
  let c3_i32_589 : BitVec 32 := 3#32
  let c0_i32_590 : BitVec 32 := 0#32
  let c0_i32_591 : BitVec 32 := 0#32
  ![v68.toNat, 3, 0, 0]
def k0_dev20 (d0 : Dev nD) : Nat :=
  let c0_i32_588 : BitVec 32 := 0#32
  let c1_i32_21 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v54 : BitVec 32 := Scalar.subi c1_i32_21 v20
  let c4_i32_22 : BitVec 32 := 4#32
  let v55 : BitVec 32 := Scalar.muli v54 c4_i32_22
  let c2_i32_23 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v56 : BitVec 32 := Scalar.muli c2_i32_23 v37
  let v57 : BitVec 32 := Scalar.addi v55 v56
  let v38 : BitVec 32 := Scalar.addi v3 v37
  let c2_i32_12 : BitVec 32 := 2#32
  let v39 : BitVec 32 := Scalar.remsi v38 c2_i32_12
  let v58 : BitVec 32 := Scalar.addi v39 v37
  let c2_i32_24 : BitVec 32 := 2#32
  let v59 : BitVec 32 := Scalar.remsi v58 c2_i32_24
  let v60 : BitVec 32 := Scalar.addi v57 v59
  let c1_i32_587 : BitVec 32 := 1#32
  let v872 : BitVec 32 := Scalar.muli v60 c1_i32_587
  let v873 : BitVec 32 := Scalar.addi c0_i32_588 v872
  v873.toNat
def k0_off17 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_27 : BitVec 32 := 4#32
  let v63 : BitVec 32 := Scalar.muli v20 c4_i32_27
  let c2_i32_28 : BitVec 32 := 2#32
  let c1_i32_26 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v62 : BitVec 32 := Scalar.subi c1_i32_26 v37
  let v64 : BitVec 32 := Scalar.muli c2_i32_28 v62
  let v65 : BitVec 32 := Scalar.addi v63 v64
  let c1_i32_25 : BitVec 32 := 1#32
  let v38 : BitVec 32 := Scalar.addi v3 v37
  let c2_i32_12 : BitVec 32 := 2#32
  let v39 : BitVec 32 := Scalar.remsi v38 c2_i32_12
  let v61 : BitVec 32 := Scalar.subi c1_i32_25 v39
  let v66 : BitVec 32 := Scalar.addi v61 v62
  let c2_i32_29 : BitVec 32 := 2#32
  let v67 : BitVec 32 := Scalar.remsi v66 c2_i32_29
  let v68 : BitVec 32 := Scalar.addi v65 v67
  let v890 : Index := Scalar.indexCast v68
  let c0_607 : Index := 0#32
  let c0_608 : Index := 0#32
  let c0_609 : Index := 0#32
  ![v890.toNat, 0, 0, 0]
def k0_off18 (d0 : Dev nD) : Fin 4 → Nat :=
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v78 : BitVec 32 := Scalar.subi c1_i32_36 v20
  let c4_i32_37 : BitVec 32 := 4#32
  let v79 : BitVec 32 := Scalar.muli v78 c4_i32_37
  let c2_i32_38 : BitVec 32 := 2#32
  let c1_i32_35 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v77 : BitVec 32 := Scalar.subi c1_i32_35 v37
  let v80 : BitVec 32 := Scalar.muli c2_i32_38 v77
  let v81 : BitVec 32 := Scalar.addi v79 v80
  let v38 : BitVec 32 := Scalar.addi v3 v37
  let c2_i32_12 : BitVec 32 := 2#32
  let v39 : BitVec 32 := Scalar.remsi v38 c2_i32_12
  let v82 : BitVec 32 := Scalar.addi v39 v77
  let c2_i32_39 : BitVec 32 := 2#32
  let v83 : BitVec 32 := Scalar.remsi v82 c2_i32_39
  let v84 : BitVec 32 := Scalar.addi v81 v83
  let v901 : Index := Scalar.indexCast v84
  let c0_618 : Index := 0#32
  let c0_619 : Index := 0#32
  let c0_620 : Index := 0#32
  ![v901.toNat, 0, 0, 0]
def k0_off19 (d0 : Dev nD) : Fin 4 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v70 : BitVec 32 := Scalar.subi c1_i32_31 v20
  let c4_i32_32 : BitVec 32 := 4#32
  let v71 : BitVec 32 := Scalar.muli v70 c4_i32_32
  let c2_i32_33 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v72 : BitVec 32 := Scalar.muli c2_i32_33 v37
  let v73 : BitVec 32 := Scalar.addi v71 v72
  let c1_i32_30 : BitVec 32 := 1#32
  let v38 : BitVec 32 := Scalar.addi v3 v37
  let c2_i32_12 : BitVec 32 := 2#32
  let v39 : BitVec 32 := Scalar.remsi v38 c2_i32_12
  let v69 : BitVec 32 := Scalar.subi c1_i32_30 v39
  let v74 : BitVec 32 := Scalar.addi v69 v37
  let c2_i32_34 : BitVec 32 := 2#32
  let v75 : BitVec 32 := Scalar.remsi v74 c2_i32_34
  let v76 : BitVec 32 := Scalar.addi v73 v75
  let v912 : Index := Scalar.indexCast v76
  let c0_629 : Index := 0#32
  let c0_630 : Index := 0#32
  let c0_631 : Index := 0#32
  ![v912.toNat, 0, 0, 0]
def k0_off20 (d0 : Dev nD) : Fin 4 → Nat :=
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v87 : BitVec 32 := Scalar.subi c1_i32_42 v20
  let c4_i32_43 : BitVec 32 := 4#32
  let v88 : BitVec 32 := Scalar.muli v87 c4_i32_43
  let c2_i32_44 : BitVec 32 := 2#32
  let c1_i32_41 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v86 : BitVec 32 := Scalar.subi c1_i32_41 v37
  let v89 : BitVec 32 := Scalar.muli c2_i32_44 v86
  let v90 : BitVec 32 := Scalar.addi v88 v89
  let c1_i32_40 : BitVec 32 := 1#32
  let v38 : BitVec 32 := Scalar.addi v3 v37
  let c2_i32_12 : BitVec 32 := 2#32
  let v39 : BitVec 32 := Scalar.remsi v38 c2_i32_12
  let v85 : BitVec 32 := Scalar.subi c1_i32_40 v39
  let v91 : BitVec 32 := Scalar.addi v85 v86
  let c2_i32_45 : BitVec 32 := 2#32
  let v92 : BitVec 32 := Scalar.remsi v91 c2_i32_45
  let v93 : BitVec 32 := Scalar.addi v90 v92
  let v963 : Index := Scalar.indexCast v93
  let c0_700 : Index := 0#32
  let c0_701 : Index := 0#32
  let c0_702 : Index := 0#32
  ![v963.toNat, 0, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x256 : Shape := ⟨2, ![4096, 256]⟩
abbrev S256x32 : Shape := ⟨2, ![256, 32]⟩
abbrev S4096x2 : Shape := ⟨2, ![4096, 2]⟩
abbrev S32x256x512 : Shape := ⟨3, ![32, 256, 512]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S32 : Shape := ⟨1, ![32]⟩
abbrev S1x1x32 : Shape := ⟨3, ![1, 1, 32]⟩
abbrev S4096x2x32 : Shape := ⟨3, ![4096, 2, 32]⟩
abbrev S4096x1x32 : Shape := ⟨3, ![4096, 1, 32]⟩
abbrev S4096x32x512 : Shape := ⟨3, ![4096, 32, 512]⟩
abbrev S4096x2x32x1 : Shape := ⟨4, ![4096, 2, 32, 1]⟩
abbrev S4096x1x32x512 : Shape := ⟨4, ![4096, 1, 32, 512]⟩
abbrev S4096x2x32x512 : Shape := ⟨4, ![4096, 2, 32, 512]⟩
abbrev S4096x2x512 : Shape := ⟨3, ![4096, 2, 512]⟩
abbrev S4096x512 : Shape := ⟨2, ![4096, 512]⟩

abbrev nBuf : Space → Nat
  | .hbm => 46
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x32, .f32⟩
  | .hbm, ⟨2, _⟩ => ⟨S4096x2, .i32⟩
  | .hbm, ⟨3, _⟩ => ⟨S32x256x512, .f32⟩
  | .hbm, ⟨4, _⟩ => ⟨S4096x32, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x32, .f32⟩
  | .hbm, ⟨9, _⟩ => ⟨S4096x32, .f32⟩
  | .hbm, ⟨10, _⟩ => ⟨S4096x32, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x32, .f32⟩
  | .hbm, ⟨15, _⟩ => ⟨S4096x32, .f32⟩
  | .hbm, ⟨16, _⟩ => ⟨S4096x2x1, .i32⟩
  | .hbm, ⟨17, _⟩ => ⟨S32, .i32⟩
  | .hbm, ⟨18, _⟩ => ⟨S1x1x32, .i32⟩
  | .hbm, ⟨19, _⟩ => ⟨S4096x2x32, .i32⟩
  | .hbm, ⟨20, _⟩ => ⟨S4096x2x32, .i32⟩
  | .hbm, ⟨21, _⟩ => ⟨S4096x2x32, .i1⟩
  | .hbm, ⟨22, _⟩ => ⟨S4096x2x32, .f32⟩
  | .hbm, ⟨23, _⟩ => ⟨S4096x1x32, .f32⟩
  | .hbm, ⟨24, _⟩ => ⟨S4096x2x32, .f32⟩
  | .hbm, ⟨25, _⟩ => ⟨S4096x2x32, .f32⟩
  | .hbm, ⟨26, _⟩ => ⟨S_, .f32⟩
  | .hbm, ⟨27, _⟩ => ⟨S4096x2, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x2, .f32⟩
  | .hbm, ⟨32, _⟩ => ⟨S4096x2, .f32⟩
  | .hbm, ⟨33, _⟩ => ⟨S4096x32x512, .f32⟩
  | .hbm, ⟨34, _⟩ => ⟨S4096x2x32x1, .f32⟩
  | .hbm, ⟨35, _⟩ => ⟨S4096x1x32x512, .f32⟩
  | .hbm, ⟨36, _⟩ => ⟨S4096x2x32x512, .f32⟩
  | .hbm, ⟨37, _⟩ => ⟨S4096x2x32x512, .f32⟩
  | .hbm, ⟨38, _⟩ => ⟨S4096x2x32x512, .f32⟩
  | .hbm, ⟨39, _⟩ => ⟨S_, .f32⟩
  | .hbm, ⟨40, _⟩ => ⟨S4096x2x512, .f32⟩
  | .hbm, ⟨41, _⟩ => ⟨S4096x2x1, .f32⟩
  | .hbm, ⟨42, _⟩ => ⟨S4096x2x512, .f32⟩
  | .hbm, ⟨43, _⟩ => ⟨S4096x2x512, .f32⟩
  | .hbm, ⟨44, _⟩ => ⟨S_, .f32⟩
  | .hbm, ⟨45, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== WeightedIdeal.lean ====
abbrev S4096x256 : Shape := ⟨2, ![4096, 256]⟩
abbrev S256x32 : Shape := ⟨2, ![256, 32]⟩
abbrev S4096x2 : Shape := ⟨2, ![4096, 2]⟩
abbrev S32x256x512 : Shape := ⟨3, ![32, 256, 512]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S4096x2x1 : Shape := ⟨3, ![4096, 2, 1]⟩
abbrev S32 : Shape := ⟨1, ![32]⟩
abbrev S1x1x32 : Shape := ⟨3, ![1, 1, 32]⟩
abbrev S4096x2x32 : Shape := ⟨3, ![4096, 2, 32]⟩
abbrev S4096x1x32 : Shape := ⟨3, ![4096, 1, 32]⟩
abbrev S4096x1x256 : Shape := ⟨3, ![4096, 1, 256]⟩
abbrev S4096x32x1 : Shape := ⟨3, ![4096, 32, 1]⟩
abbrev S4096x32x256 : Shape := ⟨3, ![4096, 32, 256]⟩
abbrev S4096x512 : Shape := ⟨2, ![4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x32, .f32⟩
  | .hbm, ⟨2, _⟩ => ⟨S4096x2, .i32⟩
  | .hbm, ⟨3, _⟩ => ⟨S32x256x512, .f32⟩
  | .hbm, ⟨4, _⟩ => ⟨S4096x32, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x32, .f32⟩
  | .hbm, ⟨9, _⟩ => ⟨S4096x32, .f32⟩
  | .hbm, ⟨10, _⟩ => ⟨S4096x32, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x32, .f32⟩
  | .hbm, ⟨15, _⟩ => ⟨S4096x32, .f32⟩
  | .hbm, ⟨16, _⟩ => ⟨S4096x2x1, .i32⟩
  | .hbm, ⟨17, _⟩ => ⟨S32, .i32⟩
  | .hbm, ⟨18, _⟩ => ⟨S1x1x32, .i32⟩
  | .hbm, ⟨19, _⟩ => ⟨S4096x2x32, .i32⟩
  | .hbm, ⟨20, _⟩ => ⟨S4096x2x32, .i32⟩
  | .hbm, ⟨21, _⟩ => ⟨S4096x2x32, .i1⟩
  | .hbm, ⟨22, _⟩ => ⟨S4096x2x32, .f32⟩
  | .hbm, ⟨23, _⟩ => ⟨S4096x1x32, .f32⟩
  | .hbm, ⟨24, _⟩ => ⟨S4096x2x32, .f32⟩
  | .hbm, ⟨25, _⟩ => ⟨S4096x2x32, .f32⟩
  | .hbm, ⟨26, _⟩ => ⟨S_, .f32⟩
  | .hbm, ⟨27, _⟩ => ⟨S4096x2, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S4096x2, .f32⟩
  | .hbm, ⟨32, _⟩ => ⟨S4096x2, .f32⟩
  | .hbm, ⟨33, _⟩ => ⟨S4096x2x1, .f32⟩
  | .hbm, ⟨34, _⟩ => ⟨S4096x2x32, .f32⟩
  | .hbm, ⟨35, _⟩ => ⟨S4096x2x32, .f32⟩
  | .hbm, ⟨36, _⟩ => ⟨S_, .f32⟩
  | .hbm, ⟨37, _⟩ => ⟨S4096x32, .f32⟩
  | .hbm, ⟨38, _⟩ => ⟨S4096x1x256, .f32⟩
  | .hbm, ⟨39, _⟩ => ⟨S4096x32x1, .f32⟩
  | .hbm, ⟨40, _⟩ => ⟨S4096x32x256, .f32⟩
  | .hbm, ⟨41, _⟩ => ⟨S4096x32x256, .f32⟩
  | .hbm, ⟨42, _⟩ => ⟨S4096x32x256, .f32⟩
  | .hbm, ⟨43, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Proof.Geom.lean ====
/-
# The cube of devices, the pieces of the gathered buffer, and the cells

Names for what the kernel moves: the neighbours of a device, the seventeen transfers, the pieces of the gathered
buffer each one carries, and the semaphore cells they complete on.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The cube -/

set_option backward.proofsInPublic true in
/-- The device reached from `c` by crossing the links in the mask `k`: 1 crosses x, 3 crosses y, 4 crosses z. -/
def fl (k : Fin 8) (c : Dev nD) : Dev nD := ⟨(c.val ^^^ k.val) % 8, Nat.mod_lt _ (by decide)⟩

theorem fl_fl (k : Fin 8) (c : Dev nD) : fl k (fl k c) = c := by revert k c; decide

/-- The mask of a link. -/
def mk (l : Fin 3) : Fin 8 := ![1, 3, 4] l
/-- The neighbour over link `l`. -/
def nbr (l : Fin 3) (c : Dev nD) : Dev nD := fl (mk l) c
theorem nbr_nbr (l : Fin 3) (c : Dev nD) : nbr l (nbr l c) = c := fl_fl _ c

/-- The neighbour over a link, as a permutation of the devices. -/
def nbrEquiv (l : Fin 3) : Dev nD ≃ Dev nD := ⟨nbr l, nbr l, nbr_nbr l, nbr_nbr l⟩

/-! ## The transfers -/

/-- The link transfer `i` crosses: transfer `i` completes on row `i / 3`, column `i % 3` of the semaphore arrays. -/
def lk (i : Fin 17) : Fin 3 := ⟨i.val % 3, Nat.mod_lt _ (by decide)⟩
/-- The device transfer `i` is addressed to. -/
def peer (i : Fin 17) (c : Dev nD) : Dev nD := nbr (lk i) c
theorem peer_peer (i : Fin 17) (c : Dev nD) : peer i (peer i c) = c := nbr_nbr _ c
def peerEquiv (i : Fin 17) : Dev nD ≃ Dev nD := nbrEquiv (lk i)

/-- The mask of the owner of what a device sends in transfer `i`. -/
def sm (i : Fin 17) : Fin 8 := ![0, 0, 0, 0, 0, 0, 3, 4, 1, 3, 4, 1, 7, 5, 2, 7, 5] i
/-- The mask of the owner of what a device receives in transfer `i`. -/
def rm (i : Fin 17) : Fin 8 := ![1, 3, 4, 1, 3, 4, 2, 7, 5, 2, 7, 5, 6, 6, 6, 6, 6] i
/-- The parts of the owner's block transfer `i` carries: parts 0, 3, 4 are experts 0, 2, 3 and parts 1, 2 are the
    lower and upper columns of expert 1. -/
def wa (i : Fin 17) : Finset (Fin 5) :=
  ![{0, 1, 2}, {0, 1, 2}, {0, 1, 2}, {3, 4}, {3, 4}, {3, 4}, {0, 1, 2}, {0, 1, 2}, {0, 1, 2}, {3, 4}, {3, 4}, {3, 4},
    {0}, {2}, {4}, {1}, {3}] i

/-! ## Pieces of the gathered buffer -/

/-- An owner and a part of its block. -/
abbrev Pc : Type := Fin 8 × Fin 5

/-- The pieces in the parts `A` of the block of `c`'s relative at mask `k`. -/
def sl (k : Fin 8) (A : Finset (Fin 5)) (c : Dev nD) : Finset Pc := {(fl k c : Fin 8)} ×ˢ A

/-- What a device sends in transfer `i`, and what it receives. -/
def wS (i : Fin 17) (c : Dev nD) : Finset Pc := sl (sm i) (wa i) c
def rS (i : Fin 17) (c : Dev nD) : Finset Pc := sl (rm i) (wa i) c
theorem rS_peer (i : Fin 17) (c : Dev nD) : rS i (peer i c) = wS i c := by revert i c; decide

/-- Everything a device receives over link `l`. -/
def LS (l : Fin 3) (c : Dev nD) : Finset Pc := Finset.univ.biUnion fun i : Fin 17 => if lk i = l then rS i c else ∅

/-- The part an element of the gathered buffer lies in. -/
def part (e : Fin 4) (h : Fin 512) : Fin 5 :=
  if e.val = 0 then 0 else if e.val = 1 then (if h.val < 256 then 1 else 2) else if e.val = 2 then 3 else 4

/-- The piece an element of the gathered buffer lies in. -/
def pc (j : S8x4x256x512.Idx) : Pc := ((j 0 : Fin 8), part (j 1) (j 3))

/-- The elements of the gathered buffer in the pieces `S`. -/
def reg (S : Finset Pc) : Finset S8x4x256x512.Idx := Finset.univ.filter fun j => pc j ∈ S

theorem mem_reg {S : Finset Pc} {j : S8x4x256x512.Idx} : j ∈ reg S ↔ pc j ∈ S := by
  simp [reg]
theorem reg_univ : reg Finset.univ = Finset.univ := by ext j; simp [mem_reg]
theorem reg_union (S T : Finset Pc) : reg (S ∪ T) = reg S ∪ reg T := by ext j; simp [mem_reg]
theorem reg_disjoint {S T : Finset Pc} (h : Disjoint S T) : Disjoint (reg S) (reg T) :=
  Finset.disjoint_left.mpr fun j hS hT => Finset.disjoint_left.mp h (mem_reg.mp hS) (mem_reg.mp hT)

theorem mem_sl {k : Fin 8} {A : Finset (Fin 5)} {c : Dev nD} {p : Pc} : p ∈ sl k A c ↔ p.1 = fl k c ∧ p.2 ∈ A := by
  unfold sl; rw [Finset.mem_product, Finset.mem_singleton]

theorem part_mem_all (e : Fin 4) (h : Fin 512) : part e h ∈ (Finset.univ : Finset (Fin 5)) := Finset.mem_univ _

theorem part_eq (e : Fin 4) (h : Fin 512) : (part e h = 0 ↔ e.val = 0) ∧ (part e h = 1 ↔ (e.val = 1 ∧ h.val < 256))
    ∧ (part e h = 2 ↔ (e.val = 1 ∧ 256 ≤ h.val)) ∧ (part e h = 3 ↔ e.val = 2) ∧ (part e h = 4 ↔ e.val = 3) := by
  unfold part
  have := e.isLt
  refine ⟨?_, ?_, ?_, ?_, ?_⟩ <;> (split_ifs <;> constructor <;> intro h' <;> first | omega | (exact absurd h' (by decide)) | rfl | skip)

/-- A unit-stride rectangle of the gathered buffer at owner `o`, experts from `e0`, columns from `c0`. -/
theorem rect_eq_reg {off size : Fin 4 → Nat} {inb : ∀ a, off a + size a ≤ S8x4x256x512.size a} (k : Fin 8) (c : Dev nD) (A : Finset (Fin 5))
    (e0 ne c0 nc : Nat) (hoff : off = ![(fl k c).val, e0, 0, c0]) (hsize : size = ![1, ne, 256, nc])
    (hA : ∀ (e : Fin 4) (h : Fin 512), part e h ∈ A ↔ (e0 ≤ e.val ∧ e.val < e0 + ne ∧ c0 ≤ h.val ∧ h.val < c0 + nc)) :
    (Rect.unit (s := S8x4x256x512) off size inb).set = reg (sl k A c) := by
  subst hoff hsize
  ext j
  rw [Rect.mem_set_unit, mem_reg, mem_sl]
  have e2 : ((pc j).2 ∈ A) ↔ (e0 ≤ (j 1).val ∧ (j 1).val < e0 + ne ∧ c0 ≤ (j 3).val ∧ (j 3).val < c0 + nc) := hA (j 1) (j 3)
  rw [e2, Fin.forall_fin_succ, Fin.forall_fin_succ, Fin.forall_fin_succ, Fin.forall_fin_one]
  have h2 : (j 2).val < 256 := (j 2).isLt
  constructor
  · rintro ⟨h0, h1, -, h3⟩
    have h0' : (fl k c).val ≤ (j 0).val ∧ (j 0).val < (fl k c).val + 1 := h0
    have h1' : e0 ≤ (j 1).val ∧ (j 1).val < e0 + ne := h1
    have h3' : c0 ≤ (j 3).val ∧ (j 3).val < c0 + nc := h3
    refine ⟨Fin.ext (by show (j 0).val = (fl k c).val; omega), h1'.1, h1'.2, h3'.1, h3'.2⟩
  · rintro ⟨h0, h1, h2', h3, h4⟩
    have h0' : (j 0).val = (fl k c).val := congrArg Fin.val h0
    refine ⟨?_, ?_, ?_, ?_⟩
    · show (fl k c).val ≤ (j 0).val ∧ (j 0).val < (fl k c).val + 1; omega
    · show e0 ≤ (j 1).val ∧ (j 1).val < e0 + ne; exact ⟨h1, h2'⟩
    · show 0 ≤ (j 2).val ∧ (j 2).val < 0 + 256; omega
    · show c0 ≤ (j 3).val ∧ (j 3).val < c0 + nc; exact ⟨h3, h4⟩

theorem hA_lo (e : Fin 4) (h : Fin 512) : part e h ∈ ({0, 1, 2} : Finset (Fin 5)) ↔ (0 ≤ e.val ∧ e.val < 0 + 2 ∧ 0 ≤ h.val ∧ h.val < 0 + 512) := by
  have := part_eq e h; have := e.isLt; have := h.isLt
  simp only [Finset.mem_insert, Finset.mem_singleton]; omega
theorem hA_hi (e : Fin 4) (h : Fin 512) : part e h ∈ ({3, 4} : Finset (Fin 5)) ↔ (2 ≤ e.val ∧ e.val < 2 + 2 ∧ 0 ≤ h.val ∧ h.val < 0 + 512) := by
  have := part_eq e h; have := e.isLt; have := h.isLt
  simp only [Finset.mem_insert, Finset.mem_singleton]; omega
theorem hA_0 (e : Fin 4) (h : Fin 512) : part e h ∈ ({0} : Finset (Fin 5)) ↔ (0 ≤ e.val ∧ e.val < 0 + 1 ∧ 0 ≤ h.val ∧ h.val < 0 + 512) := by
  have := part_eq e h; have := e.isLt; have := h.isLt
  simp only [Finset.mem_singleton]; omega
theorem hA_1 (e : Fin 4) (h : Fin 512) : part e h ∈ ({1} : Finset (Fin 5)) ↔ (1 ≤ e.val ∧ e.val < 1 + 1 ∧ 0 ≤ h.val ∧ h.val < 0 + 256) := by
  have := part_eq e h; have := e.isLt; have := h.isLt
  simp only [Finset.mem_singleton]; omega
theorem hA_2 (e : Fin 4) (h : Fin 512) : part e h ∈ ({2} : Finset (Fin 5)) ↔ (1 ≤ e.val ∧ e.val < 1 + 1 ∧ 256 ≤ h.val ∧ h.val < 256 + 256) := by
  have := part_eq e h; have := e.isLt; have := h.isLt
  simp only [Finset.mem_singleton]; omega
theorem hA_3 (e : Fin 4) (h : Fin 512) : part e h ∈ ({3} : Finset (Fin 5)) ↔ (2 ≤ e.val ∧ e.val < 2 + 1 ∧ 0 ≤ h.val ∧ h.val < 0 + 512) := by
  have := part_eq e h; have := e.isLt; have := h.isLt
  simp only [Finset.mem_singleton]; omega
theorem hA_4 (e : Fin 4) (h : Fin 512) : part e h ∈ ({4} : Finset (Fin 5)) ↔ (3 ≤ e.val ∧ e.val < 3 + 1 ∧ 0 ≤ h.val ∧ h.val < 0 + 512) := by
  have := part_eq e h; have := e.isLt; have := h.isLt
  simp only [Finset.mem_singleton]; omega
theorem hA_all (e : Fin 4) (h : Fin 512) : part e h ∈ (Finset.univ : Finset (Fin 5)) ↔ (0 ≤ e.val ∧ e.val < 0 + 4 ∧ 0 ≤ h.val ∧ h.val < 0 + 512) := by
  have := e.isLt; have := h.isLt
  simp only [Finset.mem_univ, true_iff]; omega

/-! ## The printed offsets and devices -/

theorem dev_eq1 (c : Dev nD) : (⟨k0_dev1 c, k0_dev1_lt c⟩ : Dev nD) = nbr 0 c := by revert c; decide +kernel
theorem dev_eq2 (c : Dev nD) : (⟨k0_dev2 c, k0_dev2_lt c⟩ : Dev nD) = nbr 1 c := by revert c; decide +kernel
theorem dev_eq3 (c : Dev nD) : (⟨k0_dev3 c, k0_dev3_lt c⟩ : Dev nD) = nbr 2 c := by revert c; decide +kernel
theorem dev_eq4 (c : Dev nD) : (⟨k0_dev4 c, k0_dev4_lt c⟩ : Dev nD) = peer 0 c := by revert c; decide +kernel
theorem dev_eq5 (c : Dev nD) : (⟨k0_dev5 c, k0_dev5_lt c⟩ : Dev nD) = peer 3 c := by revert c; decide +kernel
theorem dev_eq6 (c : Dev nD) : (⟨k0_dev6 c, k0_dev6_lt c⟩ : Dev nD) = peer 1 c := by revert c; decide +kernel
theorem dev_eq7 (c : Dev nD) : (⟨k0_dev7 c, k0_dev7_lt c⟩ : Dev nD) = peer 4 c := by revert c; decide +kernel
theorem dev_eq8 (c : Dev nD) : (⟨k0_dev8 c, k0_dev8_lt c⟩ : Dev nD) = peer 2 c := by revert c; decide +kernel
theorem dev_eq9 (c : Dev nD) : (⟨k0_dev9 c, k0_dev9_lt c⟩ : Dev nD) = peer 5 c := by revert c; decide +kernel
theorem dev_eq10 (c : Dev nD) : (⟨k0_dev10 c, k0_dev10_lt c⟩ : Dev nD) = peer 6 c := by revert c; decide +kernel
theorem dev_eq11 (c : Dev nD) : (⟨k0_dev11 c, k0_dev11_lt c⟩ : Dev nD) = peer 7 c := by revert c; decide +kernel
theorem dev_eq12 (c : Dev nD) : (⟨k0_dev12 c, k0_dev12_lt c⟩ : Dev nD) = peer 8 c := by revert c; decide +kernel
theorem dev_eq13 (c : Dev nD) : (⟨k0_dev13 c, k0_dev13_lt c⟩ : Dev nD) = peer 9 c := by revert c; decide +kernel
theorem dev_eq14 (c : Dev nD) : (⟨k0_dev14 c, k0_dev14_lt c⟩ : Dev nD) = peer 10 c := by revert c; decide +kernel
theorem dev_eq15 (c : Dev nD) : (⟨k0_dev15 c, k0_dev15_lt c⟩ : Dev nD) = peer 11 c := by revert c; decide +kernel
theorem dev_eq16 (c : Dev nD) : (⟨k0_dev16 c, k0_dev16_lt c⟩ : Dev nD) = peer 12 c := by revert c; decide +kernel
theorem dev_eq17 (c : Dev nD) : (⟨k0_dev17 c, k0_dev17_lt c⟩ : Dev nD) = peer 15 c := by revert c; decide +kernel
theorem dev_eq18 (c : Dev nD) : (⟨k0_dev18 c, k0_dev18_lt c⟩ : Dev nD) = peer 13 c := by revert c; decide +kernel
theorem dev_eq19 (c : Dev nD) : (⟨k0_dev19 c, k0_dev19_lt c⟩ : Dev nD) = peer 16 c := by revert c; decide +kernel
theorem dev_eq20 (c : Dev nD) : (⟨k0_dev20 c, k0_dev20_lt c⟩ : Dev nD) = peer 14 c := by revert c; decide +kernel

theorem off_eq1 (c : Dev nD) : k0_off1 c = ![(fl 0 c).val, 0, 0, 0] := by revert c; decide +kernel
theorem off_eq2 (c : Dev nD) : k0_off2 c = ![(fl 0 c).val, 2, 0, 0] := by revert c; decide +kernel
theorem off_eq3 (c : Dev nD) : k0_off3 c = ![(fl 3 c).val, 0, 0, 0] := by revert c; decide +kernel
theorem off_eq4 (c : Dev nD) : k0_off4 c = ![(fl 4 c).val, 0, 0, 0] := by revert c; decide +kernel
theorem off_eq5 (c : Dev nD) : k0_off5 c = ![(fl 1 c).val, 0, 0, 0] := by revert c; decide +kernel
theorem off_eq6 (c : Dev nD) : k0_off6 c = ![(fl 3 c).val, 2, 0, 0] := by revert c; decide +kernel
theorem off_eq7 (c : Dev nD) : k0_off7 c = ![(fl 4 c).val, 2, 0, 0] := by revert c; decide +kernel
theorem off_eq8 (c : Dev nD) : k0_off8 c = ![(fl 1 c).val, 2, 0, 0] := by revert c; decide +kernel
theorem off_eq9 (c : Dev nD) : k0_off9 c = ![(fl 1 c).val, 0, 0, 0] := by revert c; decide +kernel
theorem off_eq10 (c : Dev nD) : k0_off10 c = ![(fl 3 c).val, 0, 0, 0] := by revert c; decide +kernel
theorem off_eq11 (c : Dev nD) : k0_off11 c = ![(fl 4 c).val, 0, 0, 0] := by revert c; decide +kernel
theorem off_eq12 (c : Dev nD) : k0_off12 c = ![(fl 7 c).val, 0, 0, 0] := by revert c; decide +kernel
theorem off_eq13 (c : Dev nD) : k0_off13 c = ![(fl 7 c).val, 1, 0, 0] := by revert c; decide +kernel
theorem off_eq14 (c : Dev nD) : k0_off14 c = ![(fl 5 c).val, 1, 0, 256] := by revert c; decide +kernel
theorem off_eq15 (c : Dev nD) : k0_off15 c = ![(fl 5 c).val, 2, 0, 0] := by revert c; decide +kernel
theorem off_eq16 (c : Dev nD) : k0_off16 c = ![(fl 2 c).val, 3, 0, 0] := by revert c; decide +kernel
theorem off_eq17 (c : Dev nD) : k0_off17 c = ![(fl 2 c).val, 0, 0, 0] := by revert c; decide +kernel
theorem off_eq18 (c : Dev nD) : k0_off18 c = ![(fl 7 c).val, 0, 0, 0] := by revert c; decide +kernel
theorem off_eq19 (c : Dev nD) : k0_off19 c = ![(fl 5 c).val, 0, 0, 0] := by revert c; decide +kernel
theorem off_eq20 (c : Dev nD) : k0_off20 c = ![(fl 6 c).val, 0, 0, 0] := by revert c; decide +kernel

/-! ## The semaphores and cells -/

/-- The barrier semaphore; the send and receive semaphores of transfer `i`. -/
abbrev barS : Sem sig := (SemArray.scalar (sig.barrier 0 rfl) : Sems sig S_).sem
set_option backward.proofsInPublic true in
def sendS (i : Fin 17) : DmaSem sig := ⟨5 + i.val, by have := i.isLt; show _ < 41; omega⟩
set_option backward.proofsInPublic true in
def recvS (i : Fin 17) : DmaSem sig := ⟨23 + i.val, by have := i.isLt; show _ < 41; omega⟩

abbrev barCell (c : Dev nD) : GSem nD τ sig := ((c : Thread nD τ), .reg barS)
abbrev sendCell (i : Fin 17) (c : Dev nD) : GSem nD τ sig := ((c : Thread nD τ), .dma (sendS i))
abbrev recvCell (i : Fin 17) (c : Dev nD) : GSem nD τ sig := ((c : Thread nD τ), .dma (recvS i))

end Cert.K1

end
-- ==== Proof.Proto.lean ====
/-
# The protocol

What each semaphore cell promises: the barrier cell of a device hands it, from the neighbour over each link, that
neighbour's landing pieces; a receive cell hands the landed pieces, holding the experts of their owners; a send cell
hands back what the transfer read.
-/
module

public import proofs.«01_k».proof.Proof.Geom

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The memrefs -/

abbrev xM : Memref sig .tc .vmem S512x256 .f32 := Memref.whole cc0_stg0_0
abbrev rwM : Memref sig .tc .vmem S256x32 .f32 := Memref.whole cc0_stg1_0
abbrev ixM : Memref sig .tc .vmem S512x2 .i32 := Memref.whole cc0_stg2_0
abbrev ewM : Memref sig .tc .vmem S4x256x512 .f32 := Memref.whole cc0_stg3_0
abbrev oM : Memref sig .tc .vmem S512x512 .f32 := Memref.whole cc0_stg4_0
abbrev aM : Memref sig .tc .vmem S8x4x256x512 .bf16 := Memref.whole cc0_scratch0
abbrev qM : Memref sig .tc .vmem S4x256x512 .bf16 := Memref.whole cc0_scratch1
abbrev cM : Memref sig .tc .vmem S8x512x1024 .bf16 := Memref.whole cc0_scratch2

/-! ## Contents -/

/-- The four operands as staged on device `c`. -/
def xstg (c : Dev nD) : (cc0_stg0_0 : Ref sig .tc).ty.Contents (Elt F) :=
  (win0_0.blk (0 : Fin 1)).view.read (Elt F) ((s₀ m ρ).mem ((c : Thread nD τ).loc main_arg0))
def rwstg (c : Dev nD) : (cc0_stg1_0 : Ref sig .tc).ty.Contents (Elt F) :=
  (win0_1.blk (0 : Fin 1)).view.read (Elt F) ((s₀ m ρ).mem ((c : Thread nD τ).loc main_arg1))
def ixstg (c : Dev nD) : (cc0_stg2_0 : Ref sig .tc).ty.Contents (Elt F) :=
  (win0_2.blk (0 : Fin 1)).view.read (Elt F) ((s₀ m ρ).mem ((c : Thread nD τ).loc main_arg2))
def ewstg (c : Dev nD) : (cc0_stg3_0 : Ref sig .tc).ty.Contents (Elt F) :=
  (win0_3.blk (0 : Fin 1)).view.read (Elt F) ((s₀ m ρ).mem ((c : Thread nD τ).loc main_arg3))

/-- Device `c`'s own experts as it sends them. -/
def qv (c : Dev nD) : (cc0_scratch1 : Ref sig .tc).ty.Contents (Elt F) := k0_pay12 (ewstg m ρ c)

/-- The gathered buffer: at every owner, the owner's experts. -/
def allv : (cc0_scratch0 : Ref sig .tc).ty.Contents (Elt F) :=
  fun j => qv m ρ (⟨(j 0).val, (j 0).isLt⟩ : Fin 8) (ix3 (⟨(j 1).val, (j 1).isLt⟩ : Fin 4) (⟨(j 2).val, (j 2).isLt⟩ : Fin 256) (⟨(j 3).val, (j 3).isLt⟩ : Fin 512))

/-- The pieces `S` of device `c`'s gathered buffer, at contents `f`. -/
def aP (c : Dev nD) (S : Finset Pc) (q : PosShare TreeShare) (f : (cc0_scratch0 : Ref sig .tc).ty.Contents (Elt F)) : sProp 𝕄 :=
  ((c : Thread nD τ).loc cc0_scratch0) ↦[reg S]{q} f

/-- The half of the expert buffer a first-phase transfer reads. -/
def qset (i : Fin 17) : Finset S4x256x512.Idx :=
  (Rect.unit (s := S4x256x512) ![if i.val < 3 then 0 else 2, 0, 0] S2x256x512.size (by split_ifs <;> decide)).set

/-- Those elements of device `c`'s expert buffer at its experts. -/
def qP (c : Dev nD) (S : Finset S4x256x512.Idx) (q : PosShare TreeShare) : sProp 𝕄 :=
  ((c : Thread nD τ).loc cc0_scratch1) ↦[S]{q} (qv m ρ c)

/-- The share of the expert buffer the transfers over a link read at; the rest is kept for the load. -/
def qsh (l : Fin 3) : PosShare TreeShare := ![fullShare.right.left, fullShare.right.right.left, fullShare.right.right.right] l

omit [FloatOps F] in
instance aP_storable (c : Dev nD) (S q f) : BI.Storable (upEmb : UEmb _ 𝕄) (aP (F := F) c S q f) := by unfold aP; infer_instance
instance qP_storable (c : Dev nD) (S q) : BI.Storable (upEmb : UEmb _ 𝕄) (qP (F := F) m ρ c S q) := by unfold qP; infer_instance

omit [FloatOps F] in
theorem aP_union (c : Dev nD) {S T : Finset Pc} (h : Disjoint S T) (q : PosShare TreeShare) (f) :
    (aP c (S ∪ T) q f : sProp 𝕄) ⊣⊢ iprop(aP c S q f ∗ aP c T q f) := by
  unfold aP; rw [reg_union]; exact pointsTo_union (reg_disjoint h)
omit [FloatOps F] in
theorem aP_share (c : Dev nD) (S : Finset Pc) (f) :
    (aP c S fullShare f : sProp 𝕄) ⊣⊢ iprop(aP c S fullShare.left f ∗ aP c S fullShare.right f) := by
  unfold aP; exact pointsTo_share (PosShare.mem_left_op_right fullShare)

/-! ## The amounts -/

/-- The shape transfer `i` moves, and its credit. -/
def tshape (i : Fin 17) : Shape :=
  if i.val < 12 then S2x256x512 else if i.val = 13 ∨ i.val = 15 then S1x256x256 else S1x256x512
def amt (i : Fin 17) : ℕ := (cc0_scratch0 : Ref sig .tc).dmaCredit (tshape i) .bf16
theorem amt_pos (i : Fin 17) : 0 < amt i := by
  unfold amt; exact sig.dmaCredit_pos _ _ _ _ _ (by unfold tshape; split_ifs <;> decide)

/-! ## The schedule -/

/-- What the neighbour over link `l` hands device `c` at the barrier: that neighbour's landing pieces over the link. -/
def barPay (l : Fin 3) (c : Dev nD) : sProp 𝕄 := iprop(∃ f, aP (nbr l c) (LS l (nbr l c)) fullShare f)
/-- What transfer `i` leaves on the receiving device `c`. -/
def recvPay (i : Fin 17) (c : Dev nD) : sProp 𝕄 := aP c (rS i c) fullShare (allv m ρ)
/-- What transfer `i` reads on the sending device `c`. -/
def sendPay (i : Fin 17) (c : Dev nD) : sProp 𝕄 :=
  if i.val < 6 then qP m ρ c (qset i) (qsh (lk i)) else aP c (wS i c) fullShare.right (allv m ρ)

omit [FloatOps F] in
instance barPay_storable (l c) : BI.Storable (upEmb : UEmb _ 𝕄) (barPay (F := F) l c) := by unfold barPay; infer_instance
instance recvPay_storable (i c) : BI.Storable (upEmb : UEmb _ 𝕄) (recvPay (F := F) m ρ i c) := by unfold recvPay; infer_instance
instance sendPay_storable (i c) : BI.Storable (upEmb : UEmb _ 𝕄) (sendPay (F := F) m ρ i c) := by unfold sendPay; split <;> infer_instance

/-- The kinds of cell: the barrier, the send cell and the receive cell of a transfer. -/
inductive CK where
  | bar | snd (i : Fin 17) | rcv (i : Fin 17) | oth
deriving DecidableEq

/-- The kind of a semaphore. -/
def ck : SemLoc sig → CK
  | .reg s => if s = barS then .bar else .oth
  | .dma n => if h : 5 ≤ n.val ∧ n.val < 22 then .snd ⟨n.val - 5, by omega⟩
      else if h : 23 ≤ n.val ∧ n.val < 40 then .rcv ⟨n.val - 23, by omega⟩ else .oth

theorem ck_bar : ck (.reg barS) = .bar := by unfold ck; exact if_pos rfl
theorem ck_send (i : Fin 17) : ck (.dma (sendS i)) = .snd i := by
  have hi := i.isLt
  unfold ck; dsimp only
  rw [dif_pos (by show 5 ≤ 5 + i.val ∧ 5 + i.val < 22; omega)]
  congr 1; exact Fin.ext (by show 5 + i.val - 5 = i.val; omega)
theorem ck_recv (i : Fin 17) : ck (.dma (recvS i)) = .rcv i := by
  have hi := i.isLt
  unfold ck; dsimp only
  rw [dif_neg (by show ¬ (5 ≤ 23 + i.val ∧ 23 + i.val < 22); omega), dif_pos (by show 23 ≤ 23 + i.val ∧ 23 + i.val < 40; omega)]
  congr 1; exact Fin.ext (by show 23 + i.val - 23 = i.val; omega)

/-- Round 0 only: a barrier cell has one duty of one unit per link, a send or receive cell the one duty 0 of the
    transfer's credit. -/
def Rd : Rounds.Schedule (GSem nD τ sig) (Fin 3) 𝕄 where
  duties g r := if r = 0 ∧ g.1.2 = .tc then (match ck g.2 with | .bar => Finset.univ | .snd _ => {0} | .rcv _ => {0} | .oth => ∅) else ∅
  unitless _ := False
  amount g _ _ := match ck g.2 with | .bar => 1 | .snd i => amt i | .rcv i => amt i | .oth => 1
  payload g _ d := match ck g.2 with | .bar => barPay d g.1.1 | .snd i => sendPay m ρ i g.1.1 | .rcv i => recvPay m ρ i g.1.1 | .oth => iprop(emp)
  amount_pos g _ _ _ := by
    split
    · exact Nat.one_pos
    · exact amt_pos _
    · exact amt_pos _
    · exact Nat.one_pos

instance Rd_payload_storable (g : GSem nD τ sig) (r : ℕ) (d : Fin 3) :
    BI.Storable (upEmb : UEmb _ 𝕄) ((Rd (F := F) m ρ).payload g r d) := by
  show BI.Storable upEmb (match ck g.2 with | .bar => barPay d g.1.1 | .snd i => sendPay m ρ i g.1.1 | .rcv i => recvPay m ρ i g.1.1 | .oth => iprop(emp))
  split <;> infer_instance

section Sched
variable (c : Dev nD)

theorem duties_bar : (Rd (F := F) m ρ).duties (barCell c) 0 = Finset.univ := by
  dsimp only [Rd]; rw [if_pos ⟨rfl, rfl⟩, ck_bar]
theorem duties_send (i : Fin 17) : (Rd (F := F) m ρ).duties (sendCell i c) 0 = {0} := by
  dsimp only [Rd]; rw [if_pos ⟨rfl, rfl⟩, ck_send]
theorem duties_recv (i : Fin 17) : (Rd (F := F) m ρ).duties (recvCell i c) 0 = {0} := by
  dsimp only [Rd]; rw [if_pos ⟨rfl, rfl⟩, ck_recv]
theorem duties_later (g : GSem nD τ sig) : ∀ r, 1 ≤ r → (Rd (F := F) m ρ).duties g r = ∅ :=
  fun r hr => by dsimp only [Rd]; rw [if_neg fun h => by omega]

theorem amount_bar (d : Fin 3) : (Rd (F := F) m ρ).amount (barCell c) 0 d = 1 := by dsimp only [Rd]; rw [ck_bar]
theorem amount_send (i : Fin 17) (d : Fin 3) : (Rd (F := F) m ρ).amount (sendCell i c) 0 d = amt i := by dsimp only [Rd]; rw [ck_send]
theorem amount_recv (i : Fin 17) (d : Fin 3) : (Rd (F := F) m ρ).amount (recvCell i c) 0 d = amt i := by dsimp only [Rd]; rw [ck_recv]

theorem expect_bar : (Rd (F := F) m ρ).expect (barCell c) 0 = 3 := by
  unfold Schedule.expect Schedule.amountOf
  rw [duties_bar, Finset.sum_congr rfl fun d _ => amount_bar m ρ c d]; rfl
theorem expect_send (i : Fin 17) : (Rd (F := F) m ρ).expect (sendCell i c) 0 = amt i := by
  unfold Schedule.expect Schedule.amountOf; rw [duties_send, Finset.sum_singleton, amount_send]
theorem expect_recv (i : Fin 17) : (Rd (F := F) m ρ).expect (recvCell i c) 0 = amt i := by
  unfold Schedule.expect Schedule.amountOf; rw [duties_recv, Finset.sum_singleton, amount_recv]

theorem payload_bar (d : Fin 3) : (Rd (F := F) m ρ).payload (barCell c) 0 d = barPay d c := by dsimp only [Rd]; rw [ck_bar]
theorem payload_send (i : Fin 17) (d : Fin 3) : (Rd (F := F) m ρ).payload (sendCell i c) 0 d = sendPay m ρ i c := by dsimp only [Rd]; rw [ck_send]
theorem payload_recv (i : Fin 17) (d : Fin 3) : (Rd (F := F) m ρ).payload (recvCell i c) 0 d = recvPay m ρ i c := by dsimp only [Rd]; rw [ck_recv]

theorem rest_bar : bigSep ((Rd (F := F) m ρ).duties (barCell c) 0 \ ∅) (fun d => (Rd (F := F) m ρ).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send (i : Fin 17) : bigSep ((Rd (F := F) m ρ).duties (sendCell i c) 0 \ ∅) (fun d => (Rd (F := F) m ρ).payload (sendCell i c) 0 d) = sendPay m ρ i c := by
  rw [Finset.sdiff_empty, duties_send, bigSep_singleton, payload_send]
theorem rest_recv (i : Fin 17) : bigSep ((Rd (F := F) m ρ).duties (recvCell i c) 0 \ ∅) (fun d => (Rd (F := F) m ρ).payload (recvCell i c) 0 d) = recvPay m ρ i c := by
  rw [Finset.sdiff_empty, duties_recv, bigSep_singleton, payload_recv]

end Sched

/-! ## What each device owes; the levels -/

/-- The receive credits of the transfers listed, the first to be sent the last summand. -/
def Or (c : Dev nD) : List (Fin 17) → CellTallies nD τ sig Unit
  | [] => 0
  | i :: l => Or c l + tallyAt (recvCell i (peer i c)) () (amt i)

/-- The transfers in the order a device issues them. -/
def order : List (Fin 17) := [0, 3, 1, 4, 2, 5, 6, 7, 8, 9, 10, 11, 12, 15, 13, 16, 14]

def O₃ (c : Dev nD) : CellTallies nD τ sig Unit := Or c order
def O₂ (c : Dev nD) : CellTallies nD τ sig Unit := O₃ c + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

def L (g : GSem nD τ sig) : Finset Unit := if g.1.2 = .tc then {()} else ∅
/-- The phase of a transfer. -/
def ph (i : Fin 17) : ℕ := if i.val < 6 then 2 else if i.val < 12 then 3 else 4
/-- Barrier cells at 1, receive cells at 2, 3, 4 by phase, everything else at 0. -/
def lv (g : GSem nD τ sig) (_ : Unit) : ℕ := match ck g.2 with | .bar => 1 | .rcv i => ph i | _ => 0

theorem L_of_ne (g : GSem nD τ sig) (h : g.1.2 ≠ .tc) : L g = ∅ := if_neg h
theorem L_tc (c : Dev nD) (sm : SemLoc sig) : L ((c : Thread nD τ), sm) = {()} := if_pos rfl

theorem Or_pos {c : Dev nD} {l : List (Fin 17)} {g : GSem nD τ sig} {u : Unit} (h : 0 < Or c l g u) :
    ∃ i ∈ l, g = recvCell i (peer i c) := by
  induction l with
  | nil => exact absurd h (Nat.lt_irrefl 0)
  | cons i l ih =>
    unfold Or at h
    rw [Pi.add_apply, Finsupp.add_apply, tallyAt_apply] at h
    by_cases hg : g = recvCell i (peer i c) ∧ u = ()
    · exact ⟨i, List.mem_cons_self .., hg.1⟩
    · rw [if_neg hg, add_zero] at h
      obtain ⟨j, hj, e⟩ := ih h
      exact ⟨j, List.mem_cons_of_mem _ hj, e⟩

theorem O₀_pos {c : Dev nD} {g : GSem nD τ sig} {u : Unit} (h : 0 < O₀ c g u) :
    (∃ i, g = recvCell i (peer i c)) ∨ ∃ l, g = barCell (nbr l c) := by
  unfold O₀ O₁ O₂ at h
  rw [Pi.add_apply, Finsupp.add_apply, Pi.add_apply, Finsupp.add_apply, Pi.add_apply, Finsupp.add_apply, tallyAt_apply, tallyAt_apply, tallyAt_apply] at h
  by_cases h0 : g = barCell (nbr 0 c)
  · exact .inr ⟨0, h0⟩
  by_cases h1 : g = barCell (nbr 1 c)
  · exact .inr ⟨1, h1⟩
  by_cases h2 : g = barCell (nbr 2 c)
  · exact .inr ⟨2, h2⟩
  rw [if_neg (fun h' => h2 h'.1), if_neg (fun h' => h1 h'.1), if_neg (fun h' => h0 h'.1)] at h
  obtain ⟨i, -, e⟩ := Or_pos (show 0 < Or c order g u from h)
  exact .inl ⟨i, e⟩

theorem lv_bar (c : Dev nD) : lv (barCell c) () = 1 := by unfold lv; rw [ck_bar]
theorem lv_send (i : Fin 17) (c : Dev nD) : lv (sendCell i c) () = 0 := by unfold lv; rw [ck_send]
theorem lv_recv (i : Fin 17) (c : Dev nD) : lv (recvCell i c) () = ph i := by unfold lv; rw [ck_recv]
theorem ph_ge (i : Fin 17) : 2 ≤ ph i := by unfold ph; split_ifs <;> decide

omit [FloatOps F] in
/-- A wait on a staging semaphore comes before everything owed. -/
theorem mayWait_stage (c : Dev nD) (q : DmaSem sig) (hq : ck (.dma q) = .oth) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨l, rfl⟩ <;> exact Finset.mem_singleton_self _)
      (fun p hp => by rw [Finset.mem_singleton.mp hp]; unfold lv; dsimp only; rw [hq])
      (fun g u hg => by
        rcases O₀_pos hg with ⟨i, rfl⟩ | ⟨l, rfl⟩
        · exact lt_of_lt_of_eq (lt_of_lt_of_le (by decide) (ph_ge i)) (lv_recv i _).symm
        · exact lt_of_lt_of_eq (by decide) (lv_bar _).symm)
  · rw [MayWait_zero]; iintro -; iempintro

omit [FloatOps F] in
/-- A wait at a level below every transfer still owed. -/
theorem mayWait_of (c : Dev nD) (s : SemLoc sig) (n : ℕ) (hn : lv ((c : Thread nD τ), s) () ≤ n) (l : List (Fin 17)) (hl : ∀ i ∈ l, n < ph i) :
    (levAts L lv : sProp 𝕄) ⊢ MayWait (c : Thread nD τ) s () (Or c l) :=
  MayOwe.of_cut (L := L) (lev := lv) n (fun p hp => by rw [Finset.mem_singleton.mp hp, L_tc]; exact Finset.mem_singleton_self _)
    (fun g u hg => by obtain ⟨i, -, rfl⟩ := Or_pos hg; exact Finset.mem_singleton_self _)
    (fun p hp => by rw [Finset.mem_singleton.mp hp]; exact hn)
    (fun g u hg => by
      obtain ⟨i, hi, rfl⟩ := Or_pos hg
      exact lt_of_lt_of_eq (hl i hi) (lv_recv i _).symm)

end Cert.K1

end
-- ==== Proof.Step.lean ====
/-
# One step of the kernel at a time

A rule for each kind of effect of the kernel, stated in the protocol's terms: sending a transfer, waiting for what it
brings, waiting for what it read, and the loads and stores of the local buffers.
-/
module

public import proofs.«01_k».proof.Proof.Proto

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells, indexed -/

/-- The cells of one device: its barrier, the send cells, the receive cells. -/
abbrev KI : Type := Option (Fin 17 ⊕ Fin 17)
/-- The semaphore of a cell. -/
def csem : KI → SemLoc sig
  | none => .reg barS
  | some (.inl i) => .dma (sendS i)
  | some (.inr i) => .dma (recvS i)
/-- The cell. -/
def kcell (p : Dev nD × KI) : GSem nD τ sig := ((p.1 : Thread nD τ), csem p.2)

/-- Every cell's invariant, and that every cell has reached round 0; the levels. -/
def records (K : Dev nD × KI → ℕ) : sProp 𝕄 :=
  iprop(((bigSep Finset.univ fun p : Dev nD × KI => cellInv ER (Rd m ρ) (K p) (kcell p))
    ∗ bigSep Finset.univ fun p : Dev nD × KI => reached ER (kcell p) 0) ∗ levAts L lv)

instance records_persistent (K : Dev nD × KI → ℕ) : BI.Persistent (records m ρ K) := by unfold records; infer_instance

theorem rec_inv (K : Dev nD × KI → ℕ) (p : Dev nD × KI) : records m ρ K ⊢ cellInv ER (Rd m ρ) (K p) (kcell p) := by
  have h : (bigSep Finset.univ fun p : Dev nD × KI => (cellInv ER (Rd m ρ) (K p) (kcell p) : sProp 𝕄)) ⊢ cellInv ER (Rd m ρ) (K p) (kcell p) :=
    bigSep_elim (Finset.mem_univ p)
  unfold records
  iintro ⟨⟨H, -⟩, -⟩
  iapply h; iexact H
theorem rec_reached (K : Dev nD × KI → ℕ) (p : Dev nD × KI) : records m ρ K ⊢ reached ER (kcell p) 0 := by
  have h : (bigSep Finset.univ fun p : Dev nD × KI => (reached ER (kcell p) 0 : sProp 𝕄)) ⊢ reached ER (kcell p) 0 :=
    bigSep_elim (Finset.mem_univ p)
  unfold records
  iintro ⟨⟨-, H⟩, -⟩
  iapply h; iexact H
theorem rec_lev (K : Dev nD × KI → ℕ) : records m ρ K ⊢ levAts L lv := by
  unfold records; iintro ⟨-, H⟩; iexact H

/-! ## The states of a transfer -/

/-- What device `c` pays transfer `i` with, and its place at the send cell. -/
def pay (i : Fin 17) (c : Dev nD) : sProp 𝕄 :=
  iprop(dutyTok ER (sendCell i c) 0 0 ∗ dutyTok ER (recvCell i (peer i c)) 0 0 ∗ atPos ER (sendCell i c) 0 ∅ 0)
/-- Where transfer `i` from device `c` lands. -/
def land (i : Fin 17) (c : Dev nD) : sProp 𝕄 := iprop(∃ f, aP (peer i c) (wS i c) fullShare f)
/-- Transfer `i` sent by `c`, not yet waited for. -/
def fly (i : Fin 17) (c : Dev nD) : sProp 𝕄 := iprop(cred (tallyAt (sendCell i c) () (amt i)) ∗ atPos ER (sendCell i c) 0 ∅ 0)
/-- Transfer `i` to `c`, not yet waited for. -/
def inc (i : Fin 17) (c : Dev nD) : sProp 𝕄 := iprop(cred (tallyAt (recvCell i c) () (amt i)) ∗ atPos ER (recvCell i c) 0 ∅ 0)
/-- What device `c` owes: the transfers listed. -/
def ow (c : Dev nD) (l : List (Fin 17)) : sProp 𝕄 := iprop(∃ W, owes (c : Thread nD τ) (Or c l) W)

/-! ## Sending -/

theorem emb_pieces (off size : Fin 4 → Nat) (inb : ∀ a, off a + size a ≤ S8x4x256x512.size a) (s' : Shape)
    (hq : (Rect.unit (s := S8x4x256x512) off size inb).shape.Squeezes s') :
    (((aM.slice (Rect.unit (s := S8x4x256x512) off size inb) (fun _ => rfl)).squeeze s' hq).view.set : Finset S8x4x256x512.Idx)
      = (Rect.unit (s := S8x4x256x512) off size inb).set := by
  exact (View.set_reshape _ _).trans (View.set_slice_whole _ _)

/-- A transfer that forwards pieces of the gathered buffer: read at the sender and landed at the receiver in the same place. -/
theorem step_sendA (K : Dev nD × KI → ℕ) (c : Dev nD) (i : Fin 17) (l : List (Fin 17)) (hi : ¬ i.val < 6)
    {n : Dev nD} (hn : n = peer i c) {ss rs : DmaSem sig} (hss : ss = sendS i) (hrs : rs = recvS i)
    {off size : Fin 4 → Nat} {inb : ∀ a, off a + size a ≤ S8x4x256x512.size a} {s' : Shape}
    {hq : (Rect.unit (s := S8x4x256x512) off size inb).shape.Squeezes s'} (hs' : s' = tshape i)
    (hset : (Rect.unit (s := S8x4x256x512) off size inb).set = reg (wS i c))
    {hsc hsrc hdst hsem} {α : Type} {Q : α → sProp 𝕄} {k : PUnit → Prog (TpuEff nD τ sig (Elt F) Λ₀ .tc) α} :
    iprop(records m ρ K ∗ ow c (i :: l) ∗ pay i c ∗ land i c ∗ aP c (wS i c) fullShare.right (allv m ρ))
      ⊢ iprop(((ow c l ∗ fly i c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((aM.slice (Rect.unit (s := S8x4x256x512) off size inb) (fun _ => rfl)).squeeze s' hq)
                (.remote (Dev.tc n : Thread nD τ) ((aM.slice (Rect.unit (s := S8x4x256x512) off size inb) (fun _ => rfl)).squeeze s' hq) (.dma ss) hsc)
                (.dma rs) hsrc hdst hsem) k) Q) := by
  subst hn hss hrs hs'
  unfold ow pay land fly
  iintro ⟨#HR, ⟨%W, HO⟩, ⟨HtS, HtV, Hat⟩, ⟨%fd, Hl⟩, Hs⟩ Hk
  have hset' := (emb_pieces off size inb _ hq).trans hset
  iapply (Rounds.wp_send_pointsTo 𝒱₀ ER (Rd m ρ) (c : Thread nD τ) none (κ₁ := K (c, some (.inl i))) (κ₂ := K (peer i c, some (.inr i)))
    (r₁ := 0) (r₂ := 0) (d₁ := 0) (d₂ := 0) (fd := fd) (q := fullShare.right) (fs := allv m ρ)
    (by rw [duties_send]; exact Finset.mem_singleton_self _) (by rw [duties_recv]; exact Finset.mem_singleton_self _)
    () () (amt i) rfl (amount_send m ρ c i 0) (amount_recv m ρ (peer i c) i 0) (Or c l) rfl (W := W)
    (by rw [payload_send]; unfold sendPay; rw [if_neg hi]; unfold aP; rw [hset'])
    (by
      rw [payload_recv]; unfold recvPay aP; rw [rS_peer, View.write_read_eq_piecewise, View.setOn_univ, hset']
      exact Entails.of_eq (pointsTo_congr fun j hj => Finset.piecewise_eq_of_mem _ _ _ hj))) $$ [HO HtS HtV Hl Hs]
  · isplitr; · iapply (rec_inv m ρ K (c, some (.inl i))); iexact HR
    isplitr; · iapply (rec_inv m ρ K (peer i c, some (.inr i))); iexact HR
    isplitl [Hs]; · rw [hset']; unfold aP; iexact Hs
    isplitl [Hl]; · rw [hset']; unfold aP; iexact Hl
    isplitl [HO]; · iexact HO
    isplitl [HtS]; · iexact HtS
    isplitr; · iapply (rec_reached m ρ K (c, some (.inl i))); iexact HR
    isplitl [HtV]; · iexact HtV
    iapply (rec_reached m ρ K (peer i c, some (.inr i))); iexact HR
  iintro ⟨Hc, HO⟩
  iapply Hk
  isplitl [HO]; · iexists W; iexact HO
  isplitl [Hc] <;> iassumption

/-- Where the halves of the expert buffer land among the gathered pieces. -/
theorem place1 (c : Dev nD) (e0 : ℕ) (inb : ∀ a, (![c.val, e0, 0, 0] : Fin 4 → ℕ) a + S1x2x256x512.size a ≤ S8x4x256x512.size a)
    (inbq : ∀ a, (![e0, 0, 0] : Fin 3 → ℕ) a + S2x256x512.size a ≤ S4x256x512.size a)
    (hq : (Rect.unit (s := S8x4x256x512) ![c.val, e0, 0, 0] S1x2x256x512.size inb).shape.Squeezes S2x256x512) (x : S2x256x512.Idx) :
    (qM.slice (Rect.unit (s := S4x256x512) ![e0, 0, 0] S2x256x512.size inbq) (fun _ => rfl)).view.read (Elt F) (qv m ρ c) x
      = allv m ρ (((aM.slice (Rect.unit (s := S8x4x256x512) ![c.val, e0, 0, 0] S1x2x256x512.size inb) (fun _ => rfl)).squeeze S2x256x512 hq).view.emb x) := by
  obtain ⟨a, b, h, rfl⟩ : ∃ a b h, x = ix3 a b h := ⟨_, _, _, eq_ix3 x⟩
  have h1 : (((aM.slice (Rect.unit (s := S8x4x256x512) ![c.val, e0, 0, 0] S1x2x256x512.size inb) (fun _ => rfl)).squeeze S2x256x512 hq).view.emb (ix3 a b h) : S8x4x256x512.Idx)
      = (Rect.unit (s := S8x4x256x512) ![c.val, e0, 0, 0] S1x2x256x512.size inb).emb (ix4 (⟨0, Nat.one_pos⟩ : Fin 1) a b h) := by
    rw [← reshapeEquiv_ix3_1abc (hq.numel_eq)]; rfl
  rw [h1]
  show qv m ρ c ((Rect.unit (s := S4x256x512) ![e0, 0, 0] S2x256x512.size inbq).emb (ix3 a b h)) = _
  unfold allv
  congr 1
  refine funext fun t => Fin.ext ?_
  fin_cases t <;> rfl

/-- A first-phase transfer: half of the device's expert buffer, into its own place of the receiver's gathered buffer. -/
theorem step_send1 (K : Dev nD × KI → ℕ) (c : Dev nD) (i : Fin 17) (l : List (Fin 17)) (hi : i.val < 6)
    {n : Dev nD} (hn : n = peer i c) {ss rs : DmaSem sig} (hss : ss = sendS i) (hrs : rs = recvS i)
    {off : Fin 4 → Nat} {inb : ∀ a, off a + S1x2x256x512.size a ≤ S8x4x256x512.size a} {offq : Fin 3 → Nat}
    {inbq : ∀ a, offq a + S2x256x512.size a ≤ S4x256x512.size a}
    {hq : (Rect.unit (s := S8x4x256x512) off S1x2x256x512.size inb).shape.Squeezes S2x256x512} {e0 : ℕ}
    (hoff : off = ![c.val, e0, 0, 0]) (hoffq : offq = ![e0, 0, 0]) (he : e0 = if i.val < 3 then 0 else 2)
    (hset : (Rect.unit (s := S8x4x256x512) off S1x2x256x512.size inb).set = reg (wS i c))
    {hsc hsrc hdst hsem} {α : Type} {Q : α → sProp 𝕄} {k : PUnit → Prog (TpuEff nD τ sig (Elt F) Λ₀ .tc) α} :
    iprop(records m ρ K ∗ ow c (i :: l) ∗ pay i c ∗ land i c ∗ sendPay m ρ i c)
      ⊢ iprop(((ow c l ∗ fly i c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (qM.slice (Rect.unit (s := S4x256x512) offq S2x256x512.size inbq) (fun _ => rfl))
                (.remote (Dev.tc n : Thread nD τ) ((aM.slice (Rect.unit (s := S8x4x256x512) off S1x2x256x512.size inb) (fun _ => rfl)).squeeze S2x256x512 hq) (.dma ss) hsc)
                (.dma rs) hsrc hdst hsem) k) Q) := by
  subst hn hss hrs hoff hoffq he
  unfold ow pay land fly
  iintro ⟨#HR, ⟨%W, HO⟩, ⟨HtS, HtV, Hat⟩, ⟨%fd, Hl⟩, Hs⟩ Hk
  have hset' := (emb_pieces _ _ inb _ hq).trans hset
  have hqset : ((qM.slice (Rect.unit (s := S4x256x512) ![if i.val < 3 then 0 else 2, 0, 0] S2x256x512.size inbq) (fun _ => rfl)).view.set : Finset S4x256x512.Idx) = qset i :=
    View.set_slice_whole _ _
  have hpay : (sendPay m ρ i c : sProp 𝕄) = (((c : Thread nD τ).loc cc0_scratch1) ↦[qset i]{qsh (lk i)} (qv m ρ c)) := by
    unfold sendPay; rw [if_pos hi]; rfl
  have ht : tshape i = S2x256x512 := if_pos (by omega)
  iapply (Rounds.wp_send_pointsTo 𝒱₀ ER (Rd m ρ) (c : Thread nD τ) none (κ₁ := K (c, some (.inl i))) (κ₂ := K (peer i c, some (.inr i)))
    (r₁ := 0) (r₂ := 0) (d₁ := 0) (d₂ := 0) (fd := fd) (q := qsh (lk i)) (fs := qv m ρ c)
    (by rw [duties_send]; exact Finset.mem_singleton_self _) (by rw [duties_recv]; exact Finset.mem_singleton_self _)
    () () (amt i) (by unfold amt; rw [ht]; rfl) (amount_send m ρ c i 0) (amount_recv m ρ (peer i c) i 0) (Or c l) rfl (W := W)
    (by rw [payload_send, hpay, hqset])
    (by
      rw [payload_recv]; unfold recvPay aP; rw [rS_peer, hset']
      refine Entails.of_eq (pointsTo_congr fun j hj => ?_)
      rw [← hset'] at hj
      obtain ⟨x, -, rfl⟩ := Finset.mem_map.mp hj
      exact (View.write_emb_of_mem _ _ (Finset.mem_univ x)).trans (place1 m ρ c _ inb inbq hq x))) $$ [HO HtS HtV Hl Hs]
  · isplitr; · iapply (rec_inv m ρ K (c, some (.inl i))); iexact HR
    isplitr; · iapply (rec_inv m ρ K (peer i c, some (.inr i))); iexact HR
    isplitl [Hs]; · rw [hqset, ← hpay]; iexact Hs
    isplitl [Hl]; · rw [hset']; unfold aP; iexact Hl
    isplitl [HO]; · iexact HO
    isplitl [HtS]; · iexact HtS
    isplitr; · iapply (rec_reached m ρ K (c, some (.inl i))); iexact HR
    isplitl [HtV]; · iexact HtV
    iapply (rec_reached m ρ K (peer i c, some (.inr i))); iexact HR
  iintro ⟨Hc, HO⟩
  iapply Hk
  isplitl [HO]; · iexists W; iexact HO
  isplitl [Hc] <;> iassumption

/-! ## Waiting -/

/-- The wait for what transfer `i` brings: its pieces, holding what was sent, and the cell's counter at zero. -/
theorem step_recv (K : Dev nD × KI → ℕ) (c : Dev nD) (i : Fin 17) (l : List (Fin 17)) (hl : ∀ j ∈ l, ph i < ph j) {rs : DmaSem sig} (hrs : rs = recvS i)
    {sp sp' : Space} {s s' : Shape} {e e' : EltTy} {src : Memref sig .tc sp' s' e'} {dst : Memref sig .tc sp s e} {hsrc : src.view.WordExact} {hdst : dst.view.WordExact}
    (hamt : dst.view.dmaCredit = amt i)
    {α : Type} {Q : α → sProp 𝕄} {k : PUnit → Prog (TpuEff nD τ sig (Elt F) Λ₀ .tc) α} :
    iprop(records m ρ K ∗ ow c l ∗ inc i c)
      ⊢ iprop(((ow c l ∗ semVal (recvCell i c) 0 ∗ recvPay m ρ i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs src dst hsrc hdst) k) Q) := by
  subst hrs
  unfold ow inc
  iintro ⟨#HR, ⟨%W, HO⟩, ⟨Hc, Hat⟩⟩ Hk
  iapply (Rounds.wp_wait_rest_token 𝒱₀ ER (Rd m ρ) (c : Thread nD τ) none (κ := K (c, some (.inr i)))
      (wpE_waitDma2_eq 𝒱₀ (c : Thread nD τ) none Set.univ) (Set.mem_univ _) () (O := Or c l) (W := W) (R := 0) (m := 0) (T := ∅)
      ((Nat.zero_add _).trans (hamt.trans (expect_recv m ρ c i).symm))) $$ [Hc HO Hat]
  · isplitr; · iapply (rec_inv m ρ K (c, some (.inr i))); iexact HR
    isplitl [Hc]; · rw [hamt]; iexact Hc
    isplitl [HO]; · iexact HO
    isplitr; · iapply (mayWait_of c (.dma (recvS i)) (ph i) (le_of_eq (lv_recv i c)) l hl); iapply (rec_lev m ρ K); iexact HR
    iexact Hat
  iintro ⟨HO, Hat, -, Hpay⟩
  ihave Hp := (Entails.of_eq (rest_recv m ρ c i)) $$ Hpay
  imod (Rounds.cell_close ER (Rd m ρ) (Set.mem_univ (K (c, some (.inr i)))) (fun h => h) (R := 0 + 1) (duties_later m ρ (recvCell i c))) $$ [Hat] with Hz
  · isplitr; · iapply (rec_inv m ρ K (c, some (.inr i))); iexact HR
    iexact Hat
  iapply Hk
  isplitl [HO]; · iexists _; iexact HO
  isplitl [Hz] <;> iassumption

/-- The wait for transfer `i` to have been read: what it read, and the cell's counter at zero. -/
theorem step_sent (K : Dev nD × KI → ℕ) (c : Dev nD) (i : Fin 17) {ss : DmaSem sig} (hss : ss = sendS i)
    {sp sp' : Space} {s s' : Shape} {e e' : EltTy} {src : Memref sig .tc sp' s' e'} {dst : Memref sig .tc sp s e} {hsrc : src.view.WordExact} {hdst : dst.view.WordExact}
    (hamt : dst.view.dmaCredit = amt i)
    {α : Type} {Q : α → sProp 𝕄} {k : PUnit → Prog (TpuEff nD τ sig (Elt F) Λ₀ .tc) α} :
    iprop(records m ρ K ∗ ow c [] ∗ fly i c)
      ⊢ iprop(((ow c [] ∗ semVal (sendCell i c) 0 ∗ sendPay m ρ i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ss src dst hsrc hdst) k) Q) := by
  subst hss
  unfold ow fly
  iintro ⟨#HR, ⟨%W, HO⟩, ⟨Hc, Hat⟩⟩ Hk
  iapply (Rounds.wp_wait_rest_token 𝒱₀ ER (Rd m ρ) (c : Thread nD τ) none (κ := K (c, some (.inl i)))
      (wpE_waitDma2_eq 𝒱₀ (c : Thread nD τ) none Set.univ) (Set.mem_univ _) () (O := Or c []) (W := W) (R := 0) (m := 0) (T := ∅)
      ((Nat.zero_add _).trans (hamt.trans (expect_send m ρ c i).symm))) $$ [Hc HO Hat]
  · isplitr; · iapply (rec_inv m ρ K (c, some (.inl i))); iexact HR
    isplitl [Hc]; · rw [hamt]; iexact Hc
    isplitl [HO]; · iexact HO
    isplitr; · iapply (mayWait_of c (.dma (sendS i)) 0 (le_of_eq (lv_send i c)) [] (by simp)); iapply (rec_lev m ρ K); iexact HR
    iexact Hat
  iintro ⟨HO, Hat, -, Hpay⟩
  ihave Hp := (Entails.of_eq (rest_send m ρ c i)) $$ Hpay
  imod (Rounds.cell_close ER (Rd m ρ) (Set.mem_univ (K (c, some (.inl i)))) (fun h => h) (R := 0 + 1) (duties_later m ρ (sendCell i c))) $$ [Hat] with Hz
  · isplitr; · iapply (rec_inv m ρ K (c, some (.inl i))); iexact HR
    iexact Hat
  iapply Hk
  isplitl [HO]; · iexists _; iexact HO
  isplitl [Hz] <;> iassumption

/-! ## Loads and stores of what a device keeps to itself -/

section Local
variable {cs : CoreSpace} {s : Shape} {e : EltTy} (M : Memref sig .tc (.core cs) s e) (r : Rect s) (c : Dev nD)

/-- The elements of `M` in `r` on device `c`, at some contents. -/
def anyR : sProp 𝕄 := iprop(∃ f, (M.access r).loc (c : Thread nD τ) ↦[(M.access r).set]{fullShare} f)
/-- Those elements, reading `w`. -/
def hasR (w : r.shape.Idx → Elt F e) : sProp 𝕄 :=
  iprop(∃ f, ⌜(M.access r).read (Elt F) f = w⌝ ∗ ((M.access r).loc (c : Thread nD τ) ↦[(M.access r).set]{fullShare} f))

omit [FloatOps F] in
theorem anyR_of_hasR (w : r.shape.Idx → Elt F e) : (hasR M r c w : sProp 𝕄) ⊢ anyR M r c := by
  unfold hasR anyR; iintro ⟨%f, -, H⟩; iexists f; iexact H

theorem step_load_any {α : Type} {Q : α → sProp 𝕄} {hl : M.view.LoadsAt r} {k : (r.shape.Idx → Elt F e) → Prog (TpuEff nD τ sig (Elt F) Λ₀ .tc) α} :
    (anyR M r c : sProp 𝕄) ⊢ iprop((∀ w, anyR M r c -∗ wp frame (wpE (defs₀ (F := F)) 𝒱₀ (c : Thread nD τ) none) Set.univ (k w) Q)
      -∗ wp frame (wpE (defs₀ (F := F)) 𝒱₀ (c : Thread nD τ) none) Set.univ (.op (.load M r hl) k) Q) := by
  unfold anyR
  iintro ⟨%f, H⟩ Hk
  iapply (wp_load_rect 𝒱₀ (c : Thread nD τ) none Set.univ (m := M) (r := r) (Finset.Subset.refl _)) $$ H; iintro H
  iapply Hk; iexists f; iexact H

theorem step_load {α : Type} {Q : α → sProp 𝕄} {hl : M.view.LoadsAt r} {k : (r.shape.Idx → Elt F e) → Prog (TpuEff nD τ sig (Elt F) Λ₀ .tc) α} (w : r.shape.Idx → Elt F e) :
    (hasR M r c w : sProp 𝕄) ⊢ iprop((hasR M r c w -∗ wp frame (wpE (defs₀ (F := F)) 𝒱₀ (c : Thread nD τ) none) Set.univ (k w) Q)
      -∗ wp frame (wpE (defs₀ (F := F)) 𝒱₀ (c : Thread nD τ) none) Set.univ (.op (.load M r hl) k) Q) := by
  unfold hasR
  iintro ⟨%f, %hf, H⟩ Hk
  subst hf
  iapply (wp_load_rect 𝒱₀ (c : Thread nD τ) none Set.univ (m := M) (r := r) (Finset.Subset.refl _)) $$ H; iintro H
  iapply Hk; iexists f
  isplitr; · ipureintro; rfl
  iexact H

theorem step_store {α : Type} {Q : α → sProp 𝕄} {w : r.shape.Idx → Elt F e} {hx : (M.access r).Stores Finset.univ} {hm} {k : PUnit → Prog (TpuEff nD τ sig (Elt F) Λ₀ .tc) α} :
    (anyR M r c : sProp 𝕄) ⊢ iprop((hasR M r c w -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  unfold anyR hasR
  iintro ⟨%f, H⟩ Hk
  iapply (wp_store 𝒱₀ (c : Thread nD τ) none Set.univ (m := M) (r := r) (Mk := Finset.univ) (by rw [View.setOn_univ])) $$ H; iintro H
  iapply Hk; iexists ((M.access r).write (Elt F) f w Finset.univ)
  isplitr; · ipureintro; exact View.read_write_univ _ _
  iexact H

end Local

/-- Reading all of an owner's experts, held in two pieces at a share. -/
theorem step_loadA (c : Dev nD) {off size : Fin 4 → Nat} {inb : ∀ a, off a + size a ≤ S8x4x256x512.size a} {S T : Finset Pc} (hd : Disjoint S T)
    (hset : (Rect.unit (s := S8x4x256x512) off size inb).set = reg (S ∪ T)) (q : PosShare TreeShare)
    {hl : aM.view.LoadsAt (Rect.unit (s := S8x4x256x512) off size inb)} {α : Type} {Q : α → sProp 𝕄}
    {k : ((Rect.unit (s := S8x4x256x512) off size inb).shape.Idx → Elt F .bf16) → Prog (TpuEff nD τ sig (Elt F) Λ₀ .tc) α} :
    iprop(aP c S q (allv m ρ) ∗ aP c T q (allv m ρ))
      ⊢ iprop(((aP c S q (allv m ρ) ∗ aP c T q (allv m ρ)) -∗ wp frame (wpE (defs₀ (F := F)) 𝒱₀ (c : Thread nD τ) none) Set.univ
            (k ((aM.access (Rect.unit (s := S8x4x256x512) off size inb)).read (Elt F) (allv m ρ))) Q)
          -∗ wp frame (wpE (defs₀ (F := F)) 𝒱₀ (c : Thread nD τ) none) Set.univ (.op (.load aM (Rect.unit (s := S8x4x256x512) off size inb) hl) k) Q) := by
  iintro H Hk
  ihave H := (aP_union c hd q (allv m ρ)).2 $$ H
  ihave H := (show aP c (S ∪ T) q (allv m ρ) ⊢ ((aM.access (Rect.unit (s := S8x4x256x512) off size inb)).loc (c : Thread nD τ) ↦[reg (S ∪ T)]{q} (allv m ρ)) from Entails.refl _) $$ H
  iapply (wp_load_rect 𝒱₀ (c : Thread nD τ) none Set.univ (m := aM) (r := Rect.unit (s := S8x4x256x512) off size inb)
    (S := reg (S ∪ T)) (by rw [← hset]; exact (View.set_slice_whole _ _).subset)) $$ H; iintro H
  iapply Hk
  ihave H := (show ((aM.access (Rect.unit (s := S8x4x256x512) off size inb)).loc (c : Thread nD τ) ↦[reg (S ∪ T)]{q} (allv m ρ)) ⊢ aP c (S ∪ T) q (allv m ρ) from Entails.refl _) $$ H
  iapply (aP_union c hd q (allv m ρ)).1; iexact H

end Cert.K1

end
-- ==== Proof.Pieces.lean ====
/-
# The pieces of the gathered buffer

What the offsets the kernel computes say about pieces, how a landed window is divided between the loads and the
transfers that forward it, and how everything is put back together.
-/
module

public import proofs.«01_k».proof.Proof.Step

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem hw_0 (c : Dev nD) : (Rect.unit (s := S8x4x256x512) (k0_off1 c) S1x2x256x512.size (k0_off1_inb c)).set = reg (wS 0 c) :=
  rect_eq_reg 0 c {0, 1, 2} 0 2 0 512 (off_eq1 c) rfl hA_lo
theorem hw_1 (c : Dev nD) : (Rect.unit (s := S8x4x256x512) (k0_off1 c) S1x2x256x512.size (k0_off1_inb c)).set = reg (wS 1 c) :=
  rect_eq_reg 0 c {0, 1, 2} 0 2 0 512 (off_eq1 c) rfl hA_lo
theorem hw_2 (c : Dev nD) : (Rect.unit (s := S8x4x256x512) (k0_off1 c) S1x2x256x512.size (k0_off1_inb c)).set = reg (wS 2 c) :=
  rect_eq_reg 0 c {0, 1, 2} 0 2 0 512 (off_eq1 c) rfl hA_lo
theorem hw_3 (c : Dev nD) : (Rect.unit (s := S8x4x256x512) (k0_off2 c) S1x2x256x512.size (k0_off2_inb c)).set = reg (wS 3 c) :=
  rect_eq_reg 0 c {3, 4} 2 2 0 512 (off_eq2 c) rfl hA_hi
theorem hw_4 (c : Dev nD) : (Rect.unit (s := S8x4x256x512) (k0_off2 c) S1x2x256x512.size (k0_off2_inb c)).set = reg (wS 4 c) :=
  rect_eq_reg 0 c {3, 4} 2 2 0 512 (off_eq2 c) rfl hA_hi
theorem hw_5 (c : Dev nD) : (Rect.unit (s := S8x4x256x512) (k0_off2 c) S1x2x256x512.size (k0_off2_inb c)).set = reg (wS 5 c) :=
  rect_eq_reg 0 c {3, 4} 2 2 0 512 (off_eq2 c) rfl hA_hi
theorem hw_6 (c : Dev nD) : (Rect.unit (s := S8x4x256x512) (k0_off3 c) S1x2x256x512.size (k0_off3_inb c)).set = reg (wS 6 c) :=
  rect_eq_reg 3 c {0, 1, 2} 0 2 0 512 (off_eq3 c) rfl hA_lo
theorem hw_7 (c : Dev nD) : (Rect.unit (s := S8x4x256x512) (k0_off4 c) S1x2x256x512.size (k0_off4_inb c)).set = reg (wS 7 c) :=
  rect_eq_reg 4 c {0, 1, 2} 0 2 0 512 (off_eq4 c) rfl hA_lo
theorem hw_8 (c : Dev nD) : (Rect.unit (s := S8x4x256x512) (k0_off5 c) S1x2x256x512.size (k0_off5_inb c)).set = reg (wS 8 c) :=
  rect_eq_reg 1 c {0, 1, 2} 0 2 0 512 (off_eq5 c) rfl hA_lo
theorem hw_9 (c : Dev nD) : (Rect.unit (s := S8x4x256x512) (k0_off6 c) S1x2x256x512.size (k0_off6_inb c)).set = reg (wS 9 c) :=
  rect_eq_reg 3 c {3, 4} 2 2 0 512 (off_eq6 c) rfl hA_hi
theorem hw_10 (c : Dev nD) : (Rect.unit (s := S8x4x256x512) (k0_off7 c) S1x2x256x512.size (k0_off7_inb c)).set = reg (wS 10 c) :=
  rect_eq_reg 4 c {3, 4} 2 2 0 512 (off_eq7 c) rfl hA_hi
theorem hw_11 (c : Dev nD) : (Rect.unit (s := S8x4x256x512) (k0_off8 c) S1x2x256x512.size (k0_off8_inb c)).set = reg (wS 11 c) :=
  rect_eq_reg 1 c {3, 4} 2 2 0 512 (off_eq8 c) rfl hA_hi
theorem hw_12 (c : Dev nD) : (Rect.unit (s := S8x4x256x512) (k0_off12 c) S1x1x256x512.size (k0_off12_inb c)).set = reg (wS 12 c) :=
  rect_eq_reg 7 c {0} 0 1 0 512 (off_eq12 c) rfl hA_0
theorem hw_13 (c : Dev nD) : (Rect.unit (s := S8x4x256x512) (k0_off14 c) S1x1x256x256.size (k0_off14_inb c)).set = reg (wS 13 c) :=
  rect_eq_reg 5 c {2} 1 1 256 256 (off_eq14 c) rfl hA_2
theorem hw_14 (c : Dev nD) : (Rect.unit (s := S8x4x256x512) (k0_off16 c) S1x1x256x512.size (k0_off16_inb c)).set = reg (wS 14 c) :=
  rect_eq_reg 2 c {4} 3 1 0 512 (off_eq16 c) rfl hA_4
theorem hw_15 (c : Dev nD) : (Rect.unit (s := S8x4x256x512) (k0_off13 c) S1x1x256x256.size (k0_off13_inb c)).set = reg (wS 15 c) :=
  rect_eq_reg 7 c {1} 1 1 0 256 (off_eq13 c) rfl hA_1
theorem hw_16 (c : Dev nD) : (Rect.unit (s := S8x4x256x512) (k0_off15 c) S1x1x256x512.size (k0_off15_inb c)).set = reg (wS 16 c) :=
  rect_eq_reg 5 c {3} 2 1 0 512 (off_eq15 c) rfl hA_3
theorem hg_9 (c : Dev nD) : (Rect.unit (s := S8x4x256x512) (k0_off9 c) S1x4x256x512.size (k0_off9_inb c)).set = reg (rS 0 c ∪ rS 3 c) :=
  (rect_eq_reg 1 c Finset.univ 0 4 0 512 (off_eq9 c) rfl hA_all).trans (congrArg reg (by revert c; decide +kernel))
theorem hd_9 (c : Dev nD) : Disjoint (rS 0 c) (rS 3 c) := by revert c; decide +kernel
theorem hg_10 (c : Dev nD) : (Rect.unit (s := S8x4x256x512) (k0_off10 c) S1x4x256x512.size (k0_off10_inb c)).set = reg (rS 1 c ∪ rS 4 c) :=
  (rect_eq_reg 3 c Finset.univ 0 4 0 512 (off_eq10 c) rfl hA_all).trans (congrArg reg (by revert c; decide +kernel))
theorem hd_10 (c : Dev nD) : Disjoint (rS 1 c) (rS 4 c) := by revert c; decide +kernel
theorem hg_11 (c : Dev nD) : (Rect.unit (s := S8x4x256x512) (k0_off11 c) S1x4x256x512.size (k0_off11_inb c)).set = reg (rS 2 c ∪ rS 5 c) :=
  (rect_eq_reg 4 c Finset.univ 0 4 0 512 (off_eq11 c) rfl hA_all).trans (congrArg reg (by revert c; decide +kernel))
theorem hd_11 (c : Dev nD) : Disjoint (rS 2 c) (rS 5 c) := by revert c; decide +kernel
theorem hg_17 (c : Dev nD) : (Rect.unit (s := S8x4x256x512) (k0_off17 c) S1x4x256x512.size (k0_off17_inb c)).set = reg (rS 6 c ∪ rS 9 c) :=
  (rect_eq_reg 2 c Finset.univ 0 4 0 512 (off_eq17 c) rfl hA_all).trans (congrArg reg (by revert c; decide +kernel))
theorem hd_17 (c : Dev nD) : Disjoint (rS 6 c) (rS 9 c) := by revert c; decide +kernel
theorem hg_18 (c : Dev nD) : (Rect.unit (s := S8x4x256x512) (k0_off18 c) S1x4x256x512.size (k0_off18_inb c)).set = reg (rS 7 c ∪ rS 10 c) :=
  (rect_eq_reg 7 c Finset.univ 0 4 0 512 (off_eq18 c) rfl hA_all).trans (congrArg reg (by revert c; decide +kernel))
theorem hd_18 (c : Dev nD) : Disjoint (rS 7 c) (rS 10 c) := by revert c; decide +kernel
theorem hg_19 (c : Dev nD) : (Rect.unit (s := S8x4x256x512) (k0_off19 c) S1x4x256x512.size (k0_off19_inb c)).set = reg (rS 8 c ∪ rS 11 c) :=
  (rect_eq_reg 5 c Finset.univ 0 4 0 512 (off_eq19 c) rfl hA_all).trans (congrArg reg (by revert c; decide +kernel))
theorem hd_19 (c : Dev nD) : Disjoint (rS 8 c) (rS 11 c) := by revert c; decide +kernel
theorem hg_20 (c : Dev nD) : (Rect.unit (s := S8x4x256x512) (k0_off20 c) S1x4x256x512.size (k0_off20_inb c)).set = reg (sl 6 Finset.univ c) :=
  rect_eq_reg 6 c Finset.univ 0 4 0 512 (off_eq20 c) rfl hA_all
theorem off1_own (c : Dev nD) : k0_off1 c = ![c.val, 0, 0, 0] := by revert c; decide +kernel
theorem off2_own (c : Dev nD) : k0_off2 c = ![c.val, 2, 0, 0] := by revert c; decide +kernel

/-! ## Pieces at some contents -/

/-- The pieces `S` of the gathered buffer, at some contents. -/
def anyA (c : Dev nD) (S : Finset Pc) : sProp 𝕄 := iprop(∃ f, aP c S fullShare f)

omit [FloatOps F] in
theorem anyA_split (c : Dev nD) {R S T : Finset Pc} (h : Disjoint S T) (e : R = S ∪ T) : (anyA c R : sProp 𝕄) ⊢ iprop(anyA c S ∗ anyA c T) := by
  subst e
  unfold anyA
  iintro ⟨%f, H⟩
  ihave H := (aP_union c h fullShare f).1 $$ H
  icases H with ⟨H1, H2⟩
  isplitl [H1]
  · iexists f; iexact H1
  · iexists f; iexact H2
omit [FloatOps F] in
theorem anyA_join (c : Dev nD) {R S T : Finset Pc} (h : Disjoint S T) (e : R = S ∪ T) : iprop(anyA c S ∗ anyA c T) ⊢ (anyA c R : sProp 𝕄) := by
  subst e
  unfold anyA aP
  iintro ⟨⟨%f, H1⟩, ⟨%g, H2⟩⟩
  iexists ((reg T).piecewise g f)
  rw [reg_union]
  iapply (pointsTo_join (reg_disjoint h))
  isplitl [H1] <;> iassumption
theorem anyA_of_recv (i : Fin 17) (c : Dev nD) : recvPay m ρ i c ⊢ anyA c (rS i c) := by
  unfold recvPay anyA; iintro H; iexists _; iexact H
omit [FloatOps F] in
theorem land_eq (i : Fin 17) (c : Dev nD) : (land i c : sProp 𝕄) = anyA (peer i c) (rS i (peer i c)) := by
  unfold land anyA; rw [rS_peer]
theorem sendPay_A (i : Fin 17) (hi : ¬ i.val < 6) (c : Dev nD) : (sendPay m ρ i c : sProp 𝕄) = aP c (wS i c) fullShare.right (allv m ρ) := by
  unfold sendPay; rw [if_neg hi]

omit [FloatOps F] in
theorem land_of_bar0 (c : Dev nD) : (barPay 0 c : sProp 𝕄) ⊢ iprop(land 0 c ∗ land 3 c ∗ land 6 c ∗ land 9 c ∗ land 12 c ∗ land 15 c) := by
  have h : (barPay 0 c : sProp 𝕄) = anyA (nbr 0 c) (LS 0 (nbr 0 c)) := rfl
  rw [h, land_eq 0, land_eq 3, land_eq 6, land_eq 9, land_eq 12, land_eq 15]
  show _ ⊢ iprop(anyA (nbr 0 c) (rS 0 (nbr 0 c)) ∗ anyA (nbr 0 c) (rS 3 (nbr 0 c)) ∗ anyA (nbr 0 c) (rS 6 (nbr 0 c)) ∗ anyA (nbr 0 c) (rS 9 (nbr 0 c)) ∗ anyA (nbr 0 c) (rS 12 (nbr 0 c)) ∗ anyA (nbr 0 c) (rS 15 (nbr 0 c)))
  generalize nbr 0 c = n
  iintro H
  ihave H := (anyA_split n (R := LS 0 n) (S := rS 0 n) (T := rS 3 n ∪ (rS 6 n ∪ (rS 9 n ∪ (rS 12 n ∪ (rS 15 n))))) (by revert n; decide +kernel) (by revert n; decide +kernel)) $$ H
  icases H with ⟨H0, H⟩
  isplitl [H0]; · iexact H0
  ihave H := (anyA_split n (R := rS 3 n ∪ (rS 6 n ∪ (rS 9 n ∪ (rS 12 n ∪ (rS 15 n))))) (S := rS 3 n) (T := rS 6 n ∪ (rS 9 n ∪ (rS 12 n ∪ (rS 15 n)))) (by revert n; decide +kernel) (by revert n; decide +kernel)) $$ H
  icases H with ⟨H3, H⟩
  isplitl [H3]; · iexact H3
  ihave H := (anyA_split n (R := rS 6 n ∪ (rS 9 n ∪ (rS 12 n ∪ (rS 15 n)))) (S := rS 6 n) (T := rS 9 n ∪ (rS 12 n ∪ (rS 15 n))) (by revert n; decide +kernel) (by revert n; decide +kernel)) $$ H
  icases H with ⟨H6, H⟩
  isplitl [H6]; · iexact H6
  ihave H := (anyA_split n (R := rS 9 n ∪ (rS 12 n ∪ (rS 15 n))) (S := rS 9 n) (T := rS 12 n ∪ (rS 15 n)) (by revert n; decide +kernel) (by revert n; decide +kernel)) $$ H
  icases H with ⟨H9, H⟩
  isplitl [H9]; · iexact H9
  ihave H := (anyA_split n (R := rS 12 n ∪ (rS 15 n)) (S := rS 12 n) (T := rS 15 n) (by revert n; decide +kernel) (by revert n; decide +kernel)) $$ H
  icases H with ⟨H12, H⟩
  isplitl [H12]; · iexact H12
  iexact H

omit [FloatOps F] in
theorem land_of_bar1 (c : Dev nD) : (barPay 1 c : sProp 𝕄) ⊢ iprop(land 1 c ∗ land 4 c ∗ land 7 c ∗ land 10 c ∗ land 13 c ∗ land 16 c) := by
  have h : (barPay 1 c : sProp 𝕄) = anyA (nbr 1 c) (LS 1 (nbr 1 c)) := rfl
  rw [h, land_eq 1, land_eq 4, land_eq 7, land_eq 10, land_eq 13, land_eq 16]
  show _ ⊢ iprop(anyA (nbr 1 c) (rS 1 (nbr 1 c)) ∗ anyA (nbr 1 c) (rS 4 (nbr 1 c)) ∗ anyA (nbr 1 c) (rS 7 (nbr 1 c)) ∗ anyA (nbr 1 c) (rS 10 (nbr 1 c)) ∗ anyA (nbr 1 c) (rS 13 (nbr 1 c)) ∗ anyA (nbr 1 c) (rS 16 (nbr 1 c)))
  generalize nbr 1 c = n
  iintro H
  ihave H := (anyA_split n (R := LS 1 n) (S := rS 1 n) (T := rS 4 n ∪ (rS 7 n ∪ (rS 10 n ∪ (rS 13 n ∪ (rS 16 n))))) (by revert n; decide +kernel) (by revert n; decide +kernel)) $$ H
  icases H with ⟨H1, H⟩
  isplitl [H1]; · iexact H1
  ihave H := (anyA_split n (R := rS 4 n ∪ (rS 7 n ∪ (rS 10 n ∪ (rS 13 n ∪ (rS 16 n))))) (S := rS 4 n) (T := rS 7 n ∪ (rS 10 n ∪ (rS 13 n ∪ (rS 16 n)))) (by revert n; decide +kernel) (by revert n; decide +kernel)) $$ H
  icases H with ⟨H4, H⟩
  isplitl [H4]; · iexact H4
  ihave H := (anyA_split n (R := rS 7 n ∪ (rS 10 n ∪ (rS 13 n ∪ (rS 16 n)))) (S := rS 7 n) (T := rS 10 n ∪ (rS 13 n ∪ (rS 16 n))) (by revert n; decide +kernel) (by revert n; decide +kernel)) $$ H
  icases H with ⟨H7, H⟩
  isplitl [H7]; · iexact H7
  ihave H := (anyA_split n (R := rS 10 n ∪ (rS 13 n ∪ (rS 16 n))) (S := rS 10 n) (T := rS 13 n ∪ (rS 16 n)) (by revert n; decide +kernel) (by revert n; decide +kernel)) $$ H
  icases H with ⟨H10, H⟩
  isplitl [H10]; · iexact H10
  ihave H := (anyA_split n (R := rS 13 n ∪ (rS 16 n)) (S := rS 13 n) (T := rS 16 n) (by revert n; decide +kernel) (by revert n; decide +kernel)) $$ H
  icases H with ⟨H13, H⟩
  isplitl [H13]; · iexact H13
  iexact H

omit [FloatOps F] in
theorem land_of_bar2 (c : Dev nD) : (barPay 2 c : sProp 𝕄) ⊢ iprop(land 2 c ∗ land 5 c ∗ land 8 c ∗ land 11 c ∗ land 14 c) := by
  have h : (barPay 2 c : sProp 𝕄) = anyA (nbr 2 c) (LS 2 (nbr 2 c)) := rfl
  rw [h, land_eq 2, land_eq 5, land_eq 8, land_eq 11, land_eq 14]
  show _ ⊢ iprop(anyA (nbr 2 c) (rS 2 (nbr 2 c)) ∗ anyA (nbr 2 c) (rS 5 (nbr 2 c)) ∗ anyA (nbr 2 c) (rS 8 (nbr 2 c)) ∗ anyA (nbr 2 c) (rS 11 (nbr 2 c)) ∗ anyA (nbr 2 c) (rS 14 (nbr 2 c)))
  generalize nbr 2 c = n
  iintro H
  ihave H := (anyA_split n (R := LS 2 n) (S := rS 2 n) (T := rS 5 n ∪ (rS 8 n ∪ (rS 11 n ∪ (rS 14 n)))) (by revert n; decide +kernel) (by revert n; decide +kernel)) $$ H
  icases H with ⟨H2, H⟩
  isplitl [H2]; · iexact H2
  ihave H := (anyA_split n (R := rS 5 n ∪ (rS 8 n ∪ (rS 11 n ∪ (rS 14 n)))) (S := rS 5 n) (T := rS 8 n ∪ (rS 11 n ∪ (rS 14 n))) (by revert n; decide +kernel) (by revert n; decide +kernel)) $$ H
  icases H with ⟨H5, H⟩
  isplitl [H5]; · iexact H5
  ihave H := (anyA_split n (R := rS 8 n ∪ (rS 11 n ∪ (rS 14 n))) (S := rS 8 n) (T := rS 11 n ∪ (rS 14 n)) (by revert n; decide +kernel) (by revert n; decide +kernel)) $$ H
  icases H with ⟨H8, H⟩
  isplitl [H8]; · iexact H8
  ihave H := (anyA_split n (R := rS 11 n ∪ (rS 14 n)) (S := rS 11 n) (T := rS 14 n) (by revert n; decide +kernel) (by revert n; decide +kernel)) $$ H
  icases H with ⟨H11, H⟩
  isplitl [H11]; · iexact H11
  iexact H

omit [FloatOps F] in
theorem split_all (c : Dev nD) : (anyA c Finset.univ : sProp 𝕄) ⊢ iprop(anyA c (sl 0 Finset.univ c) ∗ anyA c (LS 0 c) ∗ anyA c (LS 1 c) ∗ anyA c (LS 2 c)) := by
  iintro H
  ihave H := (anyA_split c (R := Finset.univ) (S := sl 0 Finset.univ c) (T := LS 0 c ∪ (LS 1 c ∪ LS 2 c)) (by revert c; decide +kernel) (by revert c; decide +kernel)) $$ H
  icases H with ⟨Ha, H⟩
  isplitl [Ha]; · iexact Ha
  ihave H := (anyA_split c (R := LS 0 c ∪ (LS 1 c ∪ LS 2 c)) (S := LS 0 c) (T := LS 1 c ∪ LS 2 c) (by revert c; decide +kernel) rfl) $$ H
  icases H with ⟨Ha, H⟩
  isplitl [Ha]; · iexact Ha
  iapply (anyA_split c (R := LS 1 c ∪ LS 2 c) (S := LS 1 c) (T := LS 2 c) (by revert c; decide +kernel) rfl); iexact H

/-! ## Dividing what landed -/

/-- What of transfers 7, 8, 9 and 11 isn't forwarded. -/
abbrev ex7 (c : Dev nD) : Finset Pc := sl 7 {2} c
abbrev ex8 (c : Dev nD) : Finset Pc := sl 5 {0, 1} c
abbrev ex9 (c : Dev nD) : Finset Pc := sl 2 {3} c
abbrev ex11 (c : Dev nD) : Finset Pc := sl 5 {4} c

theorem recv_share (i : Fin 17) (c : Dev nD) : (recvPay m ρ i c : sProp 𝕄)
    ⊣⊢ iprop(aP c (rS i c) fullShare.left (allv m ρ) ∗ aP c (rS i c) fullShare.right (allv m ρ)) := aP_share c _ _

theorem aP_two (c : Dev nD) (q : PosShare TreeShare) (R S T : Finset Pc) (h : Disjoint S T) (e : R = S ∪ T) : (aP c R q (allv m ρ) : sProp 𝕄)
    ⊣⊢ iprop(aP c S q (allv m ρ) ∗ aP c T q (allv m ρ)) := by subst e; exact aP_union c h q _

theorem split_0 (c : Dev nD) : (recvPay m ρ 0 c : sProp 𝕄) ⊢ iprop(aP c (rS 0 c) fullShare.left (allv m ρ) ∗ aP c (wS 8 c) fullShare.right (allv m ρ)) := by
  iintro H
  ihave H := (recv_share m ρ 0 c).1 $$ H
  icases H with ⟨Hl, H⟩
  isplitl [Hl]; · iexact Hl
  ihave H := (Entails.of_eq (show (aP c (rS 0 c) fullShare.right (allv m ρ) : sProp 𝕄) = aP c (wS 8 c) fullShare.right (allv m ρ) from rfl)) $$ H
  iexact H
theorem join_0 (c : Dev nD) : iprop(aP c (rS 0 c) fullShare.left (allv m ρ) ∗ aP c (wS 8 c) fullShare.right (allv m ρ)) ⊢ (anyA c (rS 0 c) : sProp 𝕄) := by
  refine BIBase.Entails.trans ?_ (anyA_of_recv m ρ 0 c)
  iintro ⟨Hl, H0⟩
  iapply (recv_share m ρ 0 c).2
  isplitl [Hl]; · iexact Hl
  iapply (Entails.of_eq (show (aP c (wS 8 c) fullShare.right (allv m ρ) : sProp 𝕄) = aP c (rS 0 c) fullShare.right (allv m ρ) from rfl))
  iexact H0
theorem split_1 (c : Dev nD) : (recvPay m ρ 1 c : sProp 𝕄) ⊢ iprop(aP c (rS 1 c) fullShare.left (allv m ρ) ∗ aP c (wS 6 c) fullShare.right (allv m ρ)) := by
  iintro H
  ihave H := (recv_share m ρ 1 c).1 $$ H
  icases H with ⟨Hl, H⟩
  isplitl [Hl]; · iexact Hl
  ihave H := (Entails.of_eq (show (aP c (rS 1 c) fullShare.right (allv m ρ) : sProp 𝕄) = aP c (wS 6 c) fullShare.right (allv m ρ) from rfl)) $$ H
  iexact H
theorem join_1 (c : Dev nD) : iprop(aP c (rS 1 c) fullShare.left (allv m ρ) ∗ aP c (wS 6 c) fullShare.right (allv m ρ)) ⊢ (anyA c (rS 1 c) : sProp 𝕄) := by
  refine BIBase.Entails.trans ?_ (anyA_of_recv m ρ 1 c)
  iintro ⟨Hl, H0⟩
  iapply (recv_share m ρ 1 c).2
  isplitl [Hl]; · iexact Hl
  iapply (Entails.of_eq (show (aP c (wS 6 c) fullShare.right (allv m ρ) : sProp 𝕄) = aP c (rS 1 c) fullShare.right (allv m ρ) from rfl))
  iexact H0
theorem split_2 (c : Dev nD) : (recvPay m ρ 2 c : sProp 𝕄) ⊢ iprop(aP c (rS 2 c) fullShare.left (allv m ρ) ∗ aP c (wS 7 c) fullShare.right (allv m ρ)) := by
  iintro H
  ihave H := (recv_share m ρ 2 c).1 $$ H
  icases H with ⟨Hl, H⟩
  isplitl [Hl]; · iexact Hl
  ihave H := (Entails.of_eq (show (aP c (rS 2 c) fullShare.right (allv m ρ) : sProp 𝕄) = aP c (wS 7 c) fullShare.right (allv m ρ) from rfl)) $$ H
  iexact H
theorem join_2 (c : Dev nD) : iprop(aP c (rS 2 c) fullShare.left (allv m ρ) ∗ aP c (wS 7 c) fullShare.right (allv m ρ)) ⊢ (anyA c (rS 2 c) : sProp 𝕄) := by
  refine BIBase.Entails.trans ?_ (anyA_of_recv m ρ 2 c)
  iintro ⟨Hl, H0⟩
  iapply (recv_share m ρ 2 c).2
  isplitl [Hl]; · iexact Hl
  iapply (Entails.of_eq (show (aP c (wS 7 c) fullShare.right (allv m ρ) : sProp 𝕄) = aP c (rS 2 c) fullShare.right (allv m ρ) from rfl))
  iexact H0
theorem split_3 (c : Dev nD) : (recvPay m ρ 3 c : sProp 𝕄) ⊢ iprop(aP c (rS 3 c) fullShare.left (allv m ρ) ∗ aP c (wS 11 c) fullShare.right (allv m ρ)) := by
  iintro H
  ihave H := (recv_share m ρ 3 c).1 $$ H
  icases H with ⟨Hl, H⟩
  isplitl [Hl]; · iexact Hl
  ihave H := (Entails.of_eq (show (aP c (rS 3 c) fullShare.right (allv m ρ) : sProp 𝕄) = aP c (wS 11 c) fullShare.right (allv m ρ) from rfl)) $$ H
  iexact H
theorem join_3 (c : Dev nD) : iprop(aP c (rS 3 c) fullShare.left (allv m ρ) ∗ aP c (wS 11 c) fullShare.right (allv m ρ)) ⊢ (anyA c (rS 3 c) : sProp 𝕄) := by
  refine BIBase.Entails.trans ?_ (anyA_of_recv m ρ 3 c)
  iintro ⟨Hl, H0⟩
  iapply (recv_share m ρ 3 c).2
  isplitl [Hl]; · iexact Hl
  iapply (Entails.of_eq (show (aP c (wS 11 c) fullShare.right (allv m ρ) : sProp 𝕄) = aP c (rS 3 c) fullShare.right (allv m ρ) from rfl))
  iexact H0
theorem split_4 (c : Dev nD) : (recvPay m ρ 4 c : sProp 𝕄) ⊢ iprop(aP c (rS 4 c) fullShare.left (allv m ρ) ∗ aP c (wS 9 c) fullShare.right (allv m ρ)) := by
  iintro H
  ihave H := (recv_share m ρ 4 c).1 $$ H
  icases H with ⟨Hl, H⟩
  isplitl [Hl]; · iexact Hl
  ihave H := (Entails.of_eq (show (aP c (rS 4 c) fullShare.right (allv m ρ) : sProp 𝕄) = aP c (wS 9 c) fullShare.right (allv m ρ) from rfl)) $$ H
  iexact H
theorem join_4 (c : Dev nD) : iprop(aP c (rS 4 c) fullShare.left (allv m ρ) ∗ aP c (wS 9 c) fullShare.right (allv m ρ)) ⊢ (anyA c (rS 4 c) : sProp 𝕄) := by
  refine BIBase.Entails.trans ?_ (anyA_of_recv m ρ 4 c)
  iintro ⟨Hl, H0⟩
  iapply (recv_share m ρ 4 c).2
  isplitl [Hl]; · iexact Hl
  iapply (Entails.of_eq (show (aP c (wS 9 c) fullShare.right (allv m ρ) : sProp 𝕄) = aP c (rS 4 c) fullShare.right (allv m ρ) from rfl))
  iexact H0
theorem split_5 (c : Dev nD) : (recvPay m ρ 5 c : sProp 𝕄) ⊢ iprop(aP c (rS 5 c) fullShare.left (allv m ρ) ∗ aP c (wS 10 c) fullShare.right (allv m ρ)) := by
  iintro H
  ihave H := (recv_share m ρ 5 c).1 $$ H
  icases H with ⟨Hl, H⟩
  isplitl [Hl]; · iexact Hl
  ihave H := (Entails.of_eq (show (aP c (rS 5 c) fullShare.right (allv m ρ) : sProp 𝕄) = aP c (wS 10 c) fullShare.right (allv m ρ) from rfl)) $$ H
  iexact H
theorem join_5 (c : Dev nD) : iprop(aP c (rS 5 c) fullShare.left (allv m ρ) ∗ aP c (wS 10 c) fullShare.right (allv m ρ)) ⊢ (anyA c (rS 5 c) : sProp 𝕄) := by
  refine BIBase.Entails.trans ?_ (anyA_of_recv m ρ 5 c)
  iintro ⟨Hl, H0⟩
  iapply (recv_share m ρ 5 c).2
  isplitl [Hl]; · iexact Hl
  iapply (Entails.of_eq (show (aP c (wS 10 c) fullShare.right (allv m ρ) : sProp 𝕄) = aP c (rS 5 c) fullShare.right (allv m ρ) from rfl))
  iexact H0
theorem split_6 (c : Dev nD) : (recvPay m ρ 6 c : sProp 𝕄) ⊢ iprop(aP c (rS 6 c) fullShare.left (allv m ρ) ∗ aP c (rS 6 c) fullShare.right (allv m ρ)) := by
  iintro H
  ihave H := (recv_share m ρ 6 c).1 $$ H
  icases H with ⟨Hl, H⟩
  isplitl [Hl]; · iexact Hl
  ihave H := (Entails.of_eq (show (aP c (rS 6 c) fullShare.right (allv m ρ) : sProp 𝕄) = aP c (rS 6 c) fullShare.right (allv m ρ) from rfl)) $$ H
  iexact H
theorem join_6 (c : Dev nD) : iprop(aP c (rS 6 c) fullShare.left (allv m ρ) ∗ aP c (rS 6 c) fullShare.right (allv m ρ)) ⊢ (anyA c (rS 6 c) : sProp 𝕄) := by
  refine BIBase.Entails.trans ?_ (anyA_of_recv m ρ 6 c)
  iintro ⟨Hl, H0⟩
  iapply (recv_share m ρ 6 c).2
  isplitl [Hl]; · iexact Hl
  iapply (Entails.of_eq (show (aP c (rS 6 c) fullShare.right (allv m ρ) : sProp 𝕄) = aP c (rS 6 c) fullShare.right (allv m ρ) from rfl))
  iexact H0
theorem split_7 (c : Dev nD) : (recvPay m ρ 7 c : sProp 𝕄) ⊢ iprop(aP c (rS 7 c) fullShare.left (allv m ρ) ∗ aP c (wS 12 c) fullShare.right (allv m ρ) ∗ aP c (wS 15 c) fullShare.right (allv m ρ) ∗ aP c (ex7 c) fullShare.right (allv m ρ)) := by
  iintro H
  ihave H := (recv_share m ρ 7 c).1 $$ H
  icases H with ⟨Hl, H⟩
  isplitl [Hl]; · iexact Hl
  ihave H := (aP_two m ρ c fullShare.right (rS 7 c) (wS 12 c) ((wS 15 c) ∪ (ex7 c)) (by revert c; decide +kernel) (by revert c; decide +kernel)).1 $$ H
  icases H with ⟨Hl, H⟩
  isplitl [Hl]; · iexact Hl
  ihave H := (aP_two m ρ c fullShare.right ((wS 15 c) ∪ (ex7 c)) (wS 15 c) ((ex7 c)) (by revert c; decide +kernel) (by revert c; decide +kernel)).1 $$ H
  icases H with ⟨Hl, H⟩
  isplitl [Hl]; · iexact Hl
  iexact H
theorem join_7 (c : Dev nD) : iprop(aP c (rS 7 c) fullShare.left (allv m ρ) ∗ aP c (wS 12 c) fullShare.right (allv m ρ) ∗ aP c (wS 15 c) fullShare.right (allv m ρ) ∗ aP c (ex7 c) fullShare.right (allv m ρ)) ⊢ (anyA c (rS 7 c) : sProp 𝕄) := by
  refine BIBase.Entails.trans ?_ (anyA_of_recv m ρ 7 c)
  iintro ⟨Hl, H0, H1, H2⟩
  iapply (recv_share m ρ 7 c).2
  isplitl [Hl]; · iexact Hl
  iapply (aP_two m ρ c fullShare.right (rS 7 c) (wS 12 c) ((wS 15 c) ∪ (ex7 c)) (by revert c; decide +kernel) (by revert c; decide +kernel)).2
  isplitl [H0]; · iexact H0
  iapply (aP_two m ρ c fullShare.right ((wS 15 c) ∪ (ex7 c)) (wS 15 c) ((ex7 c)) (by revert c; decide +kernel) (by revert c; decide +kernel)).2
  isplitl [H1]; · iexact H1
  iexact H2
theorem split_8 (c : Dev nD) : (recvPay m ρ 8 c : sProp 𝕄) ⊢ iprop(aP c (rS 8 c) fullShare.left (allv m ρ) ∗ aP c (wS 13 c) fullShare.right (allv m ρ) ∗ aP c (ex8 c) fullShare.right (allv m ρ)) := by
  iintro H
  ihave H := (recv_share m ρ 8 c).1 $$ H
  icases H with ⟨Hl, H⟩
  isplitl [Hl]; · iexact Hl
  ihave H := (aP_two m ρ c fullShare.right (rS 8 c) (wS 13 c) ((ex8 c)) (by revert c; decide +kernel) (by revert c; decide +kernel)).1 $$ H
  icases H with ⟨Hl, H⟩
  isplitl [Hl]; · iexact Hl
  iexact H
theorem join_8 (c : Dev nD) : iprop(aP c (rS 8 c) fullShare.left (allv m ρ) ∗ aP c (wS 13 c) fullShare.right (allv m ρ) ∗ aP c (ex8 c) fullShare.right (allv m ρ)) ⊢ (anyA c (rS 8 c) : sProp 𝕄) := by
  refine BIBase.Entails.trans ?_ (anyA_of_recv m ρ 8 c)
  iintro ⟨Hl, H0, H1⟩
  iapply (recv_share m ρ 8 c).2
  isplitl [Hl]; · iexact Hl
  iapply (aP_two m ρ c fullShare.right (rS 8 c) (wS 13 c) ((ex8 c)) (by revert c; decide +kernel) (by revert c; decide +kernel)).2
  isplitl [H0]; · iexact H0
  iexact H1
theorem split_9 (c : Dev nD) : (recvPay m ρ 9 c : sProp 𝕄) ⊢ iprop(aP c (rS 9 c) fullShare.left (allv m ρ) ∗ aP c (wS 14 c) fullShare.right (allv m ρ) ∗ aP c (ex9 c) fullShare.right (allv m ρ)) := by
  iintro H
  ihave H := (recv_share m ρ 9 c).1 $$ H
  icases H with ⟨Hl, H⟩
  isplitl [Hl]; · iexact Hl
  ihave H := (aP_two m ρ c fullShare.right (rS 9 c) (wS 14 c) ((ex9 c)) (by revert c; decide +kernel) (by revert c; decide +kernel)).1 $$ H
  icases H with ⟨Hl, H⟩
  isplitl [Hl]; · iexact Hl
  iexact H
theorem join_9 (c : Dev nD) : iprop(aP c (rS 9 c) fullShare.left (allv m ρ) ∗ aP c (wS 14 c) fullShare.right (allv m ρ) ∗ aP c (ex9 c) fullShare.right (allv m ρ)) ⊢ (anyA c (rS 9 c) : sProp 𝕄) := by
  refine BIBase.Entails.trans ?_ (anyA_of_recv m ρ 9 c)
  iintro ⟨Hl, H0, H1⟩
  iapply (recv_share m ρ 9 c).2
  isplitl [Hl]; · iexact Hl
  iapply (aP_two m ρ c fullShare.right (rS 9 c) (wS 14 c) ((ex9 c)) (by revert c; decide +kernel) (by revert c; decide +kernel)).2
  isplitl [H0]; · iexact H0
  iexact H1
theorem split_10 (c : Dev nD) : (recvPay m ρ 10 c : sProp 𝕄) ⊢ iprop(aP c (rS 10 c) fullShare.left (allv m ρ) ∗ aP c (rS 10 c) fullShare.right (allv m ρ)) := by
  iintro H
  ihave H := (recv_share m ρ 10 c).1 $$ H
  icases H with ⟨Hl, H⟩
  isplitl [Hl]; · iexact Hl
  ihave H := (Entails.of_eq (show (aP c (rS 10 c) fullShare.right (allv m ρ) : sProp 𝕄) = aP c (rS 10 c) fullShare.right (allv m ρ) from rfl)) $$ H
  iexact H
theorem join_10 (c : Dev nD) : iprop(aP c (rS 10 c) fullShare.left (allv m ρ) ∗ aP c (rS 10 c) fullShare.right (allv m ρ)) ⊢ (anyA c (rS 10 c) : sProp 𝕄) := by
  refine BIBase.Entails.trans ?_ (anyA_of_recv m ρ 10 c)
  iintro ⟨Hl, H0⟩
  iapply (recv_share m ρ 10 c).2
  isplitl [Hl]; · iexact Hl
  iapply (Entails.of_eq (show (aP c (rS 10 c) fullShare.right (allv m ρ) : sProp 𝕄) = aP c (rS 10 c) fullShare.right (allv m ρ) from rfl))
  iexact H0
theorem split_11 (c : Dev nD) : (recvPay m ρ 11 c : sProp 𝕄) ⊢ iprop(aP c (rS 11 c) fullShare.left (allv m ρ) ∗ aP c (wS 16 c) fullShare.right (allv m ρ) ∗ aP c (ex11 c) fullShare.right (allv m ρ)) := by
  iintro H
  ihave H := (recv_share m ρ 11 c).1 $$ H
  icases H with ⟨Hl, H⟩
  isplitl [Hl]; · iexact Hl
  ihave H := (aP_two m ρ c fullShare.right (rS 11 c) (wS 16 c) ((ex11 c)) (by revert c; decide +kernel) (by revert c; decide +kernel)).1 $$ H
  icases H with ⟨Hl, H⟩
  isplitl [Hl]; · iexact Hl
  iexact H
theorem join_11 (c : Dev nD) : iprop(aP c (rS 11 c) fullShare.left (allv m ρ) ∗ aP c (wS 16 c) fullShare.right (allv m ρ) ∗ aP c (ex11 c) fullShare.right (allv m ρ)) ⊢ (anyA c (rS 11 c) : sProp 𝕄) := by
  refine BIBase.Entails.trans ?_ (anyA_of_recv m ρ 11 c)
  iintro ⟨Hl, H0, H1⟩
  iapply (recv_share m ρ 11 c).2
  isplitl [Hl]; · iexact Hl
  iapply (aP_two m ρ c fullShare.right (rS 11 c) (wS 16 c) ((ex11 c)) (by revert c; decide +kernel) (by revert c; decide +kernel)).2
  isplitl [H0]; · iexact H0
  iexact H1

/-- The pieces of the far corner's experts, together. -/
theorem corner (c : Dev nD) : iprop(recvPay m ρ 12 c ∗ recvPay m ρ 13 c ∗ recvPay m ρ 14 c ∗ recvPay m ρ 15 c ∗ recvPay m ρ 16 c) ⊢ (aP c (sl 6 Finset.univ c) fullShare (allv m ρ) : sProp 𝕄) := by
  unfold recvPay
  iintro ⟨H12, H13, H14, H15, H16⟩
  iapply (aP_two m ρ c fullShare (sl 6 Finset.univ c) (rS 12 c) (rS 13 c ∪ (rS 14 c ∪ (rS 15 c ∪ (rS 16 c)))) (by revert c; decide +kernel) (by revert c; decide +kernel)).2
  isplitl [H12]; · iexact H12
  iapply (aP_two m ρ c fullShare (rS 13 c ∪ (rS 14 c ∪ (rS 15 c ∪ (rS 16 c)))) (rS 13 c) (rS 14 c ∪ (rS 15 c ∪ (rS 16 c))) (by revert c; decide +kernel) (by revert c; decide +kernel)).2
  isplitl [H13]; · iexact H13
  iapply (aP_two m ρ c fullShare (rS 14 c ∪ (rS 15 c ∪ (rS 16 c))) (rS 14 c) (rS 15 c ∪ (rS 16 c)) (by revert c; decide +kernel) (by revert c; decide +kernel)).2
  isplitl [H14]; · iexact H14
  iapply (aP_two m ρ c fullShare (rS 15 c ∪ (rS 16 c)) (rS 15 c) (rS 16 c) (by revert c; decide +kernel) (by revert c; decide +kernel)).2
  isplitl [H15]; · iexact H15
  iexact H16

omit [FloatOps F] in
/-- The whole gathered buffer from its pieces. -/
theorem join_all (c : Dev nD) : iprop(anyA c (sl 0 Finset.univ c) ∗ anyA c (sl 6 Finset.univ c) ∗ anyA c (rS 0 c) ∗ anyA c (rS 1 c) ∗ anyA c (rS 2 c) ∗ anyA c (rS 3 c) ∗ anyA c (rS 4 c) ∗ anyA c (rS 5 c) ∗ anyA c (rS 6 c) ∗ anyA c (rS 7 c) ∗ anyA c (rS 8 c) ∗ anyA c (rS 9 c) ∗ anyA c (rS 10 c) ∗ anyA c (rS 11 c)) ⊢ (anyA c Finset.univ : sProp 𝕄) := by
  iintro ⟨Ho, Hc, H0, H1, H2, H3, H4, H5, H6, H7, H8, H9, H10, H11⟩
  iapply (anyA_join c (R := Finset.univ) (S := sl 0 Finset.univ c) (T := sl 6 Finset.univ c ∪ (rS 0 c ∪ (rS 1 c ∪ (rS 2 c ∪ (rS 3 c ∪ (rS 4 c ∪ (rS 5 c ∪ (rS 6 c ∪ (rS 7 c ∪ (rS 8 c ∪ (rS 9 c ∪ (rS 10 c ∪ (rS 11 c))))))))))))) (by revert c; decide +kernel) (by revert c; decide +kernel))
  isplitl [Ho]; · iexact Ho
  iapply (anyA_join c (R := sl 6 Finset.univ c ∪ (rS 0 c ∪ (rS 1 c ∪ (rS 2 c ∪ (rS 3 c ∪ (rS 4 c ∪ (rS 5 c ∪ (rS 6 c ∪ (rS 7 c ∪ (rS 8 c ∪ (rS 9 c ∪ (rS 10 c ∪ (rS 11 c))))))))))))) (S := sl 6 Finset.univ c) (T := rS 0 c ∪ (rS 1 c ∪ (rS 2 c ∪ (rS 3 c ∪ (rS 4 c ∪ (rS 5 c ∪ (rS 6 c ∪ (rS 7 c ∪ (rS 8 c ∪ (rS 9 c ∪ (rS 10 c ∪ (rS 11 c)))))))))))) (by revert c; decide +kernel) (rfl))
  isplitl [Hc]; · iexact Hc
  iapply (anyA_join c (R := rS 0 c ∪ (rS 1 c ∪ (rS 2 c ∪ (rS 3 c ∪ (rS 4 c ∪ (rS 5 c ∪ (rS 6 c ∪ (rS 7 c ∪ (rS 8 c ∪ (rS 9 c ∪ (rS 10 c ∪ (rS 11 c)))))))))))) (S := rS 0 c) (T := rS 1 c ∪ (rS 2 c ∪ (rS 3 c ∪ (rS 4 c ∪ (rS 5 c ∪ (rS 6 c ∪ (rS 7 c ∪ (rS 8 c ∪ (rS 9 c ∪ (rS 10 c ∪ (rS 11 c))))))))))) (by revert c; decide +kernel) (rfl))
  isplitl [H0]; · iexact H0
  iapply (anyA_join c (R := rS 1 c ∪ (rS 2 c ∪ (rS 3 c ∪ (rS 4 c ∪ (rS 5 c ∪ (rS 6 c ∪ (rS 7 c ∪ (rS 8 c ∪ (rS 9 c ∪ (rS 10 c ∪ (rS 11 c))))))))))) (S := rS 1 c) (T := rS 2 c ∪ (rS 3 c ∪ (rS 4 c ∪ (rS 5 c ∪ (rS 6 c ∪ (rS 7 c ∪ (rS 8 c ∪ (rS 9 c ∪ (rS 10 c ∪ (rS 11 c)))))))))) (by revert c; decide +kernel) (rfl))
  isplitl [H1]; · iexact H1
  iapply (anyA_join c (R := rS 2 c ∪ (rS 3 c ∪ (rS 4 c ∪ (rS 5 c ∪ (rS 6 c ∪ (rS 7 c ∪ (rS 8 c ∪ (rS 9 c ∪ (rS 10 c ∪ (rS 11 c)))))))))) (S := rS 2 c) (T := rS 3 c ∪ (rS 4 c ∪ (rS 5 c ∪ (rS 6 c ∪ (rS 7 c ∪ (rS 8 c ∪ (rS 9 c ∪ (rS 10 c ∪ (rS 11 c))))))))) (by revert c; decide +kernel) (rfl))
  isplitl [H2]; · iexact H2
  iapply (anyA_join c (R := rS 3 c ∪ (rS 4 c ∪ (rS 5 c ∪ (rS 6 c ∪ (rS 7 c ∪ (rS 8 c ∪ (rS 9 c ∪ (rS 10 c ∪ (rS 11 c))))))))) (S := rS 3 c) (T := rS 4 c ∪ (rS 5 c ∪ (rS 6 c ∪ (rS 7 c ∪ (rS 8 c ∪ (rS 9 c ∪ (rS 10 c ∪ (rS 11 c)))))))) (by revert c; decide +kernel) (rfl))
  isplitl [H3]; · iexact H3
  iapply (anyA_join c (R := rS 4 c ∪ (rS 5 c ∪ (rS 6 c ∪ (rS 7 c ∪ (rS 8 c ∪ (rS 9 c ∪ (rS 10 c ∪ (rS 11 c)))))))) (S := rS 4 c) (T := rS 5 c ∪ (rS 6 c ∪ (rS 7 c ∪ (rS 8 c ∪ (rS 9 c ∪ (rS 10 c ∪ (rS 11 c))))))) (by revert c; decide +kernel) (rfl))
  isplitl [H4]; · iexact H4
  iapply (anyA_join c (R := rS 5 c ∪ (rS 6 c ∪ (rS 7 c ∪ (rS 8 c ∪ (rS 9 c ∪ (rS 10 c ∪ (rS 11 c))))))) (S := rS 5 c) (T := rS 6 c ∪ (rS 7 c ∪ (rS 8 c ∪ (rS 9 c ∪ (rS 10 c ∪ (rS 11 c)))))) (by revert c; decide +kernel) (rfl))
  isplitl [H5]; · iexact H5
  iapply (anyA_join c (R := rS 6 c ∪ (rS 7 c ∪ (rS 8 c ∪ (rS 9 c ∪ (rS 10 c ∪ (rS 11 c)))))) (S := rS 6 c) (T := rS 7 c ∪ (rS 8 c ∪ (rS 9 c ∪ (rS 10 c ∪ (rS 11 c))))) (by revert c; decide +kernel) (rfl))
  isplitl [H6]; · iexact H6
  iapply (anyA_join c (R := rS 7 c ∪ (rS 8 c ∪ (rS 9 c ∪ (rS 10 c ∪ (rS 11 c))))) (S := rS 7 c) (T := rS 8 c ∪ (rS 9 c ∪ (rS 10 c ∪ (rS 11 c)))) (by revert c; decide +kernel) (rfl))
  isplitl [H7]; · iexact H7
  iapply (anyA_join c (R := rS 8 c ∪ (rS 9 c ∪ (rS 10 c ∪ (rS 11 c)))) (S := rS 8 c) (T := rS 9 c ∪ (rS 10 c ∪ (rS 11 c))) (by revert c; decide +kernel) (rfl))
  isplitl [H8]; · iexact H8
  iapply (anyA_join c (R := rS 9 c ∪ (rS 10 c ∪ (rS 11 c))) (S := rS 9 c) (T := rS 10 c ∪ (rS 11 c)) (by revert c; decide +kernel) (rfl))
  isplitl [H9]; · iexact H9
  iapply (anyA_join c (R := rS 10 c ∪ (rS 11 c)) (S := rS 10 c) (T := rS 11 c) (by revert c; decide +kernel) (rfl))
  isplitl [H10]; · iexact H10
  iexact H11

end Cert.K1

end
-- ==== Proof.Vals.lean ====
/-
# The values the kernel computes

Each value a device computes, as a function of the launch: the words it derives from its index, the weights it
routes its rows with, what it stores, and the running sum of its output.
-/
module

public import proofs.«01_k».proof.Proof.Pieces

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Reading all of an owner's experts, held in one piece at a share. -/
theorem step_loadA1 (c : Dev nD) {off size : Fin 4 → Nat} {inb : ∀ a, off a + size a ≤ S8x4x256x512.size a} {S : Finset Pc}
    (hset : (Rect.unit (s := S8x4x256x512) off size inb).set = reg S) (q : PosShare TreeShare)
    {hl : aM.view.LoadsAt (Rect.unit (s := S8x4x256x512) off size inb)} {α : Type} {Q : α → sProp 𝕄}
    {k : ((Rect.unit (s := S8x4x256x512) off size inb).shape.Idx → Elt F .bf16) → Prog (TpuEff nD τ sig (Elt F) Λ₀ .tc) α} :
    aP c S q (allv m ρ)
      ⊢ iprop((aP c S q (allv m ρ) -∗ wp frame (wpE (defs₀ (F := F)) 𝒱₀ (c : Thread nD τ) none) Set.univ
            (k ((aM.access (Rect.unit (s := S8x4x256x512) off size inb)).read (Elt F) (allv m ρ))) Q)
          -∗ wp frame (wpE (defs₀ (F := F)) 𝒱₀ (c : Thread nD τ) none) Set.univ (.op (.load aM (Rect.unit (s := S8x4x256x512) off size inb) hl) k) Q) := by
  iintro H Hk
  ihave H := (show aP c S q (allv m ρ) ⊢ ((aM.access (Rect.unit (s := S8x4x256x512) off size inb)).loc (c : Thread nD τ) ↦[reg S]{q} (allv m ρ)) from Entails.refl _) $$ H
  iapply (wp_load_rect 𝒱₀ (c : Thread nD τ) none Set.univ (m := aM) (r := Rect.unit (s := S8x4x256x512) off size inb)
    (S := reg S) (by rw [← hset]; exact (View.set_slice_whole _ _).subset)) $$ H; iintro H
  iapply Hk
  ihave H := (show ((aM.access (Rect.unit (s := S8x4x256x512) off size inb)).loc (c : Thread nD τ) ↦[reg S]{q} (allv m ρ)) ⊢ aP c S q (allv m ρ) from Entails.refl _) $$ H
  iexact H

/-- Reading the device's own experts at a share. -/
theorem step_loadQ (c : Dev nD) {off size : Fin 3 → Nat} {inb : ∀ a, off a + size a ≤ S4x256x512.size a} (q : PosShare TreeShare)
    {hl : qM.view.LoadsAt (Rect.unit (s := S4x256x512) off size inb)} {α : Type} {Q : α → sProp 𝕄}
    {k : ((Rect.unit (s := S4x256x512) off size inb).shape.Idx → Elt F .bf16) → Prog (TpuEff nD τ sig (Elt F) Λ₀ .tc) α} :
    qP m ρ c Finset.univ q
      ⊢ iprop((qP m ρ c Finset.univ q -∗ wp frame (wpE (defs₀ (F := F)) 𝒱₀ (c : Thread nD τ) none) Set.univ
            (k ((qM.access (Rect.unit (s := S4x256x512) off size inb)).read (Elt F) (qv m ρ c))) Q)
          -∗ wp frame (wpE (defs₀ (F := F)) 𝒱₀ (c : Thread nD τ) none) Set.univ (.op (.load qM (Rect.unit (s := S4x256x512) off size inb) hl) k) Q) := by
  iintro H Hk
  ihave H := (show qP m ρ c Finset.univ q ⊢ ((qM.access (Rect.unit (s := S4x256x512) off size inb)).loc (c : Thread nD τ) ↦[Finset.univ]{q} (qv m ρ c)) from Entails.refl _) $$ H
  iapply (wp_load_rect 𝒱₀ (c : Thread nD τ) none Set.univ (m := qM) (r := Rect.unit (s := S4x256x512) off size inb)
    (S := Finset.univ) (Finset.subset_univ _)) $$ H; iintro H
  iapply Hk
  ihave H := (show ((qM.access (Rect.unit (s := S4x256x512) off size inb)).loc (c : Thread nD τ) ↦[Finset.univ]{q} (qv m ρ c)) ⊢ qP m ρ c Finset.univ q from Entails.refl _) $$ H
  iexact H

/-! ## The values, in the order the kernel computes them -/

abbrev rC0 : Rect S8x512x1024 := Rect.unit (s := S8x512x1024) ![0, 0, 0] S1x512x1024.size inb_S8x512x1024_S1x512x1024_0_0_0
abbrev rC1 : Rect S8x512x1024 := Rect.unit (s := S8x512x1024) ![1, 0, 0] S1x512x1024.size inb_S8x512x1024_S1x512x1024_1_0_0
abbrev rC2 : Rect S8x512x1024 := Rect.unit (s := S8x512x1024) ![2, 0, 0] S1x512x1024.size inb_S8x512x1024_S1x512x1024_2_0_0
abbrev rC3 : Rect S8x512x1024 := Rect.unit (s := S8x512x1024) ![3, 0, 0] S1x512x1024.size inb_S8x512x1024_S1x512x1024_3_0_0
abbrev rC4 : Rect S8x512x1024 := Rect.unit (s := S8x512x1024) ![4, 0, 0] S1x512x1024.size inb_S8x512x1024_S1x512x1024_4_0_0
abbrev rC5 : Rect S8x512x1024 := Rect.unit (s := S8x512x1024) ![5, 0, 0] S1x512x1024.size inb_S8x512x1024_S1x512x1024_5_0_0
abbrev rC6 : Rect S8x512x1024 := Rect.unit (s := S8x512x1024) ![6, 0, 0] S1x512x1024.size inb_S8x512x1024_S1x512x1024_6_0_0
abbrev rC7 : Rect S8x512x1024 := Rect.unit (s := S8x512x1024) ![7, 0, 0] S1x512x1024.size inb_S8x512x1024_S1x512x1024_7_0_0
abbrev rO : Rect S512x512 := Rect.unit (s := S512x512) ![0, 0] S512x512.size inb_S512x512_S512x512_0_0
abbrev V0 (c : Dev nD) : BitVec 32 := Dev.word c
abbrev V1 (c : Dev nD) : BitVec 32 := Scalar.divsi (V0 c) 1#32
abbrev V2 (c : Dev nD) : BitVec 32 := Scalar.remsi (V1 c) 8#32
abbrev V3 (c : Dev nD) : BitVec 32 := Scalar.remsi (V2 c) 4#32
abbrev V4 (c : Dev nD) : BitVec 32 := Scalar.divsi (V2 c) 4#32
abbrev V5 (c : Dev nD) : BitVec 1 := Scalar.cmpi .sgt (V2 c) 0#32
abbrev V6 (c : Dev nD) : BitVec 32 := Scalar.extui (V5 c)
abbrev V7 (c : Dev nD) : BitVec 1 := Scalar.cmpi .slt (V2 c) 0#32
abbrev V8 (c : Dev nD) : BitVec 32 := Scalar.extui (V7 c)
abbrev V9 (c : Dev nD) : BitVec 32 := Scalar.subi (V6 c) (V8 c)
abbrev V10 (c : Dev nD) : BitVec 1 := Scalar.cmpi .sgt 4#32 0#32
abbrev V11 (c : Dev nD) : BitVec 32 := Scalar.extui (V10 c)
abbrev V12 (c : Dev nD) : BitVec 1 := Scalar.cmpi .slt 4#32 0#32
abbrev V13 (c : Dev nD) : BitVec 32 := Scalar.extui (V12 c)
abbrev V14 (c : Dev nD) : BitVec 32 := Scalar.subi (V11 c) (V13 c)
abbrev V15 (c : Dev nD) : BitVec 1 := Scalar.cmpi .ne (V9 c) (V14 c)
abbrev V16 (c : Dev nD) : BitVec 32 := Scalar.remsi (V2 c) 4#32
abbrev V17 (c : Dev nD) : BitVec 1 := Scalar.cmpi .ne (V16 c) 0#32
abbrev V18 (c : Dev nD) : BitVec 1 := Scalar.andi (V15 c) (V17 c)
abbrev V19 (c : Dev nD) : BitVec 32 := Scalar.subi (V4 c) 1#32
abbrev V20 (c : Dev nD) : BitVec 32 := Scalar.select (V18 c) (V19 c) (V4 c)
abbrev V21 (c : Dev nD) : BitVec 32 := Scalar.divsi (V3 c) 2#32
abbrev V22 (c : Dev nD) : BitVec 1 := Scalar.cmpi .sgt (V3 c) 0#32
abbrev V23 (c : Dev nD) : BitVec 32 := Scalar.extui (V22 c)
abbrev V24 (c : Dev nD) : BitVec 1 := Scalar.cmpi .slt (V3 c) 0#32
abbrev V25 (c : Dev nD) : BitVec 32 := Scalar.extui (V24 c)
abbrev V26 (c : Dev nD) : BitVec 32 := Scalar.subi (V23 c) (V25 c)
abbrev V27 (c : Dev nD) : BitVec 1 := Scalar.cmpi .sgt 2#32 0#32
abbrev V28 (c : Dev nD) : BitVec 32 := Scalar.extui (V27 c)
abbrev V29 (c : Dev nD) : BitVec 1 := Scalar.cmpi .slt 2#32 0#32
abbrev V30 (c : Dev nD) : BitVec 32 := Scalar.extui (V29 c)
abbrev V31 (c : Dev nD) : BitVec 32 := Scalar.subi (V28 c) (V30 c)
abbrev V32 (c : Dev nD) : BitVec 1 := Scalar.cmpi .ne (V26 c) (V31 c)
abbrev V33 (c : Dev nD) : BitVec 32 := Scalar.remsi (V3 c) 2#32
abbrev V34 (c : Dev nD) : BitVec 1 := Scalar.cmpi .ne (V33 c) 0#32
abbrev V35 (c : Dev nD) : BitVec 1 := Scalar.andi (V32 c) (V34 c)
abbrev V36 (c : Dev nD) : BitVec 32 := Scalar.subi (V21 c) 1#32
abbrev V37 (c : Dev nD) : BitVec 32 := Scalar.select (V35 c) (V36 c) (V21 c)
abbrev V38 (c : Dev nD) : BitVec 32 := Scalar.addi (V3 c) (V37 c)
abbrev V39 (c : Dev nD) : BitVec 32 := Scalar.remsi (V38 c) 2#32
abbrev V40 (c : Dev nD) : BitVec 32 := Scalar.subi 1#32 (V39 c)
abbrev V41 (c : Dev nD) : BitVec 32 := Scalar.muli (V20 c) 4#32
abbrev V42 (c : Dev nD) : BitVec 32 := Scalar.muli 2#32 (V37 c)
abbrev V43 (c : Dev nD) : BitVec 32 := Scalar.addi (V41 c) (V42 c)
abbrev V44 (c : Dev nD) : BitVec 32 := Scalar.addi (V40 c) (V37 c)
abbrev V45 (c : Dev nD) : BitVec 32 := Scalar.remsi (V44 c) 2#32
abbrev V46 (c : Dev nD) : BitVec 32 := Scalar.addi (V43 c) (V45 c)
abbrev V47 (c : Dev nD) : BitVec 32 := Scalar.subi 1#32 (V37 c)
abbrev V48 (c : Dev nD) : BitVec 32 := Scalar.muli (V20 c) 4#32
abbrev V49 (c : Dev nD) : BitVec 32 := Scalar.muli 2#32 (V47 c)
abbrev V50 (c : Dev nD) : BitVec 32 := Scalar.addi (V48 c) (V49 c)
abbrev V51 (c : Dev nD) : BitVec 32 := Scalar.addi (V39 c) (V47 c)
abbrev V52 (c : Dev nD) : BitVec 32 := Scalar.remsi (V51 c) 2#32
abbrev V53 (c : Dev nD) : BitVec 32 := Scalar.addi (V50 c) (V52 c)
abbrev V54 (c : Dev nD) : BitVec 32 := Scalar.subi 1#32 (V20 c)
abbrev V55 (c : Dev nD) : BitVec 32 := Scalar.muli (V54 c) 4#32
abbrev V56 (c : Dev nD) : BitVec 32 := Scalar.muli 2#32 (V37 c)
abbrev V57 (c : Dev nD) : BitVec 32 := Scalar.addi (V55 c) (V56 c)
abbrev V58 (c : Dev nD) : BitVec 32 := Scalar.addi (V39 c) (V37 c)
abbrev V59 (c : Dev nD) : BitVec 32 := Scalar.remsi (V58 c) 2#32
abbrev V60 (c : Dev nD) : BitVec 32 := Scalar.addi (V57 c) (V59 c)
abbrev V61 (c : Dev nD) : BitVec 32 := Scalar.subi 1#32 (V39 c)
abbrev V62 (c : Dev nD) : BitVec 32 := Scalar.subi 1#32 (V37 c)
abbrev V63 (c : Dev nD) : BitVec 32 := Scalar.muli (V20 c) 4#32
abbrev V64 (c : Dev nD) : BitVec 32 := Scalar.muli 2#32 (V62 c)
abbrev V65 (c : Dev nD) : BitVec 32 := Scalar.addi (V63 c) (V64 c)
abbrev V66 (c : Dev nD) : BitVec 32 := Scalar.addi (V61 c) (V62 c)
abbrev V67 (c : Dev nD) : BitVec 32 := Scalar.remsi (V66 c) 2#32
abbrev V68 (c : Dev nD) : BitVec 32 := Scalar.addi (V65 c) (V67 c)
abbrev V69 (c : Dev nD) : BitVec 32 := Scalar.subi 1#32 (V39 c)
abbrev V70 (c : Dev nD) : BitVec 32 := Scalar.subi 1#32 (V20 c)
abbrev V71 (c : Dev nD) : BitVec 32 := Scalar.muli (V70 c) 4#32
abbrev V72 (c : Dev nD) : BitVec 32 := Scalar.muli 2#32 (V37 c)
abbrev V73 (c : Dev nD) : BitVec 32 := Scalar.addi (V71 c) (V72 c)
abbrev V74 (c : Dev nD) : BitVec 32 := Scalar.addi (V69 c) (V37 c)
abbrev V75 (c : Dev nD) : BitVec 32 := Scalar.remsi (V74 c) 2#32
abbrev V76 (c : Dev nD) : BitVec 32 := Scalar.addi (V73 c) (V75 c)
abbrev V77 (c : Dev nD) : BitVec 32 := Scalar.subi 1#32 (V37 c)
abbrev V78 (c : Dev nD) : BitVec 32 := Scalar.subi 1#32 (V20 c)
abbrev V79 (c : Dev nD) : BitVec 32 := Scalar.muli (V78 c) 4#32
abbrev V80 (c : Dev nD) : BitVec 32 := Scalar.muli 2#32 (V77 c)
abbrev V81 (c : Dev nD) : BitVec 32 := Scalar.addi (V79 c) (V80 c)
abbrev V82 (c : Dev nD) : BitVec 32 := Scalar.addi (V39 c) (V77 c)
abbrev V83 (c : Dev nD) : BitVec 32 := Scalar.remsi (V82 c) 2#32
abbrev V84 (c : Dev nD) : BitVec 32 := Scalar.addi (V81 c) (V83 c)
abbrev V85 (c : Dev nD) : BitVec 32 := Scalar.subi 1#32 (V39 c)
abbrev V86 (c : Dev nD) : BitVec 32 := Scalar.subi 1#32 (V37 c)
abbrev V87 (c : Dev nD) : BitVec 32 := Scalar.subi 1#32 (V20 c)
abbrev V88 (c : Dev nD) : BitVec 32 := Scalar.muli (V87 c) 4#32
abbrev V89 (c : Dev nD) : BitVec 32 := Scalar.muli 2#32 (V86 c)
abbrev V90 (c : Dev nD) : BitVec 32 := Scalar.addi (V88 c) (V89 c)
abbrev V91 (c : Dev nD) : BitVec 32 := Scalar.addi (V85 c) (V86 c)
abbrev V92 (c : Dev nD) : BitVec 32 := Scalar.remsi (V91 c) 2#32
abbrev V93 (c : Dev nD) : BitVec 32 := Scalar.addi (V90 c) (V92 c)
abbrev V94 (m : (ℓ : Loc nD τ sig) → Buf (Elt F) ℓ) (ρ : Dev nD → PrngReg) (c : Dev nD) : Vec F S512x256 .f32 := xM.view.readAt (Elt F) (Rect.unit (s := S512x256) ![0, 0] S512x256.size inb_S512x256_S512x256_0_0).toLoadRect (xstg m ρ c)
abbrev V96 (m : (ℓ : Loc nD τ sig) → Buf (Elt F) ℓ) (ρ : Dev nD → PrngReg) (c : Dev nD) : Vec F S256x32 .f32 := rwM.view.readAt (Elt F) (Rect.unit (s := S256x32) ![0, 0] S256x32.size inb_S256x32_S256x32_0_0).toLoadRect (rwstg m ρ c)
abbrev V108 (m : (ℓ : Loc nD τ sig) → Buf (Elt F) ℓ) (ρ : Dev nD → PrngReg) (c : Dev nD) : Vec F S512x1 .i32 := ixM.view.readAt (Elt F) (Rect.unit (s := S512x2) ![0, 0] S512x1.size inb_S512x2_S512x1_0_0).toLoadRect (ixstg m ρ c)
abbrev V110 (m : (ℓ : Loc nD τ sig) → Buf (Elt F) ℓ) (ρ : Dev nD → PrngReg) (c : Dev nD) : Vec F S512x1 .i32 := ixM.view.readAt (Elt F) (Rect.unit (s := S512x2) ![0, 1] S512x1.size inb_S512x2_S512x1_0_1).toLoadRect (ixstg m ρ c)
abbrev V112 (m : (ℓ : Loc nD τ sig) → Buf (Elt F) ℓ) (ρ : Dev nD → PrngReg) (c : Dev nD) : IVec S512x32 32 := iota .tc S512x32 32 [1] iota_S512x32_d1_w32
abbrev V95 (m : (ℓ : Loc nD τ sig) → Buf (Elt F) ℓ) (ρ : Dev nD → PrngReg) (c : Dev nD) : FVec F S512x256 .f32 := k0_pay1 (V94 m ρ c)
abbrev V107 (m : (ℓ : Loc nD τ sig) → Buf (Elt F) ℓ) (ρ : Dev nD → PrngReg) (c : Dev nD) : FVec F S512x32 .f32 := k0_pay2 (V94 m ρ c) (V96 m ρ c)
abbrev V109 (m : (ℓ : Loc nD τ sig) → Buf (Elt F) ℓ) (ρ : Dev nD → PrngReg) (c : Dev nD) : IVec S512x1 32 := k0_pay3 (V108 m ρ c)
abbrev V111 (m : (ℓ : Loc nD τ sig) → Buf (Elt F) ℓ) (ρ : Dev nD → PrngReg) (c : Dev nD) : IVec S512x1 32 := k0_pay4 (V110 m ρ c)
abbrev V114 (m : (ℓ : Loc nD τ sig) → Buf (Elt F) ℓ) (ρ : Dev nD → PrngReg) (c : Dev nD) : IVec S512x32 1 := k0_pay5 (V108 m ρ c)
abbrev V115 (m : (ℓ : Loc nD τ sig) → Buf (Elt F) ℓ) (ρ : Dev nD → PrngReg) (c : Dev nD) : FVec F S512x32 .f32 := k0_pay6 (F := F)
abbrev V134 (m : (ℓ : Loc nD τ sig) → Buf (Elt F) ℓ) (ρ : Dev nD → PrngReg) (c : Dev nD) : Sems sig S_ := SemArray.scalar (sig.barrier 0 rfl)
abbrev V126 (m : (ℓ : Loc nD τ sig) → Buf (Elt F) ℓ) (ρ : Dev nD → PrngReg) (c : Dev nD) : FVec F S512x1 .f32 := k0_pay10 (V107 m ρ c) (V111 m ρ c) (V112 m ρ c) (V114 m ρ c) (V115 m ρ c)
abbrev V127 (m : (ℓ : Loc nD τ sig) → Buf (Elt F) ℓ) (ρ : Dev nD → PrngReg) (c : Dev nD) : FVec F S512x1 .f32 := k0_pay11 (V107 m ρ c) (V111 m ρ c) (V112 m ρ c) (V114 m ρ c) (V115 m ρ c)
abbrev V234 (c : Dev nD) : BitVec 32 := Scalar.muli (V2 c) 4#32
abbrev V235 (c : Dev nD) : BitVec 32 := Scalar.addi (V234 c) 3#32
abbrev V207 (m : (ℓ : Loc nD τ sig) → Buf (Elt F) ℓ) (ρ : Dev nD → PrngReg) (c : Dev nD) : FVec F S512x256 .f32 := k0_pay13 (V2 c) (V95 m ρ c) (V109 m ρ c) (V111 m ρ c) (V126 m ρ c) (V127 m ρ c)
abbrev V220 (m : (ℓ : Loc nD τ sig) → Buf (Elt F) ℓ) (ρ : Dev nD → PrngReg) (c : Dev nD) : FVec F S512x256 .f32 := k0_pay14 (V2 c) (V95 m ρ c) (V109 m ρ c) (V111 m ρ c) (V126 m ρ c) (V127 m ρ c)
abbrev V233 (m : (ℓ : Loc nD τ sig) → Buf (Elt F) ℓ) (ρ : Dev nD → PrngReg) (c : Dev nD) : FVec F S512x256 .f32 := k0_pay15 (V2 c) (V95 m ρ c) (V109 m ρ c) (V111 m ρ c) (V126 m ρ c) (V127 m ρ c)
abbrev V237 (m : (ℓ : Loc nD τ sig) → Buf (Elt F) ℓ) (ρ : Dev nD → PrngReg) (c : Dev nD) : IVec S512x1 1 := k0_pay16 (V2 c) (V109 m ρ c)
abbrev S0 (m : (ℓ : Loc nD τ sig) → Buf (Elt F) ℓ) (ρ : Dev nD → PrngReg) (c : Dev nD) : FVec F S1x512x1024 .bf16 := (k0_pay17 (V95 m ρ c) (V111 m ρ c) (V126 m ρ c) (V127 m ρ c) (V207 m ρ c) (V220 m ρ c) (V233 m ρ c) (V235 c) (V237 m ρ c) (Scalar.ofBits .f32 0x00000000#32))
abbrev V278 (c : Dev nD) : BitVec 32 := Scalar.muli (V46 c) 4#32
abbrev V279 (c : Dev nD) : BitVec 32 := Scalar.addi (V278 c) 2#32
abbrev V264 (m : (ℓ : Loc nD τ sig) → Buf (Elt F) ℓ) (ρ : Dev nD → PrngReg) (c : Dev nD) : FVec F S512x256 .f32 := k0_pay18 (V46 c) (V95 m ρ c) (V109 m ρ c) (V111 m ρ c) (V126 m ρ c) (V127 m ρ c)
abbrev V277 (m : (ℓ : Loc nD τ sig) → Buf (Elt F) ℓ) (ρ : Dev nD → PrngReg) (c : Dev nD) : FVec F S512x256 .f32 := k0_pay19 (V46 c) (V95 m ρ c) (V109 m ρ c) (V111 m ρ c) (V126 m ρ c) (V127 m ρ c)
abbrev V281 (m : (ℓ : Loc nD τ sig) → Buf (Elt F) ℓ) (ρ : Dev nD → PrngReg) (c : Dev nD) : IVec S512x1 1 := k0_pay20 (V46 c) (V109 m ρ c)
abbrev S1 (m : (ℓ : Loc nD τ sig) → Buf (Elt F) ℓ) (ρ : Dev nD → PrngReg) (c : Dev nD) : FVec F S1x512x1024 .bf16 := (k0_pay21 (V46 c) (V95 m ρ c) (V109 m ρ c) (V111 m ρ c) (V126 m ρ c) (V127 m ρ c) (V264 m ρ c) (V277 m ρ c) (V279 c) (V281 m ρ c) (Scalar.ofBits .f32 0x00000000#32))
abbrev V322 (c : Dev nD) : BitVec 32 := Scalar.muli (V53 c) 4#32
abbrev V323 (c : Dev nD) : BitVec 32 := Scalar.addi (V322 c) 1#32
abbrev V321 (m : (ℓ : Loc nD τ sig) → Buf (Elt F) ℓ) (ρ : Dev nD → PrngReg) (c : Dev nD) : FVec F S512x256 .f32 := k0_pay22 (V53 c) (V95 m ρ c) (V109 m ρ c) (V111 m ρ c) (V126 m ρ c) (V127 m ρ c)
abbrev V325 (m : (ℓ : Loc nD τ sig) → Buf (Elt F) ℓ) (ρ : Dev nD → PrngReg) (c : Dev nD) : IVec S512x1 1 := k0_pay23 (V53 c) (V109 m ρ c)
abbrev S2 (m : (ℓ : Loc nD τ sig) → Buf (Elt F) ℓ) (ρ : Dev nD → PrngReg) (c : Dev nD) : FVec F S1x512x1024 .bf16 := (k0_pay24 (V53 c) (V95 m ρ c) (V109 m ρ c) (V111 m ρ c) (V126 m ρ c) (V127 m ρ c) (V321 m ρ c) (V323 c) (V325 m ρ c) (Scalar.ofBits .f32 0x00000000#32))
abbrev V366 (c : Dev nD) : BitVec 32 := Scalar.muli (V60 c) 4#32
abbrev V367 (c : Dev nD) : BitVec 32 := Scalar.addi (V366 c) 0#32
abbrev V369 (m : (ℓ : Loc nD τ sig) → Buf (Elt F) ℓ) (ρ : Dev nD → PrngReg) (c : Dev nD) : IVec S512x1 1 := k0_pay25 (V60 c) (V109 m ρ c)
abbrev V378 (m : (ℓ : Loc nD τ sig) → Buf (Elt F) ℓ) (ρ : Dev nD → PrngReg) (c : Dev nD) : FVec F S512x256 .f32 := k0_pay26 (V95 m ρ c) (V111 m ρ c) (V126 m ρ c) (V127 m ρ c) (V367 c) (V369 m ρ c) (Scalar.ofBits .f32 0x00000000#32)
abbrev V391 (m : (ℓ : Loc nD τ sig) → Buf (Elt F) ℓ) (ρ : Dev nD → PrngReg) (c : Dev nD) : FVec F S512x256 .f32 := k0_pay27 (V60 c) (V95 m ρ c) (V109 m ρ c) (V111 m ρ c) (V126 m ρ c) (V127 m ρ c)
abbrev V404 (m : (ℓ : Loc nD τ sig) → Buf (Elt F) ℓ) (ρ : Dev nD → PrngReg) (c : Dev nD) : FVec F S512x256 .f32 := k0_pay28 (V60 c) (V95 m ρ c) (V109 m ρ c) (V111 m ρ c) (V126 m ρ c) (V127 m ρ c)
abbrev V416 (m : (ℓ : Loc nD τ sig) → Buf (Elt F) ℓ) (ρ : Dev nD → PrngReg) (c : Dev nD) : FVec F S512x256 .f32 := k0_pay29 (V60 c) (V109 m ρ c) (V111 m ρ c) (V126 m ρ c) (V127 m ρ c)
abbrev S3 (m : (ℓ : Loc nD τ sig) → Buf (Elt F) ℓ) (ρ : Dev nD → PrngReg) (c : Dev nD) : FVec F S1x512x1024 .bf16 := (k0_pay30 (V95 m ρ c) (V378 m ρ c) (V391 m ρ c) (V404 m ρ c) (V416 m ρ c))
abbrev V435 (m : (ℓ : Loc nD τ sig) → Buf (Elt F) ℓ) (ρ : Dev nD → PrngReg) (c : Dev nD) : FVec F S512x256 .f32 := k0_pay31 (V68 c) (V95 m ρ c) (V109 m ρ c) (V111 m ρ c) (V126 m ρ c) (V127 m ρ c)
abbrev V448 (m : (ℓ : Loc nD τ sig) → Buf (Elt F) ℓ) (ρ : Dev nD → PrngReg) (c : Dev nD) : FVec F S512x256 .f32 := k0_pay32 (V68 c) (V95 m ρ c) (V109 m ρ c) (V111 m ρ c) (V126 m ρ c) (V127 m ρ c)
abbrev V460 (m : (ℓ : Loc nD τ sig) → Buf (Elt F) ℓ) (ρ : Dev nD → PrngReg) (c : Dev nD) : FVec F S512x256 .f32 := k0_pay33 (V68 c) (V109 m ρ c) (V111 m ρ c) (V126 m ρ c) (V127 m ρ c)
abbrev S4 (m : (ℓ : Loc nD τ sig) → Buf (Elt F) ℓ) (ρ : Dev nD → PrngReg) (c : Dev nD) : FVec F S1x512x1024 .bf16 := (k0_pay34 (V68 c) (V95 m ρ c) (V109 m ρ c) (V111 m ρ c) (V126 m ρ c) (V127 m ρ c) (V435 m ρ c) (V448 m ρ c) (V460 m ρ c))
abbrev V492 (m : (ℓ : Loc nD τ sig) → Buf (Elt F) ℓ) (ρ : Dev nD → PrngReg) (c : Dev nD) : FVec F S512x256 .f32 := k0_pay35 (V84 c) (V95 m ρ c) (V109 m ρ c) (V111 m ρ c) (V126 m ρ c) (V127 m ρ c)
abbrev V504 (m : (ℓ : Loc nD τ sig) → Buf (Elt F) ℓ) (ρ : Dev nD → PrngReg) (c : Dev nD) : FVec F S512x256 .f32 := k0_pay36 (V84 c) (V109 m ρ c) (V111 m ρ c) (V126 m ρ c) (V127 m ρ c)
abbrev S5 (m : (ℓ : Loc nD τ sig) → Buf (Elt F) ℓ) (ρ : Dev nD → PrngReg) (c : Dev nD) : FVec F S1x512x1024 .bf16 := (k0_pay37 (V84 c) (V95 m ρ c) (V109 m ρ c) (V111 m ρ c) (V126 m ρ c) (V127 m ρ c) (V492 m ρ c) (V504 m ρ c))
abbrev V548 (m : (ℓ : Loc nD τ sig) → Buf (Elt F) ℓ) (ρ : Dev nD → PrngReg) (c : Dev nD) : FVec F S512x256 .f32 := (k0_pay38 (V76 c) (V109 m ρ c) (V111 m ρ c) (V126 m ρ c) (V127 m ρ c))
abbrev V593 (m : (ℓ : Loc nD τ sig) → Buf (Elt F) ℓ) (ρ : Dev nD → PrngReg) (c : Dev nD) : FVec F S1x512x1024 .bf16 := (k0_pay39 (V76 c) (V95 m ρ c) (V109 m ρ c) (V111 m ρ c) (V126 m ρ c) (V127 m ρ c) (V548 m ρ c))
abbrev S6 (m : (ℓ : Loc nD τ sig) → Buf (Elt F) ℓ) (ρ : Dev nD → PrngReg) (c : Dev nD) : FVec F S1x512x1024 .bf16 := (V593 m ρ c)
abbrev V633 (c : Dev nD) : BitVec 32 := Scalar.muli (V93 c) 4#32
abbrev V634 (c : Dev nD) : BitVec 32 := Scalar.addi (V633 c) 3#32
abbrev V606 (m : (ℓ : Loc nD τ sig) → Buf (Elt F) ℓ) (ρ : Dev nD → PrngReg) (c : Dev nD) : FVec F S512x256 .f32 := k0_pay40 (V93 c) (V95 m ρ c) (V109 m ρ c) (V111 m ρ c) (V126 m ρ c) (V127 m ρ c)
abbrev V619 (m : (ℓ : Loc nD τ sig) → Buf (Elt F) ℓ) (ρ : Dev nD → PrngReg) (c : Dev nD) : FVec F S512x256 .f32 := k0_pay41 (V93 c) (V95 m ρ c) (V109 m ρ c) (V111 m ρ c) (V126 m ρ c) (V127 m ρ c)
abbrev V632 (m : (ℓ : Loc nD τ sig) → Buf (Elt F) ℓ) (ρ : Dev nD → PrngReg) (c : Dev nD) : FVec F S512x256 .f32 := k0_pay42 (V93 c) (V95 m ρ c) (V109 m ρ c) (V111 m ρ c) (V126 m ρ c) (V127 m ρ c)
abbrev V636 (m : (ℓ : Loc nD τ sig) → Buf (Elt F) ℓ) (ρ : Dev nD → PrngReg) (c : Dev nD) : IVec S512x1 1 := k0_pay43 (V93 c) (V109 m ρ c)
abbrev V637 (m : (ℓ : Loc nD τ sig) → Buf (Elt F) ℓ) (ρ : Dev nD → PrngReg) (c : Dev nD) : FVec F S512x1 .f32 := k0_pay44 (F := F)
abbrev S7 (m : (ℓ : Loc nD τ sig) → Buf (Elt F) ℓ) (ρ : Dev nD → PrngReg) (c : Dev nD) : FVec F S1x512x1024 .bf16 := (k0_pay45 (V95 m ρ c) (V111 m ρ c) (V126 m ρ c) (V127 m ρ c) (V606 m ρ c) (V619 m ρ c) (V632 m ρ c) (V634 c) (V636 m ρ c) (V637 m ρ c))
abbrev V651 (m : (ℓ : Loc nD τ sig) → Buf (Elt F) ℓ) (ρ : Dev nD → PrngReg) (c : Dev nD) : Vec F S4x256x512 .bf16 := (qM.access (Rect.unit (s := S4x256x512) ![0, 0, 0] S4x256x512.size inb_S4x256x512_S4x256x512_0_0_0)).read (Elt F) (qv m ρ c)
abbrev A0 (m : (ℓ : Loc nD τ sig) → Buf (Elt F) ℓ) (ρ : Dev nD → PrngReg) (c : Dev nD) : FVec F S512x512 .f32 := (k0_pay46 (V651 m ρ c) (S0 m ρ c))
abbrev V664 (c : Dev nD) : BitVec 32 := Scalar.muli (V46 c) 1#32
abbrev G1 (m : (ℓ : Loc nD τ sig) → Buf (Elt F) ℓ) (ρ : Dev nD → PrngReg) (c : Dev nD) : Vec F S1x4x256x512 .bf16 := (aM.access (Rect.unit (s := S8x4x256x512) (k0_off9 c) S1x4x256x512.size (k0_off9_inb c))).read (Elt F) (allv m ρ)
abbrev V762 (m : (ℓ : Loc nD τ sig) → Buf (Elt F) ℓ) (ρ : Dev nD → PrngReg) (c : Dev nD) : FVec F S1024x512 .bf16 := (k0_pay47 (G1 m ρ c))
abbrev A1 (m : (ℓ : Loc nD τ sig) → Buf (Elt F) ℓ) (ρ : Dev nD → PrngReg) (c : Dev nD) : FVec F S512x512 .f32 := (k0_pay48 (V762 m ρ c) (S1 m ρ c) (A0 m ρ c))
abbrev G2 (m : (ℓ : Loc nD τ sig) → Buf (Elt F) ℓ) (ρ : Dev nD → PrngReg) (c : Dev nD) : Vec F S1x4x256x512 .bf16 := (aM.access (Rect.unit (s := S8x4x256x512) (k0_off10 c) S1x4x256x512.size (k0_off10_inb c))).read (Elt F) (allv m ρ)
abbrev A2 (m : (ℓ : Loc nD τ sig) → Buf (Elt F) ℓ) (ρ : Dev nD → PrngReg) (c : Dev nD) : FVec F S512x512 .f32 := (k0_pay49 (G2 m ρ c) (S2 m ρ c) (A1 m ρ c))
abbrev G3 (m : (ℓ : Loc nD τ sig) → Buf (Elt F) ℓ) (ρ : Dev nD → PrngReg) (c : Dev nD) : Vec F S1x4x256x512 .bf16 := (aM.access (Rect.unit (s := S8x4x256x512) (k0_off11 c) S1x4x256x512.size (k0_off11_inb c))).read (Elt F) (allv m ρ)
abbrev V790 (m : (ℓ : Loc nD τ sig) → Buf (Elt F) ℓ) (ρ : Dev nD → PrngReg) (c : Dev nD) : FVec F S512x512 .f32 := (k0_pay50 (G3 m ρ c) (S3 m ρ c) (A2 m ρ c))
abbrev A3 (m : (ℓ : Loc nD τ sig) → Buf (Elt F) ℓ) (ρ : Dev nD → PrngReg) (c : Dev nD) : FVec F S512x512 .f32 := (V790 m ρ c)
abbrev G4 (m : (ℓ : Loc nD τ sig) → Buf (Elt F) ℓ) (ρ : Dev nD → PrngReg) (c : Dev nD) : Vec F S1x4x256x512 .bf16 := (aM.access (Rect.unit (s := S8x4x256x512) (k0_off17 c) S1x4x256x512.size (k0_off17_inb c))).read (Elt F) (allv m ρ)
abbrev A4 (m : (ℓ : Loc nD τ sig) → Buf (Elt F) ℓ) (ρ : Dev nD → PrngReg) (c : Dev nD) : FVec F S512x512 .f32 := (k0_pay51 (G4 m ρ c) (S4 m ρ c) (A3 m ρ c))
abbrev G5 (m : (ℓ : Loc nD τ sig) → Buf (Elt F) ℓ) (ρ : Dev nD → PrngReg) (c : Dev nD) : Vec F S1x4x256x512 .bf16 := (aM.access (Rect.unit (s := S8x4x256x512) (k0_off18 c) S1x4x256x512.size (k0_off18_inb c))).read (Elt F) (allv m ρ)
abbrev A5 (m : (ℓ : Loc nD τ sig) → Buf (Elt F) ℓ) (ρ : Dev nD → PrngReg) (c : Dev nD) : FVec F S512x512 .f32 := (k0_pay52 (G5 m ρ c) (S5 m ρ c) (A4 m ρ c))
abbrev G6 (m : (ℓ : Loc nD τ sig) → Buf (Elt F) ℓ) (ρ : Dev nD → PrngReg) (c : Dev nD) : Vec F S1x4x256x512 .bf16 := (aM.access (Rect.unit (s := S8x4x256x512) (k0_off19 c) S1x4x256x512.size (k0_off19_inb c))).read (Elt F) (allv m ρ)
abbrev V915 (m : (ℓ : Loc nD τ sig) → Buf (Elt F) ℓ) (ρ : Dev nD → PrngReg) (c : Dev nD) : FVec F S1024x512 .bf16 := k0_pay53 (G6 m ρ c)
abbrev V917 (m : (ℓ : Loc nD τ sig) → Buf (Elt F) ℓ) (ρ : Dev nD → PrngReg) (c : Dev nD) : FVec F S512x1024 .bf16 := k0_pay54 (S6 m ρ c)
abbrev A6 (m : (ℓ : Loc nD τ sig) → Buf (Elt F) ℓ) (ρ : Dev nD → PrngReg) (c : Dev nD) : FVec F S512x512 .f32 := (k0_pay55 (V915 m ρ c) (V917 m ρ c) (A5 m ρ c))
abbrev V939 (c : Dev nD) : BitVec 32 := Scalar.muli (V53 c) 1#32
abbrev G7 (m : (ℓ : Loc nD τ sig) → Buf (Elt F) ℓ) (ρ : Dev nD → PrngReg) (c : Dev nD) : Vec F S1x4x256x512 .bf16 := (aM.access (Rect.unit (s := S8x4x256x512) (k0_off20 c) S1x4x256x512.size (k0_off20_inb c))).read (Elt F) (allv m ρ)
abbrev A7 (m : (ℓ : Loc nD τ sig) → Buf (Elt F) ℓ) (ρ : Dev nD → PrngReg) (c : Dev nD) : FVec F S512x512 .f32 := (k0_pay56 (G7 m ρ c) (S7 m ρ c) (A6 m ρ c))

end Cert.K1

end
-- ==== Proof.PartA.lean ====
/-
# The kernel, part by part

What each of these stretches of the kernel takes and leaves.
-/
module

public import proofs.«01_k».proof.Proof.Vals

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem part_5 (K : Dev nD × KI → ℕ) (c : Dev nD) {Q} :
    iprop(records m ρ K ∗ ow c order ∗ pay 0 c ∗ land 0 c ∗ sendPay m ρ 0 c ∗ pay 3 c ∗ land 3 c ∗ sendPay m ρ 3 c ∗ pay 1 c ∗ land 1 c ∗ sendPay m ρ 1 c)
      ⊢ iprop(((fly 0 c ∗ fly 3 c ∗ ow c [4, 2, 5, 6, 7, 8, 9, 10, 11, 12, 15, 13, 16, 14] ∗ fly 1 c) -∗ Q ⟨⟩)
        -∗ wp frame (wpE (defs₀ (F := F)) 𝒱₀ (c : Thread nD τ) none) Set.univ
          (k0_part5 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c)) Q) := by
  simp only [k0_part5_eq_skeleton]; unfold k0_part5_skel
  simp only [Prog.lift, Prog.bind_op, Prog.bind_ret, Prog.pure_eq_ret]
  iintro ⟨#HR, HO, Hp0, Hl0, Hs0, Hp3, Hl3, Hs3, Hp1, Hl1, Hs1⟩ Hk
  ihave HO := (Entails.of_eq (show (ow c order : sProp 𝕄) = ow c [0, 3, 1, 4, 2, 5, 6, 7, 8, 9, 10, 11, 12, 15, 13, 16, 14] from rfl)) $$ HO
  iapply (step_send1 m ρ K c 0 [3, 1, 4, 2, 5, 6, 7, 8, 9, 10, 11, 12, 15, 13, 16, 14] (by decide) (dev_eq4 c) rfl rfl (off1_own c) rfl rfl (hw_0 c)) $$ [HO Hp0 Hl0 Hs0]
  · isplitr; · iexact HR
    isplitl [HO]; · iexact HO
    isplitl [Hp0]; · iexact Hp0
    isplitl [Hl0]; · iexact Hl0
    iexact Hs0
  iintro ⟨HO, Hf0⟩
  iapply (step_send1 m ρ K c 3 [1, 4, 2, 5, 6, 7, 8, 9, 10, 11, 12, 15, 13, 16, 14] (by decide) (dev_eq5 c) rfl rfl (off2_own c) rfl rfl (hw_3 c)) $$ [HO Hp3 Hl3 Hs3]
  · isplitr; · iexact HR
    isplitl [HO]; · iexact HO
    isplitl [Hp3]; · iexact Hp3
    isplitl [Hl3]; · iexact Hl3
    iexact Hs3
  iintro ⟨HO, Hf3⟩
  iapply (step_send1 m ρ K c 1 [4, 2, 5, 6, 7, 8, 9, 10, 11, 12, 15, 13, 16, 14] (by decide) (dev_eq6 c) rfl rfl (off1_own c) rfl rfl (hw_1 c)) $$ [HO Hp1 Hl1 Hs1]
  · isplitr; · iexact HR
    isplitl [HO]; · iexact HO
    isplitl [Hp1]; · iexact Hp1
    isplitl [Hl1]; · iexact Hl1
    iexact Hs1
  iintro ⟨HO, Hf1⟩
  rw [wp_ret]; imodintro
  iapply Hk
  isplitl [Hf0]; · iexact Hf0
  isplitl [Hf3]; · iexact Hf3
  isplitl [HO]; · iexact HO
  iexact Hf1

theorem part_6 (K : Dev nD × KI → ℕ) (c : Dev nD) {Q} :
    iprop(records m ρ K ∗ ow c [4, 2, 5, 6, 7, 8, 9, 10, 11, 12, 15, 13, 16, 14] ∗ pay 4 c ∗ land 4 c ∗ sendPay m ρ 4 c ∗ pay 2 c ∗ land 2 c ∗ sendPay m ρ 2 c)
      ⊢ iprop(((fly 4 c ∗ ow c [5, 6, 7, 8, 9, 10, 11, 12, 15, 13, 16, 14] ∗ fly 2 c) -∗ Q ⟨⟩)
        -∗ wp frame (wpE (defs₀ (F := F)) 𝒱₀ (c : Thread nD τ) none) Set.univ
          (k0_part6 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V53 c) (V60 c)) Q) := by
  simp only [k0_part6_eq_skeleton]; unfold k0_part6_skel
  simp only [Prog.lift, Prog.bind_op, Prog.bind_ret, Prog.pure_eq_ret]
  iintro ⟨#HR, HO, Hp4, Hl4, Hs4, Hp2, Hl2, Hs2⟩ Hk
  iapply (step_send1 m ρ K c 4 [2, 5, 6, 7, 8, 9, 10, 11, 12, 15, 13, 16, 14] (by decide) (dev_eq7 c) rfl rfl (off2_own c) rfl rfl (hw_4 c)) $$ [HO Hp4 Hl4 Hs4]
  · isplitr; · iexact HR
    isplitl [HO]; · iexact HO
    isplitl [Hp4]; · iexact Hp4
    isplitl [Hl4]; · iexact Hl4
    iexact Hs4
  iintro ⟨HO, Hf4⟩
  iapply (step_send1 m ρ K c 2 [5, 6, 7, 8, 9, 10, 11, 12, 15, 13, 16, 14] (by decide) (dev_eq8 c) rfl rfl (off1_own c) rfl rfl (hw_2 c)) $$ [HO Hp2 Hl2 Hs2]
  · isplitr; · iexact HR
    isplitl [HO]; · iexact HO
    isplitl [Hp2]; · iexact Hp2
    isplitl [Hl2]; · iexact Hl2
    iexact Hs2
  iintro ⟨HO, Hf2⟩
  rw [wp_ret]; imodintro
  iapply Hk
  isplitl [Hf4]; · iexact Hf4
  isplitl [HO]; · iexact HO
  iexact Hf2

theorem part_7 (K : Dev nD × KI → ℕ) (c : Dev nD) {Q} :
    iprop(records m ρ K ∗ ow c [5, 6, 7, 8, 9, 10, 11, 12, 15, 13, 16, 14] ∗ pay 5 c ∗ land 5 c ∗ sendPay m ρ 5 c)
      ⊢ iprop(((ow c [6, 7, 8, 9, 10, 11, 12, 15, 13, 16, 14] ∗ fly 5 c) -∗ Q ⟨V207 m ρ c, V220 m ρ c, V233 m ρ c, V235 c, V237 m ρ c, Scalar.ofBits .f32 0x00000000#32⟩)
        -∗ wp frame (wpE (defs₀ (F := F)) 𝒱₀ (c : Thread nD τ) none) Set.univ
          (k0_part7 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V2 c) (V95 m ρ c) (V109 m ρ c) (V111 m ρ c) (V126 m ρ c) (V127 m ρ c)) Q) := by
  simp only [k0_part7_eq_skeleton]; unfold k0_part7_skel
  simp only [Prog.lift, Prog.bind_op, Prog.bind_ret, Prog.pure_eq_ret]
  iintro ⟨#HR, HO, Hp5, Hl5, Hs5⟩ Hk
  iapply (step_send1 m ρ K c 5 [6, 7, 8, 9, 10, 11, 12, 15, 13, 16, 14] (by decide) (dev_eq9 c) rfl rfl (off2_own c) rfl rfl (hw_5 c)) $$ [HO Hp5 Hl5 Hs5]
  · isplitr; · iexact HR
    isplitl [HO]; · iexact HO
    isplitl [Hp5]; · iexact Hp5
    isplitl [Hl5]; · iexact Hl5
    iexact Hs5
  iintro ⟨HO, Hf5⟩
  rw [wp_ret]; imodintro
  iapply Hk
  isplitl [HO]; · iexact HO
  iexact Hf5

theorem part_8 (K : Dev nD × KI → ℕ) (c : Dev nD) {Q} :
    iprop(records m ρ K ∗ anyR cM rC0 c)
      ⊢ iprop(((hasR cM rC0 c (S0 m ρ c)) -∗ Q ⟨V264 m ρ c, V277 m ρ c, V279 c, V281 m ρ c, Scalar.ofBits .f32 0x00000000#32⟩)
        -∗ wp frame (wpE (defs₀ (F := F)) 𝒱₀ (c : Thread nD τ) none) Set.univ
          (k0_part8 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V46 c) (V95 m ρ c) (V109 m ρ c) (V111 m ρ c) (V126 m ρ c) (V127 m ρ c) (V207 m ρ c) (V220 m ρ c) (V233 m ρ c) (V235 c) (V237 m ρ c) (Scalar.ofBits .f32 0x00000000#32)) Q) := by
  simp only [k0_part8_eq_skeleton]; unfold k0_part8_skel
  simp only [Prog.lift, Prog.bind_op, Prog.bind_ret, Prog.pure_eq_ret]
  iintro ⟨#HR, HC0⟩ Hk
  iapply (step_load_any cM rC0 c) $$ HC0; iintro %w0 HC0
  iapply (step_store cM rC0 c) $$ HC0; iintro HC0
  rw [wp_ret]; imodintro
  iapply Hk
  iexact HC0

theorem part_9 (K : Dev nD × KI → ℕ) (c : Dev nD) {Q} :
    iprop(records m ρ K ∗ anyR cM rC1 c)
      ⊢ iprop(((hasR cM rC1 c (S1 m ρ c)) -∗ Q ⟨V321 m ρ c, V323 c, V325 m ρ c, Scalar.ofBits .f32 0x00000000#32⟩)
        -∗ wp frame (wpE (defs₀ (F := F)) 𝒱₀ (c : Thread nD τ) none) Set.univ
          (k0_part9 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V46 c) (V53 c) (V95 m ρ c) (V109 m ρ c) (V111 m ρ c) (V126 m ρ c) (V127 m ρ c) (V264 m ρ c) (V277 m ρ c) (V279 c) (V281 m ρ c) (Scalar.ofBits .f32 0x00000000#32)) Q) := by
  simp only [k0_part9_eq_skeleton]; unfold k0_part9_skel
  simp only [Prog.lift, Prog.bind_op, Prog.bind_ret, Prog.pure_eq_ret]
  iintro ⟨#HR, HC1⟩ Hk
  iapply (step_load_any cM rC1 c) $$ HC1; iintro %w1 HC1
  iapply (step_store cM rC1 c) $$ HC1; iintro HC1
  rw [wp_ret]; imodintro
  iapply Hk
  iexact HC1

theorem part_10 (K : Dev nD × KI → ℕ) (c : Dev nD) {Q} :
    iprop(records m ρ K ∗ anyR cM rC2 c)
      ⊢ iprop(((hasR cM rC2 c (S2 m ρ c)) -∗ Q ⟨V367 c, V369 m ρ c, Scalar.ofBits .f32 0x00000000#32⟩)
        -∗ wp frame (wpE (defs₀ (F := F)) 𝒱₀ (c : Thread nD τ) none) Set.univ
          (k0_part10 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V53 c) (V60 c) (V95 m ρ c) (V109 m ρ c) (V111 m ρ c) (V126 m ρ c) (V127 m ρ c) (V321 m ρ c) (V323 c) (V325 m ρ c) (Scalar.ofBits .f32 0x00000000#32)) Q) := by
  simp only [k0_part10_eq_skeleton]; unfold k0_part10_skel
  simp only [Prog.lift, Prog.bind_op, Prog.bind_ret, Prog.pure_eq_ret]
  iintro ⟨#HR, HC2⟩ Hk
  iapply (step_load_any cM rC2 c) $$ HC2; iintro %w2 HC2
  iapply (step_store cM rC2 c) $$ HC2; iintro HC2
  rw [wp_ret]; imodintro
  iapply Hk
  iexact HC2

theorem part_11 (K : Dev nD × KI → ℕ) (c : Dev nD) {Q} :
    iprop(records m ρ K)
      ⊢ iprop(((emp) -∗ Q ⟨V378 m ρ c, V391 m ρ c, V404 m ρ c, V416 m ρ c⟩)
        -∗ wp frame (wpE (defs₀ (F := F)) 𝒱₀ (c : Thread nD τ) none) Set.univ
          (k0_part11 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V60 c) (V95 m ρ c) (V109 m ρ c) (V111 m ρ c) (V126 m ρ c) (V127 m ρ c) (V367 c) (V369 m ρ c) (Scalar.ofBits .f32 0x00000000#32)) Q) := by
  simp only [k0_part11_eq_skeleton]; unfold k0_part11_skel
  simp only [Prog.lift, Prog.bind_op, Prog.bind_ret, Prog.pure_eq_ret]
  iintro #HR Hk
  rw [wp_ret]; imodintro
  iapply Hk; iempintro

end Cert.K1

end
-- ==== Proof.PartB.lean ====
/-
# The kernel, part by part

What each of these stretches of the kernel takes and leaves.
-/
module

public import proofs.«01_k».proof.Proof.Vals

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem part_12 (K : Dev nD × KI → ℕ) (c : Dev nD) {Q} :
    iprop(records m ρ K ∗ anyR cM rC3 c)
      ⊢ iprop(((hasR cM rC3 c (S3 m ρ c)) -∗ Q ⟨V435 m ρ c, V448 m ρ c, V460 m ρ c⟩)
        -∗ wp frame (wpE (defs₀ (F := F)) 𝒱₀ (c : Thread nD τ) none) Set.univ
          (k0_part12 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V68 c) (V95 m ρ c) (V109 m ρ c) (V111 m ρ c) (V126 m ρ c) (V127 m ρ c) (V378 m ρ c) (V391 m ρ c) (V404 m ρ c) (V416 m ρ c)) Q) := by
  simp only [k0_part12_eq_skeleton]; unfold k0_part12_skel
  simp only [Prog.lift, Prog.bind_op, Prog.bind_ret, Prog.pure_eq_ret]
  iintro ⟨#HR, HC3⟩ Hk
  iapply (step_load_any cM rC3 c) $$ HC3; iintro %w3 HC3
  iapply (step_store cM rC3 c) $$ HC3; iintro HC3
  rw [wp_ret]; imodintro
  iapply Hk
  iexact HC3

theorem part_13 (K : Dev nD × KI → ℕ) (c : Dev nD) {Q} :
    iprop(records m ρ K ∗ anyR cM rC4 c)
      ⊢ iprop(((hasR cM rC4 c (S4 m ρ c)) -∗ Q ⟨V492 m ρ c, V504 m ρ c⟩)
        -∗ wp frame (wpE (defs₀ (F := F)) 𝒱₀ (c : Thread nD τ) none) Set.univ
          (k0_part13 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V68 c) (V84 c) (V95 m ρ c) (V109 m ρ c) (V111 m ρ c) (V126 m ρ c) (V127 m ρ c) (V435 m ρ c) (V448 m ρ c) (V460 m ρ c)) Q) := by
  simp only [k0_part13_eq_skeleton]; unfold k0_part13_skel
  simp only [Prog.lift, Prog.bind_op, Prog.bind_ret, Prog.pure_eq_ret]
  iintro ⟨#HR, HC4⟩ Hk
  iapply (step_load_any cM rC4 c) $$ HC4; iintro %w4 HC4
  iapply (step_store cM rC4 c) $$ HC4; iintro HC4
  rw [wp_ret]; imodintro
  iapply Hk
  iexact HC4

theorem part_14 (K : Dev nD × KI → ℕ) (c : Dev nD) {Q} :
    iprop(records m ρ K ∗ anyR cM rC5 c)
      ⊢ iprop(((hasR cM rC5 c (S5 m ρ c)) -∗ Q (V548 m ρ c))
        -∗ wp frame (wpE (defs₀ (F := F)) 𝒱₀ (c : Thread nD τ) none) Set.univ
          (k0_part14 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V76 c) (V84 c) (V95 m ρ c) (V109 m ρ c) (V111 m ρ c) (V126 m ρ c) (V127 m ρ c) (V492 m ρ c) (V504 m ρ c)) Q) := by
  simp only [k0_part14_eq_skeleton]; unfold k0_part14_skel
  simp only [Prog.lift, Prog.bind_op, Prog.bind_ret, Prog.pure_eq_ret]
  iintro ⟨#HR, HC5⟩ Hk
  iapply (step_load_any cM rC5 c) $$ HC5; iintro %w5 HC5
  iapply (step_store cM rC5 c) $$ HC5; iintro HC5
  rw [wp_ret]; imodintro
  iapply Hk
  iexact HC5

theorem part_15 (K : Dev nD × KI → ℕ) (c : Dev nD) {Q} :
    iprop(records m ρ K ∗ anyR cM rC6 c)
      ⊢ iprop(((anyR cM rC6 c) -∗ Q (V593 m ρ c))
        -∗ wp frame (wpE (defs₀ (F := F)) 𝒱₀ (c : Thread nD τ) none) Set.univ
          (k0_part15 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V76 c) (V95 m ρ c) (V109 m ρ c) (V111 m ρ c) (V126 m ρ c) (V127 m ρ c) (V548 m ρ c)) Q) := by
  simp only [k0_part15_eq_skeleton]; unfold k0_part15_skel
  simp only [Prog.lift, Prog.bind_op, Prog.bind_ret, Prog.pure_eq_ret]
  iintro ⟨#HR, HC6⟩ Hk
  iapply (step_load_any cM rC6 c) $$ HC6; iintro %w6 HC6
  rw [wp_ret]; imodintro
  iapply Hk
  iexact HC6

theorem part_16 (K : Dev nD × KI → ℕ) (c : Dev nD) {Q} :
    iprop(records m ρ K ∗ anyR cM rC6 c)
      ⊢ iprop(((hasR cM rC6 c (S6 m ρ c)) -∗ Q ⟨V606 m ρ c, V619 m ρ c, V632 m ρ c, V634 c, V636 m ρ c, V637 m ρ c⟩)
        -∗ wp frame (wpE (defs₀ (F := F)) 𝒱₀ (c : Thread nD τ) none) Set.univ
          (k0_part16 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V93 c) (V95 m ρ c) (V109 m ρ c) (V111 m ρ c) (V126 m ρ c) (V127 m ρ c) (V593 m ρ c)) Q) := by
  simp only [k0_part16_eq_skeleton]; unfold k0_part16_skel
  simp only [Prog.lift, Prog.bind_op, Prog.bind_ret, Prog.pure_eq_ret]
  iintro ⟨#HR, HC6⟩ Hk
  iapply (step_store cM rC6 c) $$ HC6; iintro HC6
  rw [wp_ret]; imodintro
  iapply Hk
  iexact HC6

theorem part_17 (K : Dev nD × KI → ℕ) (c : Dev nD) {Q} :
    iprop(records m ρ K ∗ anyR cM rC7 c ∗ qP m ρ c Finset.univ fullShare.left ∗ hasR cM rC0 c (S0 m ρ c) ∗ anyR oM rO c ∗ ow c [6, 7, 8, 9, 10, 11, 12, 15, 13, 16, 14] ∗ inc 1 c)
      ⊢ iprop(((hasR cM rC7 c (S7 m ρ c) ∗ qP m ρ c Finset.univ fullShare.left ∗ hasR cM rC0 c (S0 m ρ c) ∗ hasR oM rO c (A0 m ρ c) ∗ ow c [6, 7, 8, 9, 10, 11, 12, 15, 13, 16, 14] ∗ semVal (recvCell 1 c) 0 ∗ aP c (rS 1 c) fullShare.left (allv m ρ) ∗ aP c (wS 6 c) fullShare.right (allv m ρ)) -∗ Q (V664 c))
        -∗ wp frame (wpE (defs₀ (F := F)) 𝒱₀ (c : Thread nD τ) none) Set.univ
          (k0_part17 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c) (V95 m ρ c) (V111 m ρ c) (V126 m ρ c) (V127 m ρ c) (V606 m ρ c) (V619 m ρ c) (V632 m ρ c) (V634 c) (V636 m ρ c) (V637 m ρ c)) Q) := by
  simp only [k0_part17_eq_skeleton]; unfold k0_part17_skel
  simp only [Prog.lift, Prog.bind_op, Prog.bind_ret, Prog.pure_eq_ret]
  iintro ⟨#HR, HC7, HQ, HC0, HU, HO, Hi1⟩ Hk
  iapply (step_load_any cM rC7 c) $$ HC7; iintro %w7 HC7
  iapply (step_store cM rC7 c) $$ HC7; iintro HC7
  iapply (step_loadQ m ρ c fullShare.left) $$ HQ; iintro HQ
  iapply (step_load cM rC0 c (S0 m ρ c)) $$ HC0; iintro HC0
  iapply (step_load_any oM rO c) $$ HU; iintro %wo HU
  iapply (step_store oM rO c) $$ HU; iintro HU
  iapply (step_recv m ρ K c 1 [6, 7, 8, 9, 10, 11, 12, 15, 13, 16, 14] (by decide) rfl rfl) $$ [HO Hi1]
  · isplitr; · iexact HR
    isplitl [HO]; · iexact HO
    iexact Hi1
  iintro ⟨HO, Hz1, Hv⟩
  ihave Hv := (split_1 m ρ c) $$ Hv
  icases Hv with ⟨Hg1, Hw6⟩
  rw [wp_ret]; imodintro
  iapply Hk
  isplitl [HC7]; · iexact HC7
  isplitl [HQ]; · iexact HQ
  isplitl [HC0]; · iexact HC0
  isplitl [HU]; · iexact HU
  isplitl [HO]; · iexact HO
  isplitl [Hz1]; · iexact Hz1
  isplitl [Hg1]; · iexact Hg1
  iexact Hw6

theorem part_18 (K : Dev nD × KI → ℕ) (c : Dev nD) {Q} :
    iprop(records m ρ K ∗ ow c [6, 7, 8, 9, 10, 11, 12, 15, 13, 16, 14] ∗ pay 6 c ∗ land 6 c ∗ aP c (wS 6 c) fullShare.right (allv m ρ) ∗ inc 2 c ∗ pay 7 c ∗ land 7 c)
      ⊢ iprop(((fly 6 c ∗ semVal (recvCell 2 c) 0 ∗ aP c (rS 2 c) fullShare.left (allv m ρ) ∗ ow c [8, 9, 10, 11, 12, 15, 13, 16, 14] ∗ fly 7 c) -∗ Q ⟨⟩)
        -∗ wp frame (wpE (defs₀ (F := F)) 𝒱₀ (c : Thread nD τ) none) Set.univ
          (k0_part18 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V53 c) (V60 c) (V664 c)) Q) := by
  simp only [k0_part18_eq_skeleton]; unfold k0_part18_skel
  simp only [Prog.lift, Prog.bind_op, Prog.bind_ret, Prog.pure_eq_ret]
  iintro ⟨#HR, HO, Hp6, Hl6, Hw6, Hi2, Hp7, Hl7⟩ Hk
  iapply (step_sendA m ρ K c 6 [7, 8, 9, 10, 11, 12, 15, 13, 16, 14] (by decide) (dev_eq10 c) rfl rfl rfl (hw_6 c)) $$ [HO Hp6 Hl6 Hw6]
  · isplitr; · iexact HR
    isplitl [HO]; · iexact HO
    isplitl [Hp6]; · iexact Hp6
    isplitl [Hl6]; · iexact Hl6
    iexact Hw6
  iintro ⟨HO, Hf6⟩
  iapply (step_recv m ρ K c 2 [7, 8, 9, 10, 11, 12, 15, 13, 16, 14] (by decide) rfl rfl) $$ [HO Hi2]
  · isplitr; · iexact HR
    isplitl [HO]; · iexact HO
    iexact Hi2
  iintro ⟨HO, Hz2, Hv⟩
  ihave Hv := (split_2 m ρ c) $$ Hv
  icases Hv with ⟨Hg2, Hw7⟩
  iapply (step_sendA m ρ K c 7 [8, 9, 10, 11, 12, 15, 13, 16, 14] (by decide) (dev_eq11 c) rfl rfl rfl (hw_7 c)) $$ [HO Hp7 Hl7 Hw7]
  · isplitr; · iexact HR
    isplitl [HO]; · iexact HO
    isplitl [Hp7]; · iexact Hp7
    isplitl [Hl7]; · iexact Hl7
    iexact Hw7
  iintro ⟨HO, Hf7⟩
  rw [wp_ret]; imodintro
  iapply Hk
  isplitl [Hf6]; · iexact Hf6
  isplitl [Hz2]; · iexact Hz2
  isplitl [Hg2]; · iexact Hg2
  isplitl [HO]; · iexact HO
  iexact Hf7

end Cert.K1

end
-- ==== Proof.PartC.lean ====
/-
# The kernel, part by part

What each of these stretches of the kernel takes and leaves.
-/
module

public import proofs.«01_k».proof.Proof.Vals

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem part_19 (K : Dev nD × KI → ℕ) (c : Dev nD) {Q} :
    iprop(records m ρ K ∗ ow c [8, 9, 10, 11, 12, 15, 13, 16, 14] ∗ inc 0 c ∗ pay 8 c ∗ land 8 c)
      ⊢ iprop(((semVal (recvCell 0 c) 0 ∗ aP c (rS 0 c) fullShare.left (allv m ρ) ∗ ow c [9, 10, 11, 12, 15, 13, 16, 14] ∗ fly 8 c) -∗ Q ⟨⟩)
        -∗ wp frame (wpE (defs₀ (F := F)) 𝒱₀ (c : Thread nD τ) none) Set.univ
          (k0_part19 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c) (V60 c)) Q) := by
  simp only [k0_part19_eq_skeleton]; unfold k0_part19_skel
  simp only [Prog.lift, Prog.bind_op, Prog.bind_ret, Prog.pure_eq_ret]
  iintro ⟨#HR, HO, Hi0, Hp8, Hl8⟩ Hk
  iapply (step_recv m ρ K c 0 [8, 9, 10, 11, 12, 15, 13, 16, 14] (by decide) rfl rfl) $$ [HO Hi0]
  · isplitr; · iexact HR
    isplitl [HO]; · iexact HO
    iexact Hi0
  iintro ⟨HO, Hz0, Hv⟩
  ihave Hv := (split_0 m ρ c) $$ Hv
  icases Hv with ⟨Hg0, Hw8⟩
  iapply (step_sendA m ρ K c 8 [9, 10, 11, 12, 15, 13, 16, 14] (by decide) (dev_eq12 c) rfl rfl rfl (hw_8 c)) $$ [HO Hp8 Hl8 Hw8]
  · isplitr; · iexact HR
    isplitl [HO]; · iexact HO
    isplitl [Hp8]; · iexact Hp8
    isplitl [Hl8]; · iexact Hl8
    iexact Hw8
  iintro ⟨HO, Hf8⟩
  rw [wp_ret]; imodintro
  iapply Hk
  isplitl [Hz0]; · iexact Hz0
  isplitl [Hg0]; · iexact Hg0
  isplitl [HO]; · iexact HO
  iexact Hf8

theorem part_20 (K : Dev nD × KI → ℕ) (c : Dev nD) {Q} :
    iprop(records m ρ K ∗ ow c [9, 10, 11, 12, 15, 13, 16, 14] ∗ inc 4 c ∗ pay 9 c ∗ land 9 c ∗ inc 5 c)
      ⊢ iprop(((semVal (recvCell 4 c) 0 ∗ aP c (rS 4 c) fullShare.left (allv m ρ) ∗ ow c [10, 11, 12, 15, 13, 16, 14] ∗ fly 9 c ∗ semVal (recvCell 5 c) 0 ∗ aP c (rS 5 c) fullShare.left (allv m ρ) ∗ aP c (wS 10 c) fullShare.right (allv m ρ)) -∗ Q ⟨⟩)
        -∗ wp frame (wpE (defs₀ (F := F)) 𝒱₀ (c : Thread nD τ) none) Set.univ
          (k0_part20 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c) (V60 c)) Q) := by
  simp only [k0_part20_eq_skeleton]; unfold k0_part20_skel
  simp only [Prog.lift, Prog.bind_op, Prog.bind_ret, Prog.pure_eq_ret]
  iintro ⟨#HR, HO, Hi4, Hp9, Hl9, Hi5⟩ Hk
  iapply (step_recv m ρ K c 4 [9, 10, 11, 12, 15, 13, 16, 14] (by decide) rfl rfl) $$ [HO Hi4]
  · isplitr; · iexact HR
    isplitl [HO]; · iexact HO
    iexact Hi4
  iintro ⟨HO, Hz4, Hv⟩
  ihave Hv := (split_4 m ρ c) $$ Hv
  icases Hv with ⟨Hg4, Hw9⟩
  iapply (step_sendA m ρ K c 9 [10, 11, 12, 15, 13, 16, 14] (by decide) (dev_eq13 c) rfl rfl rfl (hw_9 c)) $$ [HO Hp9 Hl9 Hw9]
  · isplitr; · iexact HR
    isplitl [HO]; · iexact HO
    isplitl [Hp9]; · iexact Hp9
    isplitl [Hl9]; · iexact Hl9
    iexact Hw9
  iintro ⟨HO, Hf9⟩
  iapply (step_recv m ρ K c 5 [10, 11, 12, 15, 13, 16, 14] (by decide) rfl rfl) $$ [HO Hi5]
  · isplitr; · iexact HR
    isplitl [HO]; · iexact HO
    iexact Hi5
  iintro ⟨HO, Hz5, Hv⟩
  ihave Hv := (split_5 m ρ c) $$ Hv
  icases Hv with ⟨Hg5, Hw10⟩
  rw [wp_ret]; imodintro
  iapply Hk
  isplitl [Hz4]; · iexact Hz4
  isplitl [Hg4]; · iexact Hg4
  isplitl [HO]; · iexact HO
  isplitl [Hf9]; · iexact Hf9
  isplitl [Hz5]; · iexact Hz5
  isplitl [Hg5]; · iexact Hg5
  iexact Hw10

theorem part_21 (K : Dev nD × KI → ℕ) (c : Dev nD) {Q} :
    iprop(records m ρ K ∗ ow c [10, 11, 12, 15, 13, 16, 14] ∗ pay 10 c ∗ land 10 c ∗ aP c (wS 10 c) fullShare.right (allv m ρ) ∗ inc 3 c ∗ pay 11 c ∗ land 11 c ∗ aP c (rS 0 c) fullShare.left (allv m ρ))
      ⊢ iprop(((fly 10 c ∗ semVal (recvCell 3 c) 0 ∗ aP c (rS 3 c) fullShare.left (allv m ρ) ∗ ow c [12, 15, 13, 16, 14] ∗ fly 11 c ∗ aP c (rS 0 c) fullShare.left (allv m ρ)) -∗ Q (V762 m ρ c))
        -∗ wp frame (wpE (defs₀ (F := F)) 𝒱₀ (c : Thread nD τ) none) Set.univ
          (k0_part21 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V60 c)) Q) := by
  simp only [k0_part21_eq_skeleton]; unfold k0_part21_skel
  simp only [Prog.lift, Prog.bind_op, Prog.bind_ret, Prog.pure_eq_ret]
  iintro ⟨#HR, HO, Hp10, Hl10, Hw10, Hi3, Hp11, Hl11, Hg0⟩ Hk
  iapply (step_sendA m ρ K c 10 [11, 12, 15, 13, 16, 14] (by decide) (dev_eq14 c) rfl rfl rfl (hw_10 c)) $$ [HO Hp10 Hl10 Hw10]
  · isplitr; · iexact HR
    isplitl [HO]; · iexact HO
    isplitl [Hp10]; · iexact Hp10
    isplitl [Hl10]; · iexact Hl10
    iexact Hw10
  iintro ⟨HO, Hf10⟩
  iapply (step_recv m ρ K c 3 [11, 12, 15, 13, 16, 14] (by decide) rfl rfl) $$ [HO Hi3]
  · isplitr; · iexact HR
    isplitl [HO]; · iexact HO
    iexact Hi3
  iintro ⟨HO, Hz3, Hv⟩
  ihave Hv := (split_3 m ρ c) $$ Hv
  icases Hv with ⟨Hg3, Hw11⟩
  iapply (step_sendA m ρ K c 11 [12, 15, 13, 16, 14] (by decide) (dev_eq15 c) rfl rfl rfl (hw_11 c)) $$ [HO Hp11 Hl11 Hw11]
  · isplitr; · iexact HR
    isplitl [HO]; · iexact HO
    isplitl [Hp11]; · iexact Hp11
    isplitl [Hl11]; · iexact Hl11
    iexact Hw11
  iintro ⟨HO, Hf11⟩
  iapply (step_loadA m ρ c (hd_9 c) (hg_9 c) fullShare.left) $$ [Hg0 Hg3]
  · isplitl [Hg0]; · iexact Hg0
    iexact Hg3
  iintro ⟨Hg0, Hg3⟩
  rw [wp_ret]; imodintro
  iapply Hk
  isplitl [Hf10]; · iexact Hf10
  isplitl [Hz3]; · iexact Hz3
  isplitl [Hg3]; · iexact Hg3
  isplitl [HO]; · iexact HO
  isplitl [Hf11]; · iexact Hf11
  iexact Hg0

theorem part_22 (K : Dev nD × KI → ℕ) (c : Dev nD) {Q} :
    iprop(records m ρ K ∗ hasR cM rC1 c (S1 m ρ c) ∗ hasR oM rO c (A0 m ρ c) ∗ aP c (rS 1 c) fullShare.left (allv m ρ) ∗ aP c (rS 4 c) fullShare.left (allv m ρ) ∗ hasR cM rC2 c (S2 m ρ c) ∗ aP c (rS 2 c) fullShare.left (allv m ρ) ∗ aP c (rS 5 c) fullShare.left (allv m ρ) ∗ hasR cM rC3 c (S3 m ρ c))
      ⊢ iprop(((hasR cM rC1 c (S1 m ρ c) ∗ hasR oM rO c (A2 m ρ c) ∗ aP c (rS 1 c) fullShare.left (allv m ρ) ∗ aP c (rS 4 c) fullShare.left (allv m ρ) ∗ hasR cM rC2 c (S2 m ρ c) ∗ aP c (rS 2 c) fullShare.left (allv m ρ) ∗ aP c (rS 5 c) fullShare.left (allv m ρ) ∗ hasR cM rC3 c (S3 m ρ c)) -∗ Q (V790 m ρ c))
        -∗ wp frame (wpE (defs₀ (F := F)) 𝒱₀ (c : Thread nD τ) none) Set.univ
          (k0_part22 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V53 c) (V60 c) (V762 m ρ c)) Q) := by
  simp only [k0_part22_eq_skeleton]; unfold k0_part22_skel
  simp only [Prog.lift, Prog.bind_op, Prog.bind_ret, Prog.pure_eq_ret]
  iintro ⟨#HR, HC1, HU, Hg1, Hg4, HC2, Hg2, Hg5, HC3⟩ Hk
  iapply (step_load cM rC1 c (S1 m ρ c)) $$ HC1; iintro HC1
  iapply (step_load oM rO c (A0 m ρ c)) $$ HU; iintro HU
  iapply (step_load oM rO c (A0 m ρ c)) $$ HU; iintro HU
  ihave HU := (anyR_of_hasR oM rO c (A0 m ρ c)) $$ HU
  iapply (step_store oM rO c) $$ HU; iintro HU
  iapply (step_loadA m ρ c (hd_10 c) (hg_10 c) fullShare.left) $$ [Hg1 Hg4]
  · isplitl [Hg1]; · iexact Hg1
    iexact Hg4
  iintro ⟨Hg1, Hg4⟩
  iapply (step_load cM rC2 c (S2 m ρ c)) $$ HC2; iintro HC2
  iapply (step_load oM rO c (A1 m ρ c)) $$ HU; iintro HU
  iapply (step_load oM rO c (A1 m ρ c)) $$ HU; iintro HU
  ihave HU := (anyR_of_hasR oM rO c (A1 m ρ c)) $$ HU
  iapply (step_store oM rO c) $$ HU; iintro HU
  iapply (step_loadA m ρ c (hd_11 c) (hg_11 c) fullShare.left) $$ [Hg2 Hg5]
  · isplitl [Hg2]; · iexact Hg2
    iexact Hg5
  iintro ⟨Hg2, Hg5⟩
  iapply (step_load cM rC3 c (S3 m ρ c)) $$ HC3; iintro HC3
  iapply (step_load oM rO c (A2 m ρ c)) $$ HU; iintro HU
  iapply (step_load oM rO c (A2 m ρ c)) $$ HU; iintro HU
  rw [wp_ret]; imodintro
  iapply Hk
  isplitl [HC1]; · iexact HC1
  isplitl [HU]; · iexact HU
  isplitl [Hg1]; · iexact Hg1
  isplitl [Hg4]; · iexact Hg4
  isplitl [HC2]; · iexact HC2
  isplitl [Hg2]; · iexact Hg2
  isplitl [Hg5]; · iexact Hg5
  iexact HC3

theorem part_23 (K : Dev nD × KI → ℕ) (c : Dev nD) {Q} :
    iprop(records m ρ K ∗ hasR oM rO c (A2 m ρ c) ∗ ow c [12, 15, 13, 16, 14] ∗ inc 7 c ∗ pay 12 c ∗ land 12 c)
      ⊢ iprop(((hasR oM rO c (A3 m ρ c) ∗ semVal (recvCell 7 c) 0 ∗ aP c (rS 7 c) fullShare.left (allv m ρ) ∗ aP c (wS 15 c) fullShare.right (allv m ρ) ∗ aP c (ex7 c) fullShare.right (allv m ρ) ∗ ow c [15, 13, 16, 14] ∗ fly 12 c) -∗ Q ⟨⟩)
        -∗ wp frame (wpE (defs₀ (F := F)) 𝒱₀ (c : Thread nD τ) none) Set.univ
          (k0_part23 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c) (V790 m ρ c)) Q) := by
  simp only [k0_part23_eq_skeleton]; unfold k0_part23_skel
  simp only [Prog.lift, Prog.bind_op, Prog.bind_ret, Prog.pure_eq_ret]
  iintro ⟨#HR, HU, HO, Hi7, Hp12, Hl12⟩ Hk
  ihave HU := (anyR_of_hasR oM rO c (A2 m ρ c)) $$ HU
  iapply (step_store oM rO c) $$ HU; iintro HU
  iapply (step_recv m ρ K c 7 [12, 15, 13, 16, 14] (by decide) rfl rfl) $$ [HO Hi7]
  · isplitr; · iexact HR
    isplitl [HO]; · iexact HO
    iexact Hi7
  iintro ⟨HO, Hz7, Hv⟩
  ihave Hv := (split_7 m ρ c) $$ Hv
  icases Hv with ⟨Hg7, Hw12, Hw15, He7⟩
  iapply (step_sendA m ρ K c 12 [15, 13, 16, 14] (by decide) (dev_eq16 c) rfl rfl rfl (hw_12 c)) $$ [HO Hp12 Hl12 Hw12]
  · isplitr; · iexact HR
    isplitl [HO]; · iexact HO
    isplitl [Hp12]; · iexact Hp12
    isplitl [Hl12]; · iexact Hl12
    iexact Hw12
  iintro ⟨HO, Hf12⟩
  rw [wp_ret]; imodintro
  iapply Hk
  isplitl [HU]; · iexact HU
  isplitl [Hz7]; · iexact Hz7
  isplitl [Hg7]; · iexact Hg7
  isplitl [Hw15]; · iexact Hw15
  isplitl [He7]; · iexact He7
  isplitl [HO]; · iexact HO
  iexact Hf12

theorem part_24 (K : Dev nD × KI → ℕ) (c : Dev nD) {Q} :
    iprop(records m ρ K ∗ ow c [15, 13, 16, 14] ∗ pay 15 c ∗ land 15 c ∗ aP c (wS 15 c) fullShare.right (allv m ρ) ∗ inc 8 c ∗ pay 13 c ∗ land 13 c)
      ⊢ iprop(((fly 15 c ∗ semVal (recvCell 8 c) 0 ∗ aP c (rS 8 c) fullShare.left (allv m ρ) ∗ aP c (ex8 c) fullShare.right (allv m ρ) ∗ ow c [16, 14] ∗ fly 13 c) -∗ Q ⟨⟩)
        -∗ wp frame (wpE (defs₀ (F := F)) 𝒱₀ (c : Thread nD τ) none) Set.univ
          (k0_part24 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V53 c) (V60 c)) Q) := by
  simp only [k0_part24_eq_skeleton]; unfold k0_part24_skel
  simp only [Prog.lift, Prog.bind_op, Prog.bind_ret, Prog.pure_eq_ret]
  iintro ⟨#HR, HO, Hp15, Hl15, Hw15, Hi8, Hp13, Hl13⟩ Hk
  iapply (step_sendA m ρ K c 15 [13, 16, 14] (by decide) (dev_eq17 c) rfl rfl rfl (hw_15 c)) $$ [HO Hp15 Hl15 Hw15]
  · isplitr; · iexact HR
    isplitl [HO]; · iexact HO
    isplitl [Hp15]; · iexact Hp15
    isplitl [Hl15]; · iexact Hl15
    iexact Hw15
  iintro ⟨HO, Hf15⟩
  iapply (step_recv m ρ K c 8 [13, 16, 14] (by decide) rfl rfl) $$ [HO Hi8]
  · isplitr; · iexact HR
    isplitl [HO]; · iexact HO
    iexact Hi8
  iintro ⟨HO, Hz8, Hv⟩
  ihave Hv := (split_8 m ρ c) $$ Hv
  icases Hv with ⟨Hg8, Hw13, He8⟩
  iapply (step_sendA m ρ K c 13 [16, 14] (by decide) (dev_eq18 c) rfl rfl rfl (hw_13 c)) $$ [HO Hp13 Hl13 Hw13]
  · isplitr; · iexact HR
    isplitl [HO]; · iexact HO
    isplitl [Hp13]; · iexact Hp13
    isplitl [Hl13]; · iexact Hl13
    iexact Hw13
  iintro ⟨HO, Hf13⟩
  rw [wp_ret]; imodintro
  iapply Hk
  isplitl [Hf15]; · iexact Hf15
  isplitl [Hz8]; · iexact Hz8
  isplitl [Hg8]; · iexact Hg8
  isplitl [He8]; · iexact He8
  isplitl [HO]; · iexact HO
  iexact Hf13

end Cert.K1

end
-- ==== Proof.PartD.lean ====
/-
# The kernel, part by part

What each of these stretches of the kernel takes and leaves.
-/
module

public import proofs.«01_k».proof.Proof.Vals

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem part_25 (K : Dev nD × KI → ℕ) (c : Dev nD) {Q} :
    iprop(records m ρ K ∗ ow c [16, 14] ∗ inc 11 c ∗ pay 16 c ∗ land 16 c ∗ inc 6 c)
      ⊢ iprop(((semVal (recvCell 11 c) 0 ∗ aP c (rS 11 c) fullShare.left (allv m ρ) ∗ aP c (ex11 c) fullShare.right (allv m ρ) ∗ ow c [14] ∗ fly 16 c ∗ semVal (recvCell 6 c) 0 ∗ aP c (rS 6 c) fullShare.left (allv m ρ) ∗ aP c (rS 6 c) fullShare.right (allv m ρ)) -∗ Q ⟨⟩)
        -∗ wp frame (wpE (defs₀ (F := F)) 𝒱₀ (c : Thread nD τ) none) Set.univ
          (k0_part25 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c)) Q) := by
  simp only [k0_part25_eq_skeleton]; unfold k0_part25_skel
  simp only [Prog.lift, Prog.bind_op, Prog.bind_ret, Prog.pure_eq_ret]
  iintro ⟨#HR, HO, Hi11, Hp16, Hl16, Hi6⟩ Hk
  iapply (step_recv m ρ K c 11 [16, 14] (by decide) rfl rfl) $$ [HO Hi11]
  · isplitr; · iexact HR
    isplitl [HO]; · iexact HO
    iexact Hi11
  iintro ⟨HO, Hz11, Hv⟩
  ihave Hv := (split_11 m ρ c) $$ Hv
  icases Hv with ⟨Hg11, Hw16, He11⟩
  iapply (step_sendA m ρ K c 16 [14] (by decide) (dev_eq19 c) rfl rfl rfl (hw_16 c)) $$ [HO Hp16 Hl16 Hw16]
  · isplitr; · iexact HR
    isplitl [HO]; · iexact HO
    isplitl [Hp16]; · iexact Hp16
    isplitl [Hl16]; · iexact Hl16
    iexact Hw16
  iintro ⟨HO, Hf16⟩
  iapply (step_recv m ρ K c 6 [14] (by decide) rfl rfl) $$ [HO Hi6]
  · isplitr; · iexact HR
    isplitl [HO]; · iexact HO
    iexact Hi6
  iintro ⟨HO, Hz6, Hv⟩
  ihave Hv := (split_6 m ρ c) $$ Hv
  icases Hv with ⟨Hg6, Hr6⟩
  rw [wp_ret]; imodintro
  iapply Hk
  isplitl [Hz11]; · iexact Hz11
  isplitl [Hg11]; · iexact Hg11
  isplitl [He11]; · iexact He11
  isplitl [HO]; · iexact HO
  isplitl [Hf16]; · iexact Hf16
  isplitl [Hz6]; · iexact Hz6
  isplitl [Hg6]; · iexact Hg6
  iexact Hr6

theorem part_26 (K : Dev nD × KI → ℕ) (c : Dev nD) {Q} :
    iprop(records m ρ K ∗ ow c [14] ∗ inc 9 c ∗ pay 14 c ∗ land 14 c)
      ⊢ iprop(((semVal (recvCell 9 c) 0 ∗ aP c (rS 9 c) fullShare.left (allv m ρ) ∗ aP c (ex9 c) fullShare.right (allv m ρ) ∗ ow c [] ∗ fly 14 c) -∗ Q ⟨⟩)
        -∗ wp frame (wpE (defs₀ (F := F)) 𝒱₀ (c : Thread nD τ) none) Set.univ
          (k0_part26 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c) (V60 c)) Q) := by
  simp only [k0_part26_eq_skeleton]; unfold k0_part26_skel
  simp only [Prog.lift, Prog.bind_op, Prog.bind_ret, Prog.pure_eq_ret]
  iintro ⟨#HR, HO, Hi9, Hp14, Hl14⟩ Hk
  iapply (step_recv m ρ K c 9 [14] (by decide) rfl rfl) $$ [HO Hi9]
  · isplitr; · iexact HR
    isplitl [HO]; · iexact HO
    iexact Hi9
  iintro ⟨HO, Hz9, Hv⟩
  ihave Hv := (split_9 m ρ c) $$ Hv
  icases Hv with ⟨Hg9, Hw14, He9⟩
  iapply (step_sendA m ρ K c 14 [] (by decide) (dev_eq20 c) rfl rfl rfl (hw_14 c)) $$ [HO Hp14 Hl14 Hw14]
  · isplitr; · iexact HR
    isplitl [HO]; · iexact HO
    isplitl [Hp14]; · iexact Hp14
    isplitl [Hl14]; · iexact Hl14
    iexact Hw14
  iintro ⟨HO, Hf14⟩
  rw [wp_ret]; imodintro
  iapply Hk
  isplitl [Hz9]; · iexact Hz9
  isplitl [Hg9]; · iexact Hg9
  isplitl [He9]; · iexact He9
  isplitl [HO]; · iexact HO
  iexact Hf14

theorem part_27 (K : Dev nD × KI → ℕ) (c : Dev nD) {Q} :
    iprop(records m ρ K ∗ ow c [] ∗ inc 10 c ∗ aP c (rS 6 c) fullShare.left (allv m ρ) ∗ aP c (rS 9 c) fullShare.left (allv m ρ) ∗ hasR cM rC4 c (S4 m ρ c) ∗ hasR oM rO c (A3 m ρ c) ∗ aP c (rS 7 c) fullShare.left (allv m ρ) ∗ hasR cM rC5 c (S5 m ρ c) ∗ aP c (rS 8 c) fullShare.left (allv m ρ) ∗ aP c (rS 11 c) fullShare.left (allv m ρ) ∗ hasR cM rC6 c (S6 m ρ c))
      ⊢ iprop(((ow c [] ∗ semVal (recvCell 10 c) 0 ∗ aP c (rS 10 c) fullShare.left (allv m ρ) ∗ aP c (rS 10 c) fullShare.right (allv m ρ) ∗ aP c (rS 6 c) fullShare.left (allv m ρ) ∗ aP c (rS 9 c) fullShare.left (allv m ρ) ∗ hasR cM rC4 c (S4 m ρ c) ∗ hasR oM rO c (A5 m ρ c) ∗ aP c (rS 7 c) fullShare.left (allv m ρ) ∗ hasR cM rC5 c (S5 m ρ c) ∗ aP c (rS 8 c) fullShare.left (allv m ρ) ∗ aP c (rS 11 c) fullShare.left (allv m ρ) ∗ hasR cM rC6 c (S6 m ρ c)) -∗ Q ⟨V915 m ρ c, V917 m ρ c⟩)
        -∗ wp frame (wpE (defs₀ (F := F)) 𝒱₀ (c : Thread nD τ) none) Set.univ
          (k0_part27 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V68 c) (V76 c) (V84 c)) Q) := by
  simp only [k0_part27_eq_skeleton]; unfold k0_part27_skel
  simp only [Prog.lift, Prog.bind_op, Prog.bind_ret, Prog.pure_eq_ret]
  iintro ⟨#HR, HO, Hi10, Hg6, Hg9, HC4, HU, Hg7, HC5, Hg8, Hg11, HC6⟩ Hk
  iapply (step_recv m ρ K c 10 [] (by decide) rfl rfl) $$ [HO Hi10]
  · isplitr; · iexact HR
    isplitl [HO]; · iexact HO
    iexact Hi10
  iintro ⟨HO, Hz10, Hv⟩
  ihave Hv := (split_10 m ρ c) $$ Hv
  icases Hv with ⟨Hg10, Hr10⟩
  iapply (step_loadA m ρ c (hd_17 c) (hg_17 c) fullShare.left) $$ [Hg6 Hg9]
  · isplitl [Hg6]; · iexact Hg6
    iexact Hg9
  iintro ⟨Hg6, Hg9⟩
  iapply (step_load cM rC4 c (S4 m ρ c)) $$ HC4; iintro HC4
  iapply (step_load oM rO c (A3 m ρ c)) $$ HU; iintro HU
  iapply (step_load oM rO c (A3 m ρ c)) $$ HU; iintro HU
  ihave HU := (anyR_of_hasR oM rO c (A3 m ρ c)) $$ HU
  iapply (step_store oM rO c) $$ HU; iintro HU
  iapply (step_loadA m ρ c (hd_18 c) (hg_18 c) fullShare.left) $$ [Hg7 Hg10]
  · isplitl [Hg7]; · iexact Hg7
    iexact Hg10
  iintro ⟨Hg7, Hg10⟩
  iapply (step_load cM rC5 c (S5 m ρ c)) $$ HC5; iintro HC5
  iapply (step_load oM rO c (A4 m ρ c)) $$ HU; iintro HU
  iapply (step_load oM rO c (A4 m ρ c)) $$ HU; iintro HU
  ihave HU := (anyR_of_hasR oM rO c (A4 m ρ c)) $$ HU
  iapply (step_store oM rO c) $$ HU; iintro HU
  iapply (step_loadA m ρ c (hd_19 c) (hg_19 c) fullShare.left) $$ [Hg8 Hg11]
  · isplitl [Hg8]; · iexact Hg8
    iexact Hg11
  iintro ⟨Hg8, Hg11⟩
  iapply (step_load cM rC6 c (S6 m ρ c)) $$ HC6; iintro HC6
  rw [wp_ret]; imodintro
  iapply Hk
  isplitl [HO]; · iexact HO
  isplitl [Hz10]; · iexact Hz10
  isplitl [Hg10]; · iexact Hg10
  isplitl [Hr10]; · iexact Hr10
  isplitl [Hg6]; · iexact Hg6
  isplitl [Hg9]; · iexact Hg9
  isplitl [HC4]; · iexact HC4
  isplitl [HU]; · iexact HU
  isplitl [Hg7]; · iexact Hg7
  isplitl [HC5]; · iexact HC5
  isplitl [Hg8]; · iexact Hg8
  isplitl [Hg11]; · iexact Hg11
  iexact HC6

theorem part_28 (K : Dev nD × KI → ℕ) (c : Dev nD) {Q} :
    iprop(records m ρ K ∗ hasR oM rO c (A5 m ρ c) ∗ ow c [] ∗ inc 12 c ∗ inc 15 c)
      ⊢ iprop(((hasR oM rO c (A6 m ρ c) ∗ ow c [] ∗ semVal (recvCell 12 c) 0 ∗ recvPay m ρ 12 c ∗ semVal (recvCell 15 c) 0 ∗ recvPay m ρ 15 c) -∗ Q ⟨V939 c, 0#32⟩)
        -∗ wp frame (wpE (defs₀ (F := F)) 𝒱₀ (c : Thread nD τ) none) Set.univ
          (k0_part28 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c) (V915 m ρ c) (V917 m ρ c)) Q) := by
  simp only [k0_part28_eq_skeleton]; unfold k0_part28_skel
  simp only [Prog.lift, Prog.bind_op, Prog.bind_ret, Prog.pure_eq_ret]
  iintro ⟨#HR, HU, HO, Hi12, Hi15⟩ Hk
  iapply (step_load oM rO c (A5 m ρ c)) $$ HU; iintro HU
  iapply (step_load oM rO c (A5 m ρ c)) $$ HU; iintro HU
  ihave HU := (anyR_of_hasR oM rO c (A5 m ρ c)) $$ HU
  iapply (step_store oM rO c) $$ HU; iintro HU
  iapply (step_recv m ρ K c 12 [] (by decide) rfl rfl) $$ [HO Hi12]
  · isplitr; · iexact HR
    isplitl [HO]; · iexact HO
    iexact Hi12
  iintro ⟨HO, Hz12, Hv12⟩
  iapply (step_recv m ρ K c 15 [] (by decide) rfl rfl) $$ [HO Hi15]
  · isplitr; · iexact HR
    isplitl [HO]; · iexact HO
    iexact Hi15
  iintro ⟨HO, Hz15, Hv15⟩
  rw [wp_ret]; imodintro
  iapply Hk
  isplitl [HU]; · iexact HU
  isplitl [HO]; · iexact HO
  isplitl [Hz12]; · iexact Hz12
  isplitl [Hv12]; · iexact Hv12
  isplitl [Hz15]; · iexact Hz15
  iexact Hv15

theorem part_29 (K : Dev nD × KI → ℕ) (c : Dev nD) {Q} :
    iprop(records m ρ K ∗ ow c [] ∗ inc 13 c ∗ inc 16 c ∗ inc 14 c)
      ⊢ iprop(((ow c [] ∗ semVal (recvCell 13 c) 0 ∗ recvPay m ρ 13 c ∗ semVal (recvCell 16 c) 0 ∗ recvPay m ρ 16 c ∗ semVal (recvCell 14 c) 0 ∗ recvPay m ρ 14 c) -∗ Q ⟨⟩)
        -∗ wp frame (wpE (defs₀ (F := F)) 𝒱₀ (c : Thread nD τ) none) Set.univ
          (k0_part29 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V53 c) (V60 c) (V93 c) (V939 c) 0#32) Q) := by
  simp only [k0_part29_eq_skeleton]; unfold k0_part29_skel
  simp only [Prog.lift, Prog.bind_op, Prog.bind_ret, Prog.pure_eq_ret]
  iintro ⟨#HR, HO, Hi13, Hi16, Hi14⟩ Hk
  iapply (step_recv m ρ K c 13 [] (by decide) rfl rfl) $$ [HO Hi13]
  · isplitr; · iexact HR
    isplitl [HO]; · iexact HO
    iexact Hi13
  iintro ⟨HO, Hz13, Hv13⟩
  iapply (step_recv m ρ K c 16 [] (by decide) rfl rfl) $$ [HO Hi16]
  · isplitr; · iexact HR
    isplitl [HO]; · iexact HO
    iexact Hi16
  iintro ⟨HO, Hz16, Hv16⟩
  iapply (step_recv m ρ K c 14 [] (by decide) rfl rfl) $$ [HO Hi14]
  · isplitr; · iexact HR
    isplitl [HO]; · iexact HO
    iexact Hi14
  iintro ⟨HO, Hz14, Hv14⟩
  rw [wp_ret]; imodintro
  iapply Hk
  isplitl [HO]; · iexact HO
  isplitl [Hz13]; · iexact Hz13
  isplitl [Hv13]; · iexact Hv13
  isplitl [Hz16]; · iexact Hz16
  isplitl [Hv16]; · iexact Hv16
  isplitl [Hz14]; · iexact Hz14
  iexact Hv14

theorem part_30 (K : Dev nD × KI → ℕ) (c : Dev nD) {Q} :
    iprop(records m ρ K ∗ recvPay m ρ 12 c ∗ recvPay m ρ 13 c ∗ recvPay m ρ 14 c ∗ recvPay m ρ 15 c ∗ recvPay m ρ 16 c ∗ hasR cM rC7 c (S7 m ρ c) ∗ hasR oM rO c (A6 m ρ c) ∗ ow c [] ∗ fly 0 c ∗ fly 6 c)
      ⊢ iprop(((aP c (sl 6 Finset.univ c) fullShare (allv m ρ) ∗ hasR cM rC7 c (S7 m ρ c) ∗ hasR oM rO c (A7 m ρ c) ∗ ow c [] ∗ semVal (sendCell 0 c) 0 ∗ sendPay m ρ 0 c ∗ semVal (sendCell 6 c) 0 ∗ sendPay m ρ 6 c) -∗ Q ⟨⟩)
        -∗ wp frame (wpE (defs₀ (F := F)) 𝒱₀ (c : Thread nD τ) none) Set.univ
          (k0_part30 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c) Q) := by
  simp only [k0_part30_eq_skeleton]; unfold k0_part30_skel
  simp only [Prog.lift, Prog.bind_op, Prog.bind_ret, Prog.pure_eq_ret]
  iintro ⟨#HR, Hv12, Hv13, Hv14, Hv15, Hv16, HC7, HU, HO, Hf0, Hf6⟩ Hk
  ihave HG := (corner m ρ c) $$ [Hv12 Hv13 Hv14 Hv15 Hv16]
  · isplitl [Hv12]; · iexact Hv12
    isplitl [Hv13]; · iexact Hv13
    isplitl [Hv14]; · iexact Hv14
    isplitl [Hv15]; · iexact Hv15
    iexact Hv16
  iapply (step_loadA1 m ρ c (hg_20 c) fullShare) $$ HG; iintro HG
  iapply (step_load cM rC7 c (S7 m ρ c)) $$ HC7; iintro HC7
  iapply (step_load oM rO c (A6 m ρ c)) $$ HU; iintro HU
  iapply (step_load oM rO c (A6 m ρ c)) $$ HU; iintro HU
  ihave HU := (anyR_of_hasR oM rO c (A6 m ρ c)) $$ HU
  iapply (step_store oM rO c) $$ HU; iintro HU
  iapply (step_sent m ρ K c 0 rfl rfl) $$ [HO Hf0]
  · isplitr; · iexact HR
    isplitl [HO]; · iexact HO
    iexact Hf0
  iintro ⟨HO, Hy0, Hb0⟩
  iapply (step_sent m ρ K c 6 rfl rfl) $$ [HO Hf6]
  · isplitr; · iexact HR
    isplitl [HO]; · iexact HO
    iexact Hf6
  iintro ⟨HO, Hy6, Hb6⟩
  rw [wp_ret]; imodintro
  iapply Hk
  isplitl [HG]; · iexact HG
  isplitl [HC7]; · iexact HC7
  isplitl [HU]; · iexact HU
  isplitl [HO]; · iexact HO
  isplitl [Hy0]; · iexact Hy0
  isplitl [Hb0]; · iexact Hb0
  isplitl [Hy6]; · iexact Hy6
  iexact Hb6

end Cert.K1

end
-- ==== Proof.PartE.lean ====
/-
# The kernel, part by part

What each of these stretches of the kernel takes and leaves.
-/
module

public import proofs.«01_k».proof.Proof.Vals

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem part_31 (K : Dev nD × KI → ℕ) (c : Dev nD) {Q} :
    iprop(records m ρ K ∗ ow c [] ∗ fly 3 c ∗ fly 9 c ∗ fly 1 c)
      ⊢ iprop(((ow c [] ∗ semVal (sendCell 3 c) 0 ∗ sendPay m ρ 3 c ∗ semVal (sendCell 9 c) 0 ∗ sendPay m ρ 9 c ∗ semVal (sendCell 1 c) 0 ∗ sendPay m ρ 1 c) -∗ Q ⟨⟩)
        -∗ wp frame (wpE (defs₀ (F := F)) 𝒱₀ (c : Thread nD τ) none) Set.univ
          (k0_part31 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c) Q) := by
  simp only [k0_part31_eq_skeleton]; unfold k0_part31_skel
  simp only [Prog.lift, Prog.bind_op, Prog.bind_ret, Prog.pure_eq_ret]
  iintro ⟨#HR, HO, Hf3, Hf9, Hf1⟩ Hk
  iapply (step_sent m ρ K c 3 rfl rfl) $$ [HO Hf3]
  · isplitr; · iexact HR
    isplitl [HO]; · iexact HO
    iexact Hf3
  iintro ⟨HO, Hy3, Hb3⟩
  iapply (step_sent m ρ K c 9 rfl rfl) $$ [HO Hf9]
  · isplitr; · iexact HR
    isplitl [HO]; · iexact HO
    iexact Hf9
  iintro ⟨HO, Hy9, Hb9⟩
  iapply (step_sent m ρ K c 1 rfl rfl) $$ [HO Hf1]
  · isplitr; · iexact HR
    isplitl [HO]; · iexact HO
    iexact Hf1
  iintro ⟨HO, Hy1, Hb1⟩
  rw [wp_ret]; imodintro
  iapply Hk
  isplitl [HO]; · iexact HO
  isplitl [Hy3]; · iexact Hy3
  isplitl [Hb3]; · iexact Hb3
  isplitl [Hy9]; · iexact Hy9
  isplitl [Hb9]; · iexact Hb9
  isplitl [Hy1]; · iexact Hy1
  iexact Hb1

theorem part_32 (K : Dev nD × KI → ℕ) (c : Dev nD) {Q} :
    iprop(records m ρ K ∗ ow c [] ∗ fly 7 c ∗ fly 4 c ∗ fly 10 c ∗ fly 2 c)
      ⊢ iprop(((ow c [] ∗ semVal (sendCell 7 c) 0 ∗ sendPay m ρ 7 c ∗ semVal (sendCell 4 c) 0 ∗ sendPay m ρ 4 c ∗ semVal (sendCell 10 c) 0 ∗ sendPay m ρ 10 c ∗ semVal (sendCell 2 c) 0 ∗ sendPay m ρ 2 c) -∗ Q ⟨⟩)
        -∗ wp frame (wpE (defs₀ (F := F)) 𝒱₀ (c : Thread nD τ) none) Set.univ
          (k0_part32 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c) Q) := by
  simp only [k0_part32_eq_skeleton]; unfold k0_part32_skel
  simp only [Prog.lift, Prog.bind_op, Prog.bind_ret, Prog.pure_eq_ret]
  iintro ⟨#HR, HO, Hf7, Hf4, Hf10, Hf2⟩ Hk
  iapply (step_sent m ρ K c 7 rfl rfl) $$ [HO Hf7]
  · isplitr; · iexact HR
    isplitl [HO]; · iexact HO
    iexact Hf7
  iintro ⟨HO, Hy7, Hb7⟩
  iapply (step_sent m ρ K c 4 rfl rfl) $$ [HO Hf4]
  · isplitr; · iexact HR
    isplitl [HO]; · iexact HO
    iexact Hf4
  iintro ⟨HO, Hy4, Hb4⟩
  iapply (step_sent m ρ K c 10 rfl rfl) $$ [HO Hf10]
  · isplitr; · iexact HR
    isplitl [HO]; · iexact HO
    iexact Hf10
  iintro ⟨HO, Hy10, Hb10⟩
  iapply (step_sent m ρ K c 2 rfl rfl) $$ [HO Hf2]
  · isplitr; · iexact HR
    isplitl [HO]; · iexact HO
    iexact Hf2
  iintro ⟨HO, Hy2, Hb2⟩
  rw [wp_ret]; imodintro
  iapply Hk
  isplitl [HO]; · iexact HO
  isplitl [Hy7]; · iexact Hy7
  isplitl [Hb7]; · iexact Hb7
  isplitl [Hy4]; · iexact Hy4
  isplitl [Hb4]; · iexact Hb4
  isplitl [Hy10]; · iexact Hy10
  isplitl [Hb10]; · iexact Hb10
  isplitl [Hy2]; · iexact Hy2
  iexact Hb2

theorem part_33 (K : Dev nD × KI → ℕ) (c : Dev nD) {Q} :
    iprop(records m ρ K ∗ ow c [] ∗ fly 8 c ∗ fly 5 c ∗ fly 11 c)
      ⊢ iprop(((ow c [] ∗ semVal (sendCell 8 c) 0 ∗ sendPay m ρ 8 c ∗ semVal (sendCell 5 c) 0 ∗ sendPay m ρ 5 c ∗ semVal (sendCell 11 c) 0 ∗ sendPay m ρ 11 c) -∗ Q ⟨⟩)
        -∗ wp frame (wpE (defs₀ (F := F)) 𝒱₀ (c : Thread nD τ) none) Set.univ
          (k0_part33 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c) Q) := by
  simp only [k0_part33_eq_skeleton]; unfold k0_part33_skel
  simp only [Prog.lift, Prog.bind_op, Prog.bind_ret, Prog.pure_eq_ret]
  iintro ⟨#HR, HO, Hf8, Hf5, Hf11⟩ Hk
  iapply (step_sent m ρ K c 8 rfl rfl) $$ [HO Hf8]
  · isplitr; · iexact HR
    isplitl [HO]; · iexact HO
    iexact Hf8
  iintro ⟨HO, Hy8, Hb8⟩
  iapply (step_sent m ρ K c 5 rfl rfl) $$ [HO Hf5]
  · isplitr; · iexact HR
    isplitl [HO]; · iexact HO
    iexact Hf5
  iintro ⟨HO, Hy5, Hb5⟩
  iapply (step_sent m ρ K c 11 rfl rfl) $$ [HO Hf11]
  · isplitr; · iexact HR
    isplitl [HO]; · iexact HO
    iexact Hf11
  iintro ⟨HO, Hy11, Hb11⟩
  rw [wp_ret]; imodintro
  iapply Hk
  isplitl [HO]; · iexact HO
  isplitl [Hy8]; · iexact Hy8
  isplitl [Hb8]; · iexact Hb8
  isplitl [Hy5]; · iexact Hy5
  isplitl [Hb5]; · iexact Hb5
  isplitl [Hy11]; · iexact Hy11
  iexact Hb11

theorem part_34 (K : Dev nD × KI → ℕ) (c : Dev nD) {Q} :
    iprop(records m ρ K ∗ ow c [] ∗ fly 12 c ∗ fly 15 c ∗ fly 13 c)
      ⊢ iprop(((ow c [] ∗ semVal (sendCell 12 c) 0 ∗ sendPay m ρ 12 c ∗ semVal (sendCell 15 c) 0 ∗ sendPay m ρ 15 c ∗ semVal (sendCell 13 c) 0 ∗ sendPay m ρ 13 c) -∗ Q ⟨⟩)
        -∗ wp frame (wpE (defs₀ (F := F)) 𝒱₀ (c : Thread nD τ) none) Set.univ
          (k0_part34 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c) Q) := by
  simp only [k0_part34_eq_skeleton]; unfold k0_part34_skel
  simp only [Prog.lift, Prog.bind_op, Prog.bind_ret, Prog.pure_eq_ret]
  iintro ⟨#HR, HO, Hf12, Hf15, Hf13⟩ Hk
  iapply (step_sent m ρ K c 12 rfl rfl) $$ [HO Hf12]
  · isplitr; · iexact HR
    isplitl [HO]; · iexact HO
    iexact Hf12
  iintro ⟨HO, Hy12, Hb12⟩
  iapply (step_sent m ρ K c 15 rfl rfl) $$ [HO Hf15]
  · isplitr; · iexact HR
    isplitl [HO]; · iexact HO
    iexact Hf15
  iintro ⟨HO, Hy15, Hb15⟩
  iapply (step_sent m ρ K c 13 rfl rfl) $$ [HO Hf13]
  · isplitr; · iexact HR
    isplitl [HO]; · iexact HO
    iexact Hf13
  iintro ⟨HO, Hy13, Hb13⟩
  rw [wp_ret]; imodintro
  iapply Hk
  isplitl [HO]; · iexact HO
  isplitl [Hy12]; · iexact Hy12
  isplitl [Hb12]; · iexact Hb12
  isplitl [Hy15]; · iexact Hy15
  isplitl [Hb15]; · iexact Hb15
  isplitl [Hy13]; · iexact Hy13
  iexact Hb13

end Cert.K1

end
-- ==== Proof.Open.lean ====
/-
# The kernel's opening

The words a device derives from its index, the weights it computes from its rows, its experts narrowed, and the
handshake on the barrier semaphore, which leaves every landing place with the device that lands there.
-/
module

public import proofs.«01_k».proof.Proof.Vals

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem part_1 (K : Dev nD × KI → ℕ) (c : Dev nD) {Q} :
    iprop(records m ρ K)
      ⊢ iprop(((emp) -∗ Q ⟨c, V2 c, V20 c, V37 c, V39 c, 1#32⟩)
        -∗ wp frame (wpE (defs₀ (F := F)) 𝒱₀ (c : Thread nD τ) none) Set.univ
          (k0_part1 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 ) Q) := by
  simp only [k0_part1_eq_skeleton]; unfold k0_part1_skel
  simp only [Prog.lift, Prog.bind_op, Prog.bind_ret, Prog.pure_eq_ret, wp_deviceId]
  iintro #HR Hk
  rw [wp_ret]; imodintro
  iapply Hk; iempintro

theorem part_2 (K : Dev nD × KI → ℕ) (c : Dev nD) {Q} :
    iprop(records m ρ K)
      ⊢ iprop(((emp) -∗ Q ⟨V46 c, V53 c, V60 c, V68 c, V76 c, V77 c⟩)
        -∗ wp frame (wpE (defs₀ (F := F)) 𝒱₀ (c : Thread nD τ) none) Set.univ
          (k0_part2 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V20 c) (V37 c) (V39 c) 1#32) Q) := by
  simp only [k0_part2_eq_skeleton]; unfold k0_part2_skel
  simp only [Prog.lift, Prog.bind_op, Prog.bind_ret, Prog.pure_eq_ret]
  iintro #HR Hk
  rw [wp_ret]; imodintro
  iapply Hk; iempintro

/-- A whole staging buffer of device `c`. -/
abbrev stgP (c : Dev nD) (b : Ref sig .tc) (X : b.ty.Contents (Elt F)) : sProp 𝕄 := ((c : Thread nD τ).loc b) ↦{fullShare} X

theorem part_3 (c : Dev nD) {Q} :
    iprop(stgP c cc0_stg0_0 (xstg m ρ c) ∗ stgP c cc0_stg1_0 (rwstg m ρ c) ∗ stgP c cc0_stg2_0 (ixstg m ρ c))
      ⊢ iprop(((stgP c cc0_stg0_0 (xstg m ρ c) ∗ stgP c cc0_stg1_0 (rwstg m ρ c) ∗ stgP c cc0_stg2_0 (ixstg m ρ c)) -∗ Q ⟨V84 c, V93 c, V95 m ρ c, V107 m ρ c, V109 m ρ c, V111 m ρ c, V112 m ρ c, V114 m ρ c, V115 m ρ c⟩)
        -∗ wp frame (wpE (defs₀ (F := F)) 𝒱₀ (c : Thread nD τ) none) Set.univ
          (k0_part3 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 (V20 c) (V37 c) (V39 c) (V77 c)) Q) := by
  simp only [k0_part3_eq_skeleton]; unfold k0_part3_skel
  simp only [Prog.lift, Prog.bind_op, Prog.bind_ret, Prog.pure_eq_ret]
  iintro ⟨H0, H1, H2⟩ Hk
  iapply (wp_load 𝒱₀ (c : Thread nD τ) none Set.univ (m := xM) (Finset.subset_univ _)) $$ H0; iintro H0
  iapply (wp_load 𝒱₀ (c : Thread nD τ) none Set.univ (m := rwM) (Finset.subset_univ _)) $$ H1; iintro H1
  iapply (wp_load 𝒱₀ (c : Thread nD τ) none Set.univ (m := ixM) (Finset.subset_univ _)) $$ H2; iintro H2
  iapply (wp_load 𝒱₀ (c : Thread nD τ) none Set.univ (m := ixM) (Finset.subset_univ _)) $$ H2; iintro H2
  rw [wp_ret]; imodintro
  iapply Hk
  isplitl [H0]; · iexact H0
  isplitl [H1] <;> iassumption

/-! ## The expert buffer, shared out -/

theorem hz3 : (![0, 0, 0] : Fin 3 → Nat) = fun _ => 0 := funext fun a => by fin_cases a <;> rfl

theorem qset_union (i j : Fin 17) (hi : i.val < 3) (hj : ¬ j.val < 3) : (Finset.univ : Finset S4x256x512.Idx) = qset i ∪ qset j := by
  ext x
  refine ⟨fun _ => ?_, fun _ => Finset.mem_univ x⟩
  have h0 : (x 0).val < 4 := (x 0).isLt
  have h1 : (x 1).val < 256 := (x 1).isLt
  have h2 : (x 2).val < 512 := (x 2).isLt
  rw [Finset.mem_union]
  unfold qset
  rw [Rect.mem_set_unit, Rect.mem_set_unit]
  by_cases h : (x 0).val < 2
  · left; rw [if_pos hi]; intro a; fin_cases a
    · exact ⟨Nat.zero_le _, (show (x 0).val < 0 + 2 by omega)⟩
    · exact ⟨Nat.zero_le _, (show (x 1).val < 0 + 256 by omega)⟩
    · exact ⟨Nat.zero_le _, (show (x 2).val < 0 + 512 by omega)⟩
  · right; rw [if_neg hj]; intro a; fin_cases a
    · exact ⟨(show 2 ≤ (x 0).val by omega), (show (x 0).val < 2 + 2 by omega)⟩
    · exact ⟨Nat.zero_le _, (show (x 1).val < 0 + 256 by omega)⟩
    · exact ⟨Nat.zero_le _, (show (x 2).val < 0 + 512 by omega)⟩

theorem qset_disjoint (i j : Fin 17) (hi : i.val < 3) (hj : ¬ j.val < 3) : Disjoint (qset i) (qset j) := by
  rw [Finset.disjoint_left]
  intro x h1 h2
  unfold qset at h1 h2
  rw [Rect.mem_set_unit] at h1 h2
  rw [if_pos hi] at h1; rw [if_neg hj] at h2
  have a1 : (x 0).val < 0 + 2 := (h1 0).2
  have a2 : 2 ≤ (x 0).val := (h2 0).1
  omega

theorem q_link (c : Dev nD) (i j : Fin 17) (hi : i.val < 3) (hj : ¬ j.val < 3) (hj' : j.val < 6) (h : lk i = lk j) {q : PosShare TreeShare} (hq : qsh (lk i) = q) :
    (qP m ρ c Finset.univ q : sProp 𝕄) ⊣⊢ iprop(sendPay m ρ i c ∗ sendPay m ρ j c) := by
  subst hq
  unfold sendPay
  rw [if_pos (show i.val < 6 by omega), if_pos hj', ← h]
  unfold qP
  rw [qset_union i j hi hj]
  exact pointsTo_union (qset_disjoint i j hi hj)

theorem q_share (c : Dev nD) (q : PosShare TreeShare) : (qP m ρ c Finset.univ q : sProp 𝕄) ⊣⊢ iprop(qP m ρ c Finset.univ q.left ∗ qP m ρ c Finset.univ q.right) := by
  unfold qP; exact pointsTo_share (PosShare.mem_left_op_right q)

/-- The expert buffer: half a share kept for the load, the rest to the six first transfers; -/
theorem q_split (c : Dev nD) : (qP m ρ c Finset.univ fullShare : sProp 𝕄)
    ⊢ iprop(qP m ρ c Finset.univ fullShare.left ∗ sendPay m ρ 0 c ∗ sendPay m ρ 3 c ∗ sendPay m ρ 1 c ∗ sendPay m ρ 4 c ∗ sendPay m ρ 2 c ∗ sendPay m ρ 5 c) := by
  iintro H
  ihave H := (q_share m ρ c fullShare).1 $$ H
  icases H with ⟨Hl, H⟩
  isplitl [Hl]; · iexact Hl
  ihave H := (q_share m ρ c fullShare.right).1 $$ H
  icases H with ⟨H0, H⟩
  ihave H0 := (q_link m ρ c 0 3 (by decide) (by decide) (by decide) rfl (q := fullShare.right.left) rfl).1 $$ H0
  icases H0 with ⟨Ha, Hb⟩
  isplitl [Ha]; · iexact Ha
  isplitl [Hb]; · iexact Hb
  ihave H := (q_share m ρ c fullShare.right.right).1 $$ H
  icases H with ⟨H1, H2⟩
  ihave H1 := (q_link m ρ c 1 4 (by decide) (by decide) (by decide) rfl (q := fullShare.right.right.left) rfl).1 $$ H1
  icases H1 with ⟨Ha, Hb⟩
  isplitl [Ha]; · iexact Ha
  isplitl [Hb]; · iexact Hb
  iapply (q_link m ρ c 2 5 (by decide) (by decide) (by decide) rfl (q := fullShare.right.right.right) rfl).1; iexact H2

/-- and whole again. -/
theorem q_join (c : Dev nD) :
    iprop(qP m ρ c Finset.univ fullShare.left ∗ sendPay m ρ 0 c ∗ sendPay m ρ 3 c ∗ sendPay m ρ 1 c ∗ sendPay m ρ 4 c ∗ sendPay m ρ 2 c ∗ sendPay m ρ 5 c)
      ⊢ (qP m ρ c Finset.univ fullShare : sProp 𝕄) := by
  iintro ⟨Hl, H0, H3, H1, H4, H2, H5⟩
  iapply (q_share m ρ c fullShare).2
  isplitl [Hl]; · iexact Hl
  iapply (q_share m ρ c fullShare.right).2
  isplitl [H0 H3]
  · iapply (q_link m ρ c 0 3 (by decide) (by decide) (by decide) rfl (q := fullShare.right.left) rfl).2
    isplitl [H0] <;> iassumption
  iapply (q_share m ρ c fullShare.right.right).2
  isplitl [H1 H4]
  · iapply (q_link m ρ c 1 4 (by decide) (by decide) (by decide) rfl (q := fullShare.right.right.left) rfl).2
    isplitl [H1] <;> iassumption
  iapply (q_link m ρ c 2 5 (by decide) (by decide) (by decide) rfl (q := fullShare.right.right.right) rfl).2
  isplitl [H2] <;> iassumption

/-! ## The handshake -/

/-- What a device hands a neighbour at the barrier is its landing pieces over the link. -/
theorem barPay_nbr (l : Fin 3) (c : Dev nD) : (barPay l (nbr l c) : sProp 𝕄) = anyA c (LS l c) := by
  unfold barPay anyA; rw [nbr_nbr]

theorem part_4 (K : Dev nD × KI → ℕ) (c : Dev nD) {Q} :
    iprop(records m ρ K ∗ (∃ W, owes (c : Thread nD τ) (O₀ c) W) ∗ stgP c cc0_stg3_0 (ewstg m ρ c) ∗ (∃ f, stgP c cc0_scratch1 f)
        ∗ (dutyTok ER (barCell (nbr 0 c)) 0 0 ∗ dutyTok ER (barCell (nbr 1 c)) 0 1 ∗ dutyTok ER (barCell (nbr 2 c)) 0 2)
        ∗ cred (tallyAt (barCell c) () 3) ∗ atPos ER (barCell c) 0 ∅ 0 ∗ anyA c (LS 0 c) ∗ anyA c (LS 1 c) ∗ anyA c (LS 2 c))
      ⊢ iprop(((ow c order ∗ stgP c cc0_stg3_0 (ewstg m ρ c) ∗ semVal (barCell c) 0
            ∗ (qP m ρ c Finset.univ fullShare.left ∗ sendPay m ρ 0 c ∗ sendPay m ρ 3 c ∗ sendPay m ρ 1 c ∗ sendPay m ρ 4 c ∗ sendPay m ρ 2 c ∗ sendPay m ρ 5 c)
            ∗ barPay 0 c ∗ barPay 1 c ∗ barPay 2 c) -∗ Q ⟨V126 m ρ c, V127 m ρ c⟩)
        -∗ wp frame (wpE (defs₀ (F := F)) 𝒱₀ (c : Thread nD τ) none) Set.univ
          (k0_part4 xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4 c (V46 c) (V53 c) (V60 c) (V107 m ρ c) (V111 m ρ c) (V112 m ρ c) (V114 m ρ c) (V115 m ρ c)) Q) := by
  simp only [k0_part4_eq_skeleton]; unfold k0_part4_skel
  simp only [semSignalWord, semWaitWord, Prog.lift, Prog.bind_op, Prog.bind_ret, Prog.pure_eq_ret]
  simp only [dev_eq1 c, dev_eq2 c, dev_eq3 c]
  iintro ⟨#HR, ⟨%W, HO⟩, H3, ⟨%f, Hq⟩, ⟨Ht0, Ht1, Ht2⟩, Hc, Hat, HL0, HL1, HL2⟩ Hk
  iapply (wp_load 𝒱₀ (c : Thread nD τ) none Set.univ (m := ewM) (Finset.subset_univ _)) $$ H3; iintro H3
  iapply (wp_load 𝒱₀ (c : Thread nD τ) none Set.univ (m := qM) (Finset.subset_univ _)) $$ Hq; iintro Hq
  iapply (wp_store 𝒱₀ (c : Thread nD τ) none Set.univ (m := qM) (r := Rect.unit (s := S4x256x512) ![0, 0, 0] S4x256x512.size inb_S4x256x512_S4x256x512_0_0_0) (Mk := Finset.univ) (Finset.subset_univ _)) $$ Hq; iintro Hq
  rw [show (qM.access (Rect.unit (s := S4x256x512) ![0, 0, 0] S4x256x512.size inb_S4x256x512_S4x256x512_0_0_0) : View sig .tc _ _ _).write (Elt F) f
        (k0_pay12 (ewM.view.readAt (Elt F) (Rect.unit (s := S4x256x512) ![0, 0, 0] S4x256x512.size inb_S4x256x512_S4x256x512_0_0_0).toLoadRect (ewstg m ρ c))) Finset.univ = qv m ρ c from
      (Memref.write_access_unit_zero_univ (Elt F) cc0_scratch1 hz3 _ f _).trans (congrArg k0_pay12 (Memref.readAt_unit_zero (Elt F) cc0_stg3_0 hz3 _ _))]
  unfold O₀
  iapply (Rounds.wp_signal 𝒱₀ ER (Rd m ρ) (c : Thread nD τ) none (dst := (nbr 0 c : Thread nD τ)) (κ := K (nbr 0 c, none)) (d := 0)
      (by rw [duties_bar]; exact Finset.mem_univ _) ((amount_bar m ρ (nbr 0 c) 0).trans (by decide)) () (O₁ c) rfl) $$ [HO Ht0 HL0]
  · isplitr; · iapply (rec_inv m ρ K (nbr 0 c, none)); iexact HR
    isplitl [HO]; · iexact HO
    isplitl [Ht0]; · iexact Ht0
    isplitl [HL0]; · rw [payload_bar, barPay_nbr]; iexact HL0
    iapply (rec_reached m ρ K (nbr 0 c, none)); iexact HR
  iintro HO
  unfold O₁
  iapply (Rounds.wp_signal 𝒱₀ ER (Rd m ρ) (c : Thread nD τ) none (dst := (nbr 1 c : Thread nD τ)) (κ := K (nbr 1 c, none)) (d := 1)
      (by rw [duties_bar]; exact Finset.mem_univ _) ((amount_bar m ρ (nbr 1 c) 1).trans (by decide)) () (O₂ c) rfl) $$ [HO Ht1 HL1]
  · isplitr; · iapply (rec_inv m ρ K (nbr 1 c, none)); iexact HR
    isplitl [HO]; · iexact HO
    isplitl [Ht1]; · iexact Ht1
    isplitl [HL1]; · rw [payload_bar, barPay_nbr]; iexact HL1
    iapply (rec_reached m ρ K (nbr 1 c, none)); iexact HR
  iintro HO
  unfold O₂
  iapply (Rounds.wp_signal 𝒱₀ ER (Rd m ρ) (c : Thread nD τ) none (dst := (nbr 2 c : Thread nD τ)) (κ := K (nbr 2 c, none)) (d := 2)
      (by rw [duties_bar]; exact Finset.mem_univ _) ((amount_bar m ρ (nbr 2 c) 2).trans (by decide)) () (O₃ c) rfl) $$ [HO Ht2 HL2]
  · isplitr; · iapply (rec_inv m ρ K (nbr 2 c, none)); iexact HR
    isplitl [HO]; · iexact HO
    isplitl [Ht2]; · iexact Ht2
    isplitl [HL2]; · rw [payload_bar, barPay_nbr]; iexact HL2
    iapply (rec_reached m ρ K (nbr 2 c, none)); iexact HR
  iintro HO
  iapply (Rounds.wp_wait_rest_token 𝒱₀ ER (Rd m ρ) (c : Thread nD τ) none (κ := K (c, none))
      (wpE_semWait_eq 𝒱₀ (c : Thread nD τ) none Set.univ) (Set.mem_univ _) () (O := O₃ c) (W := W) (R := 0) (m := 0) (T := ∅)
      (by rw [expect_bar]; decide)) $$ [Hc HO Hat]
  · isplitr; · iapply (rec_inv m ρ K (c, none)); iexact HR
    isplitl [Hc]; · iexact Hc
    isplitl [HO]; · iexact HO
    isplitr; · iapply (mayWait_of c (.reg barS) 1 (le_of_eq (lv_bar c)) order (fun i _ => lt_of_lt_of_le (by decide) (ph_ge i))); iapply (rec_lev m ρ K); iexact HR
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (rec_inv m ρ K (c, none)); iexact HR
    iexact Hat
  ihave Hq := (show stgP c cc0_scratch1 (qv m ρ c) ⊢ qP m ρ c Finset.univ fullShare from Entails.refl _) $$ Hq
  ihave Hq := (q_split m ρ c) $$ Hq
  rw [wp_ret]; imodintro
  iapply Hk
  isplitl [HO]
  · unfold ow; iexists _; iexact HO
  isplitl [H3]; · iexact H3
  isplitl [Hz]; · iexact Hz
  isplitl [Hq]; · iexact Hq
  iexact Hp

end Cert.K1

end
-- ==== Proof.Local.lean ====
/-
# The local buffers

The contribution buffer by slots, and the output buffer, between whole buffers and the pieces the kernel works on.
-/
module

public import proofs.«01_k».proof.Proof.Open

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The contribution buffer -/

/-- The elements of the contribution buffer in the slots `T`. -/
def slots (T : Finset (Fin 8)) : Finset S8x512x1024.Idx := Finset.univ.filter fun j => (⟨(j 0).val, (j 0).isLt⟩ : Fin 8) ∈ T
/-- Those elements on device `c`, at some contents. -/
def cP (c : Dev nD) (T : Finset (Fin 8)) : sProp 𝕄 := iprop(∃ f, ((c : Thread nD τ).loc cc0_scratch2) ↦[slots T]{fullShare} f)

theorem slots_union (S T : Finset (Fin 8)) : slots (S ∪ T) = slots S ∪ slots T := by
  unfold slots; ext j; simp only [Finset.mem_filter, Finset.mem_union, Finset.mem_univ, true_and]
theorem slots_disjoint {S T : Finset (Fin 8)} (h : Disjoint S T) : Disjoint (slots S) (slots T) := by
  unfold slots; rw [Finset.disjoint_filter]; exact fun j _ h1 h2 => Finset.disjoint_left.mp h h1 h2
theorem slots_univ : slots Finset.univ = Finset.univ := by
  unfold slots; exact Finset.filter_true_of_mem fun j _ => Finset.mem_univ _

omit [FloatOps F] in
theorem cP_split (c : Dev nD) {R S T : Finset (Fin 8)} (h : Disjoint S T) (e : R = S ∪ T) : (cP c R : sProp 𝕄) ⊢ iprop(cP c S ∗ cP c T) := by
  subst e
  unfold cP
  rw [slots_union]
  iintro ⟨%f, H⟩
  ihave H := (pointsTo_union (slots_disjoint h)).1 $$ H
  icases H with ⟨H1, H2⟩
  isplitl [H1]
  · iexists f; iexact H1
  · iexists f; iexact H2
omit [FloatOps F] in
theorem cP_join (c : Dev nD) {R S T : Finset (Fin 8)} (h : Disjoint S T) (e : R = S ∪ T) : iprop(cP c S ∗ cP c T) ⊢ (cP c R : sProp 𝕄) := by
  subst e
  unfold cP
  rw [slots_union]
  iintro ⟨⟨%f, H1⟩, ⟨%g, H2⟩⟩
  iexists ((slots T).piecewise g f)
  iapply (pointsTo_join (slots_disjoint h))
  isplitl [H1] <;> iassumption

theorem slot_set (k : ℕ) (hk : k < 8) (inb : ∀ a, (![k, 0, 0] : Fin 3 → ℕ) a + S1x512x1024.size a ≤ S8x512x1024.size a) :
    (Rect.unit (s := S8x512x1024) ![k, 0, 0] S1x512x1024.size inb).set = slots {⟨k, hk⟩} := by
  ext j
  unfold slots
  rw [Rect.mem_set_unit, Finset.mem_filter, Finset.mem_singleton]
  have h1 : (j 1).val < 512 := (j 1).isLt
  have h2 : (j 2).val < 1024 := (j 2).isLt
  rw [Fin.forall_fin_succ, Fin.forall_fin_succ, Fin.forall_fin_one]
  constructor
  · rintro ⟨h, -⟩
    have h' : k ≤ (j 0).val ∧ (j 0).val < k + 1 := h
    exact ⟨Finset.mem_univ _, Fin.ext (by show (j 0).val = k; omega)⟩
  · rintro ⟨-, h⟩
    have h' : (j 0).val = k := congrArg Fin.val h
    refine ⟨?_, ?_, ?_⟩
    · show k ≤ (j 0).val ∧ (j 0).val < k + 1; omega
    · show 0 ≤ (j 1).val ∧ (j 1).val < 0 + 512; omega
    · show 0 ≤ (j 2).val ∧ (j 2).val < 0 + 1024; omega

omit [FloatOps F] in
theorem slot_eq (c : Dev nD) (k : ℕ) (hk : k < 8) (inb : ∀ a, (![k, 0, 0] : Fin 3 → ℕ) a + S1x512x1024.size a ≤ S8x512x1024.size a) :
    (anyR cM (Rect.unit (s := S8x512x1024) ![k, 0, 0] S1x512x1024.size inb) c : sProp 𝕄) = cP c {⟨k, hk⟩} := by
  unfold anyR cP
  rw [← slot_set k hk inb, show (cM.access (Rect.unit (s := S8x512x1024) ![k, 0, 0] S1x512x1024.size inb)).set
    = (Rect.unit (s := S8x512x1024) ![k, 0, 0] S1x512x1024.size inb).set from View.set_slice_whole _ _]

omit [FloatOps F] in
theorem slots_split (c : Dev nD) : (cP c Finset.univ : sProp 𝕄) ⊢ iprop(anyR cM rC0 c ∗ anyR cM rC1 c ∗ anyR cM rC2 c ∗ anyR cM rC3 c ∗ anyR cM rC4 c ∗ anyR cM rC5 c ∗ anyR cM rC6 c ∗ anyR cM rC7 c) := by
  rw [show (anyR cM rC0 c : sProp 𝕄) = cP c {0} from slot_eq c 0 (by decide) _, show (anyR cM rC1 c : sProp 𝕄) = cP c {1} from slot_eq c 1 (by decide) _, show (anyR cM rC2 c : sProp 𝕄) = cP c {2} from slot_eq c 2 (by decide) _, show (anyR cM rC3 c : sProp 𝕄) = cP c {3} from slot_eq c 3 (by decide) _, show (anyR cM rC4 c : sProp 𝕄) = cP c {4} from slot_eq c 4 (by decide) _, show (anyR cM rC5 c : sProp 𝕄) = cP c {5} from slot_eq c 5 (by decide) _, show (anyR cM rC6 c : sProp 𝕄) = cP c {6} from slot_eq c 6 (by decide) _, show (anyR cM rC7 c : sProp 𝕄) = cP c {7} from slot_eq c 7 (by decide) _]
  iintro H
  have h0 := cP_split (F := F) c (R := Finset.univ) (S := {0}) (T := {1, 2, 3, 4, 5, 6, 7}) (by decide) (by decide)
  ihave H := h0 $$ H
  icases H with ⟨Ha, H⟩
  isplitl [Ha]; · iexact Ha
  have h1 := cP_split (F := F) c (R := {1, 2, 3, 4, 5, 6, 7}) (S := {1}) (T := {2, 3, 4, 5, 6, 7}) (by decide) (by decide)
  ihave H := h1 $$ H
  icases H with ⟨Ha, H⟩
  isplitl [Ha]; · iexact Ha
  have h2 := cP_split (F := F) c (R := {2, 3, 4, 5, 6, 7}) (S := {2}) (T := {3, 4, 5, 6, 7}) (by decide) (by decide)
  ihave H := h2 $$ H
  icases H with ⟨Ha, H⟩
  isplitl [Ha]; · iexact Ha
  have h3 := cP_split (F := F) c (R := {3, 4, 5, 6, 7}) (S := {3}) (T := {4, 5, 6, 7}) (by decide) (by decide)
  ihave H := h3 $$ H
  icases H with ⟨Ha, H⟩
  isplitl [Ha]; · iexact Ha
  have h4 := cP_split (F := F) c (R := {4, 5, 6, 7}) (S := {4}) (T := {5, 6, 7}) (by decide) (by decide)
  ihave H := h4 $$ H
  icases H with ⟨Ha, H⟩
  isplitl [Ha]; · iexact Ha
  have h5 := cP_split (F := F) c (R := {5, 6, 7}) (S := {5}) (T := {6, 7}) (by decide) (by decide)
  ihave H := h5 $$ H
  icases H with ⟨Ha, H⟩
  isplitl [Ha]; · iexact Ha
  have h6 := cP_split (F := F) c (R := {6, 7}) (S := {6}) (T := {7}) (by decide) (by decide)
  ihave H := h6 $$ H
  icases H with ⟨Ha, H⟩
  isplitl [Ha]; · iexact Ha
  iexact H

omit [FloatOps F] in
theorem slots_join (c : Dev nD) : iprop(anyR cM rC0 c ∗ anyR cM rC1 c ∗ anyR cM rC2 c ∗ anyR cM rC3 c ∗ anyR cM rC4 c ∗ anyR cM rC5 c ∗ anyR cM rC6 c ∗ anyR cM rC7 c) ⊢ (cP c Finset.univ : sProp 𝕄) := by
  rw [show (anyR cM rC0 c : sProp 𝕄) = cP c {0} from slot_eq c 0 (by decide) _, show (anyR cM rC1 c : sProp 𝕄) = cP c {1} from slot_eq c 1 (by decide) _, show (anyR cM rC2 c : sProp 𝕄) = cP c {2} from slot_eq c 2 (by decide) _, show (anyR cM rC3 c : sProp 𝕄) = cP c {3} from slot_eq c 3 (by decide) _, show (anyR cM rC4 c : sProp 𝕄) = cP c {4} from slot_eq c 4 (by decide) _, show (anyR cM rC5 c : sProp 𝕄) = cP c {5} from slot_eq c 5 (by decide) _, show (anyR cM rC6 c : sProp 𝕄) = cP c {6} from slot_eq c 6 (by decide) _, show (anyR cM rC7 c : sProp 𝕄) = cP c {7} from slot_eq c 7 (by decide) _]
  iintro ⟨H0, H1, H2, H3, H4, H5, H6, H7⟩
  have h0 := cP_join (F := F) c (R := Finset.univ) (S := {0}) (T := {1, 2, 3, 4, 5, 6, 7}) (by decide) (by decide)
  iapply h0
  isplitl [H0]; · iexact H0
  have h1 := cP_join (F := F) c (R := {1, 2, 3, 4, 5, 6, 7}) (S := {1}) (T := {2, 3, 4, 5, 6, 7}) (by decide) (by decide)
  iapply h1
  isplitl [H1]; · iexact H1
  have h2 := cP_join (F := F) c (R := {2, 3, 4, 5, 6, 7}) (S := {2}) (T := {3, 4, 5, 6, 7}) (by decide) (by decide)
  iapply h2
  isplitl [H2]; · iexact H2
  have h3 := cP_join (F := F) c (R := {3, 4, 5, 6, 7}) (S := {3}) (T := {4, 5, 6, 7}) (by decide) (by decide)
  iapply h3
  isplitl [H3]; · iexact H3
  have h4 := cP_join (F := F) c (R := {4, 5, 6, 7}) (S := {4}) (T := {5, 6, 7}) (by decide) (by decide)
  iapply h4
  isplitl [H4]; · iexact H4
  have h5 := cP_join (F := F) c (R := {5, 6, 7}) (S := {5}) (T := {6, 7}) (by decide) (by decide)
  iapply h5
  isplitl [H5]; · iexact H5
  have h6 := cP_join (F := F) c (R := {6, 7}) (S := {6}) (T := {7}) (by decide) (by decide)
  iapply h6
  isplitl [H6]; · iexact H6
  iexact H7

/-- A buffer of device `c`, whole, at some contents. -/
abbrev bufP (c : Dev nD) (b : Ref sig .tc) : sProp 𝕄 := iprop(∃ f : Buf (Elt F) ((c : Thread nD τ).loc b), ((c : Thread nD τ).loc b) ↦{fullShare} f)

omit [FloatOps F] in
theorem cP_whole (c : Dev nD) : (cP c Finset.univ : sProp 𝕄) = bufP c cc0_scratch2 := by unfold cP; rw [slots_univ]
omit [FloatOps F] in
theorem anyA_whole (c : Dev nD) : (anyA c Finset.univ : sProp 𝕄) = bufP c cc0_scratch0 := by unfold anyA aP; rw [reg_univ]
theorem q_whole (c : Dev nD) : (qP m ρ c Finset.univ fullShare : sProp 𝕄) ⊢ bufP c cc0_scratch1 := by
  unfold qP; iintro H; iexists (qv m ρ c); iexact H

/-! ## The output buffer -/

theorem rO_set : (rO : Rect S512x512).set = Finset.univ := by
  ext j
  rw [Rect.mem_set_unit]
  refine ⟨fun _ => Finset.mem_univ _, fun _ a => ?_⟩
  have h0 : (j 0).val < 512 := (j 0).isLt
  have h1 : (j 1).val < 512 := (j 1).isLt
  fin_cases a
  · show 0 ≤ (j 0).val ∧ (j 0).val < 0 + 512; omega
  · show 0 ≤ (j 1).val ∧ (j 1).val < 0 + 512; omega

theorem hz2 : (![0, 0] : Fin 2 → Nat) = fun _ => 0 := funext fun a => by fin_cases a <;> rfl

theorem out_set : (oM.access rO).set = (Finset.univ : Finset S512x512.Idx) := (View.set_slice_whole _ _).trans rO_set

omit [FloatOps F] in
theorem out_any (c : Dev nD) (f : (cc0_stg4_0 : Ref sig .tc).ty.Contents (Elt F)) :
    (((c : Thread nD τ).loc cc0_stg4_0) ↦{fullShare} f : sProp 𝕄) ⊢ anyR oM rO c := by
  unfold anyR; rw [out_set]; iintro H; iexists f; iexact H

omit [FloatOps F] in
theorem out_has (c : Dev nD) (w : (cc0_stg4_0 : Ref sig .tc).ty.Contents (Elt F)) :
    (hasR oM rO c w : sProp 𝕄) ⊢ (((c : Thread nD τ).loc cc0_stg4_0) ↦{fullShare} w) := by
  unfold hasR; rw [out_set]
  iintro ⟨%f, %hf, H⟩
  have e : f = w := (Memref.readAt_unit_zero (Elt F) cc0_stg4_0 hz2 _ f).symm.trans hf
  subst e
  iexact H

end Cert.K1

end
-- ==== Proof.Run.lean ====
/-
# The kernel, whole

The kernel's parts in order, from the buffers and tokens a device starts with to the buffers it ends with, its output
staged, and every semaphore back at zero.
-/
module

public import proofs.«01_k».proof.Proof.PartA
public import proofs.«01_k».proof.Proof.PartB
public import proofs.«01_k».proof.Proof.PartC
public import proofs.«01_k».proof.Proof.PartD
public import proofs.«01_k».proof.Proof.PartE
public import proofs.«01_k».proof.Proof.Open
public import proofs.«01_k».proof.Proof.Local

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Everything a device needs to run the kernel: the records, what it owes, its staged arguments, its local buffers, and
    the tokens, credits and positions of its cells. -/
def runPre (K : Dev nD × KI → ℕ) (c : Dev nD) : sProp 𝕄 :=
  iprop(records m ρ K ∗ (∃ W, owes (c : Thread nD τ) (O₀ c) W)
    ∗ (stgP c cc0_stg0_0 (xstg m ρ c) ∗ stgP c cc0_stg1_0 (rwstg m ρ c) ∗ stgP c cc0_stg2_0 (ixstg m ρ c) ∗ stgP c cc0_stg3_0 (ewstg m ρ c))
    ∗ anyR oM rO c ∗ bufP c cc0_scratch0 ∗ bufP c cc0_scratch1 ∗ bufP c cc0_scratch2
    ∗ (dutyTok ER (barCell (nbr 0 c)) 0 0 ∗ dutyTok ER (barCell (nbr 1 c)) 0 1 ∗ dutyTok ER (barCell (nbr 2 c)) 0 2)
    ∗ cred (tallyAt (barCell c) () 3) ∗ atPos ER (barCell c) 0 ∅ 0
    ∗ (pay 0 c ∗ pay 1 c ∗ pay 2 c ∗ pay 3 c ∗ pay 4 c ∗ pay 5 c ∗ pay 6 c ∗ pay 7 c ∗ pay 8 c ∗ pay 9 c ∗ pay 10 c ∗ pay 11 c ∗ pay 12 c ∗ pay 13 c ∗ pay 14 c ∗ pay 15 c ∗ pay 16 c)
    ∗ (inc 0 c ∗ inc 1 c ∗ inc 2 c ∗ inc 3 c ∗ inc 4 c ∗ inc 5 c ∗ inc 6 c ∗ inc 7 c ∗ inc 8 c ∗ inc 9 c ∗ inc 10 c ∗ inc 11 c ∗ inc 12 c ∗ inc 13 c ∗ inc 14 c ∗ inc 15 c ∗ inc 16 c))

/-- What a device ends with: nothing owed, its staged arguments as they were, its output, its local buffers whole again,
    and its semaphores at zero. -/
def runPost (c : Dev nD) : sProp 𝕄 :=
  iprop((∃ W, owes (c : Thread nD τ) 0 W)
    ∗ (stgP c cc0_stg0_0 (xstg m ρ c) ∗ stgP c cc0_stg1_0 (rwstg m ρ c) ∗ stgP c cc0_stg2_0 (ixstg m ρ c) ∗ stgP c cc0_stg3_0 (ewstg m ρ c))
    ∗ hasR oM rO c (A7 m ρ c) ∗ bufP c cc0_scratch0 ∗ bufP c cc0_scratch1 ∗ bufP c cc0_scratch2
    ∗ semVal (barCell c) 0
    ∗ (semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0 ∗ semVal (sendCell 7 c) 0 ∗ semVal (sendCell 8 c) 0 ∗ semVal (sendCell 9 c) 0 ∗ semVal (sendCell 10 c) 0 ∗ semVal (sendCell 11 c) 0 ∗ semVal (sendCell 12 c) 0 ∗ semVal (sendCell 13 c) 0 ∗ semVal (sendCell 14 c) 0 ∗ semVal (sendCell 15 c) 0 ∗ semVal (sendCell 16 c) 0)
    ∗ (semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0 ∗ semVal (recvCell 7 c) 0 ∗ semVal (recvCell 8 c) 0 ∗ semVal (recvCell 9 c) 0 ∗ semVal (recvCell 10 c) 0 ∗ semVal (recvCell 11 c) 0 ∗ semVal (recvCell 12 c) 0 ∗ semVal (recvCell 13 c) 0 ∗ semVal (recvCell 14 c) 0 ∗ semVal (recvCell 15 c) 0 ∗ semVal (recvCell 16 c) 0))

set_option maxHeartbeats 4000000 in
/-- The kernel runs from `runPre` to `runPost`. -/
theorem run_body (K : Dev nD × KI → ℕ) (c : Dev nD) {Q} :
    runPre m ρ K c ⊢ iprop((runPost m ρ c -∗ Q ⟨⟩)
      -∗ wp frame (wpE (defs₀ (F := F)) 𝒱₀ (c : Thread nD τ) none) Set.univ (cc0_body xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4) Q) := by
  simp only [cc0_body_eq_skeleton]; unfold cc0_body_skel runPre runPost
  iintro ⟨#HR, HO, ⟨X0, X1, X2, X3⟩, HU, HA, Hq, HC, Ht, Hc, Hat, ⟨Hp0, Hp1, Hp2, Hp3, Hp4, Hp5, Hp6, Hp7, Hp8, Hp9, Hp10, Hp11, Hp12, Hp13, Hp14, Hp15, Hp16⟩, ⟨Hi0, Hi1, Hi2, Hi3, Hi4, Hi5, Hi6, Hi7, Hi8, Hi9, Hi10, Hi11, Hi12, Hi13, Hi14, Hi15, Hi16⟩⟩ Hk
  ihave HA := (Entails.of_eq (anyA_whole c).symm) $$ HA
  ihave HA := (split_all c) $$ HA
  icases HA with ⟨Hown, HL0, HL1, HL2⟩
  ihave HC := (Entails.of_eq (cP_whole c).symm) $$ HC
  ihave HC := (slots_split c) $$ HC
  icases HC with ⟨HC0, HC1, HC2, HC3, HC4, HC5, HC6, HC7⟩
  rw [wp_bind]
  iapply (part_1 m ρ K c) $$ []
  · iexact HR
  iintro -
  dsimp only
  rw [wp_bind]
  iapply (part_2 m ρ K c) $$ []
  · iexact HR
  iintro -
  dsimp only
  rw [wp_bind]
  iapply (part_3 m ρ c) $$ [X0 X1 X2]
  · isplitl [X0]; · iexact X0
    isplitl [X1]; · iexact X1
    iexact X2
  iintro ⟨X0, X1, X2⟩
  dsimp only
  rw [wp_bind]
  iapply (part_4 m ρ K c) $$ [HO X3 Hq Ht Hc Hat HL0 HL1 HL2]
  · isplitr; · iexact HR
    isplitl [HO]; · iexact HO
    isplitl [X3]; · iexact X3
    isplitl [Hq]; · iexact Hq
    isplitl [Ht]; · iexact Ht
    isplitl [Hc]; · iexact Hc
    isplitl [Hat]; · iexact Hat
    isplitl [HL0]; · iexact HL0
    isplitl [HL1]; · iexact HL1
    iexact HL2
  iintro ⟨HO, X3, Hzb, ⟨HQ, Hs0, Hs3, Hs1, Hs4, Hs2, Hs5⟩, Hb0, Hb1, Hb2⟩
  ihave H := (land_of_bar0 c) $$ Hb0
  icases H with ⟨Hl0, Hl3, Hl6, Hl9, Hl12, Hl15⟩
  ihave H := (land_of_bar1 c) $$ Hb1
  icases H with ⟨Hl1, Hl4, Hl7, Hl10, Hl13, Hl16⟩
  ihave H := (land_of_bar2 c) $$ Hb2
  icases H with ⟨Hl2, Hl5, Hl8, Hl11, Hl14⟩
  dsimp only
  rw [wp_bind]
  iapply (part_5 m ρ K c) $$ [HO Hp0 Hl0 Hs0 Hp3 Hl3 Hs3 Hp1 Hl1 Hs1]
  · isplitr; · iexact HR
    isplitl [HO]; · iexact HO
    isplitl [Hp0]; · iexact Hp0
    isplitl [Hl0]; · iexact Hl0
    isplitl [Hs0]; · iexact Hs0
    isplitl [Hp3]; · iexact Hp3
    isplitl [Hl3]; · iexact Hl3
    isplitl [Hs3]; · iexact Hs3
    isplitl [Hp1]; · iexact Hp1
    isplitl [Hl1]; · iexact Hl1
    iexact Hs1
  iintro ⟨Hf0, Hf3, HO, Hf1⟩
  rw [wp_bind]
  iapply (part_6 m ρ K c) $$ [HO Hp4 Hl4 Hs4 Hp2 Hl2 Hs2]
  · isplitr; · iexact HR
    isplitl [HO]; · iexact HO
    isplitl [Hp4]; · iexact Hp4
    isplitl [Hl4]; · iexact Hl4
    isplitl [Hs4]; · iexact Hs4
    isplitl [Hp2]; · iexact Hp2
    isplitl [Hl2]; · iexact Hl2
    iexact Hs2
  iintro ⟨Hf4, HO, Hf2⟩
  rw [wp_bind]
  iapply (part_7 m ρ K c) $$ [HO Hp5 Hl5 Hs5]
  · isplitr; · iexact HR
    isplitl [HO]; · iexact HO
    isplitl [Hp5]; · iexact Hp5
    isplitl [Hl5]; · iexact Hl5
    iexact Hs5
  iintro ⟨HO, Hf5⟩
  dsimp only
  rw [wp_bind]
  iapply (part_8 m ρ K c) $$ [HC0]
  · isplitr; · iexact HR
    iexact HC0
  iintro HC0
  dsimp only
  rw [wp_bind]
  iapply (part_9 m ρ K c) $$ [HC1]
  · isplitr; · iexact HR
    iexact HC1
  iintro HC1
  dsimp only
  rw [wp_bind]
  iapply (part_10 m ρ K c) $$ [HC2]
  · isplitr; · iexact HR
    iexact HC2
  iintro HC2
  dsimp only
  rw [wp_bind]
  iapply (part_11 m ρ K c) $$ []
  · iexact HR
  iintro -
  dsimp only
  rw [wp_bind]
  iapply (part_12 m ρ K c) $$ [HC3]
  · isplitr; · iexact HR
    iexact HC3
  iintro HC3
  dsimp only
  rw [wp_bind]
  iapply (part_13 m ρ K c) $$ [HC4]
  · isplitr; · iexact HR
    iexact HC4
  iintro HC4
  dsimp only
  rw [wp_bind]
  iapply (part_14 m ρ K c) $$ [HC5]
  · isplitr; · iexact HR
    iexact HC5
  iintro HC5
  rw [wp_bind]
  iapply (part_15 m ρ K c) $$ [HC6]
  · isplitr; · iexact HR
    iexact HC6
  iintro HC6
  rw [wp_bind]
  iapply (part_16 m ρ K c) $$ [HC6]
  · isplitr; · iexact HR
    iexact HC6
  iintro HC6
  dsimp only
  rw [wp_bind]
  iapply (part_17 m ρ K c) $$ [HC7 HQ HC0 HU HO Hi1]
  · isplitr; · iexact HR
    isplitl [HC7]; · iexact HC7
    isplitl [HQ]; · iexact HQ
    isplitl [HC0]; · iexact HC0
    isplitl [HU]; · iexact HU
    isplitl [HO]; · iexact HO
    iexact Hi1
  iintro ⟨HC7, HQ, HC0, HU, HO, Hz1, Hg1, Hw6⟩
  rw [wp_bind]
  iapply (part_18 m ρ K c) $$ [HO Hp6 Hl6 Hw6 Hi2 Hp7 Hl7]
  · isplitr; · iexact HR
    isplitl [HO]; · iexact HO
    isplitl [Hp6]; · iexact Hp6
    isplitl [Hl6]; · iexact Hl6
    isplitl [Hw6]; · iexact Hw6
    isplitl [Hi2]; · iexact Hi2
    isplitl [Hp7]; · iexact Hp7
    iexact Hl7
  iintro ⟨Hf6, Hz2, Hg2, HO, Hf7⟩
  rw [wp_bind]
  iapply (part_19 m ρ K c) $$ [HO Hi0 Hp8 Hl8]
  · isplitr; · iexact HR
    isplitl [HO]; · iexact HO
    isplitl [Hi0]; · iexact Hi0
    isplitl [Hp8]; · iexact Hp8
    iexact Hl8
  iintro ⟨Hz0, Hg0, HO, Hf8⟩
  rw [wp_bind]
  iapply (part_20 m ρ K c) $$ [HO Hi4 Hp9 Hl9 Hi5]
  · isplitr; · iexact HR
    isplitl [HO]; · iexact HO
    isplitl [Hi4]; · iexact Hi4
    isplitl [Hp9]; · iexact Hp9
    isplitl [Hl9]; · iexact Hl9
    iexact Hi5
  iintro ⟨Hz4, Hg4, HO, Hf9, Hz5, Hg5, Hw10⟩
  rw [wp_bind]
  iapply (part_21 m ρ K c) $$ [HO Hp10 Hl10 Hw10 Hi3 Hp11 Hl11 Hg0]
  · isplitr; · iexact HR
    isplitl [HO]; · iexact HO
    isplitl [Hp10]; · iexact Hp10
    isplitl [Hl10]; · iexact Hl10
    isplitl [Hw10]; · iexact Hw10
    isplitl [Hi3]; · iexact Hi3
    isplitl [Hp11]; · iexact Hp11
    isplitl [Hl11]; · iexact Hl11
    iexact Hg0
  iintro ⟨Hf10, Hz3, Hg3, HO, Hf11, Hg0⟩
  rw [wp_bind]
  iapply (part_22 m ρ K c) $$ [HC1 HU Hg1 Hg4 HC2 Hg2 Hg5 HC3]
  · isplitr; · iexact HR
    isplitl [HC1]; · iexact HC1
    isplitl [HU]; · iexact HU
    isplitl [Hg1]; · iexact Hg1
    isplitl [Hg4]; · iexact Hg4
    isplitl [HC2]; · iexact HC2
    isplitl [Hg2]; · iexact Hg2
    isplitl [Hg5]; · iexact Hg5
    iexact HC3
  iintro ⟨HC1, HU, Hg1, Hg4, HC2, Hg2, Hg5, HC3⟩
  rw [wp_bind]
  iapply (part_23 m ρ K c) $$ [HU HO Hi7 Hp12 Hl12]
  · isplitr; · iexact HR
    isplitl [HU]; · iexact HU
    isplitl [HO]; · iexact HO
    isplitl [Hi7]; · iexact Hi7
    isplitl [Hp12]; · iexact Hp12
    iexact Hl12
  iintro ⟨HU, Hz7, Hg7, Hw15, He7, HO, Hf12⟩
  rw [wp_bind]
  iapply (part_24 m ρ K c) $$ [HO Hp15 Hl15 Hw15 Hi8 Hp13 Hl13]
  · isplitr; · iexact HR
    isplitl [HO]; · iexact HO
    isplitl [Hp15]; · iexact Hp15
    isplitl [Hl15]; · iexact Hl15
    isplitl [Hw15]; · iexact Hw15
    isplitl [Hi8]; · iexact Hi8
    isplitl [Hp13]; · iexact Hp13
    iexact Hl13
  iintro ⟨Hf15, Hz8, Hg8, He8, HO, Hf13⟩
  rw [wp_bind]
  iapply (part_25 m ρ K c) $$ [HO Hi11 Hp16 Hl16 Hi6]
  · isplitr; · iexact HR
    isplitl [HO]; · iexact HO
    isplitl [Hi11]; · iexact Hi11
    isplitl [Hp16]; · iexact Hp16
    isplitl [Hl16]; · iexact Hl16
    iexact Hi6
  iintro ⟨Hz11, Hg11, He11, HO, Hf16, Hz6, Hg6, Hr6⟩
  rw [wp_bind]
  iapply (part_26 m ρ K c) $$ [HO Hi9 Hp14 Hl14]
  · isplitr; · iexact HR
    isplitl [HO]; · iexact HO
    isplitl [Hi9]; · iexact Hi9
    isplitl [Hp14]; · iexact Hp14
    iexact Hl14
  iintro ⟨Hz9, Hg9, He9, HO, Hf14⟩
  rw [wp_bind]
  iapply (part_27 m ρ K c) $$ [HO Hi10 Hg6 Hg9 HC4 HU Hg7 HC5 Hg8 Hg11 HC6]
  · isplitr; · iexact HR
    isplitl [HO]; · iexact HO
    isplitl [Hi10]; · iexact Hi10
    isplitl [Hg6]; · iexact Hg6
    isplitl [Hg9]; · iexact Hg9
    isplitl [HC4]; · iexact HC4
    isplitl [HU]; · iexact HU
    isplitl [Hg7]; · iexact Hg7
    isplitl [HC5]; · iexact HC5
    isplitl [Hg8]; · iexact Hg8
    isplitl [Hg11]; · iexact Hg11
    iexact HC6
  iintro ⟨HO, Hz10, Hg10, Hr10, Hg6, Hg9, HC4, HU, Hg7, HC5, Hg8, Hg11, HC6⟩
  dsimp only
  rw [wp_bind]
  iapply (part_28 m ρ K c) $$ [HU HO Hi12 Hi15]
  · isplitr; · iexact HR
    isplitl [HU]; · iexact HU
    isplitl [HO]; · iexact HO
    isplitl [Hi12]; · iexact Hi12
    iexact Hi15
  iintro ⟨HU, HO, Hz12, Hv12, Hz15, Hv15⟩
  dsimp only
  rw [wp_bind]
  iapply (part_29 m ρ K c) $$ [HO Hi13 Hi16 Hi14]
  · isplitr; · iexact HR
    isplitl [HO]; · iexact HO
    isplitl [Hi13]; · iexact Hi13
    isplitl [Hi16]; · iexact Hi16
    iexact Hi14
  iintro ⟨HO, Hz13, Hv13, Hz16, Hv16, Hz14, Hv14⟩
  rw [wp_bind]
  iapply (part_30 m ρ K c) $$ [Hv12 Hv13 Hv14 Hv15 Hv16 HC7 HU HO Hf0 Hf6]
  · isplitr; · iexact HR
    isplitl [Hv12]; · iexact Hv12
    isplitl [Hv13]; · iexact Hv13
    isplitl [Hv14]; · iexact Hv14
    isplitl [Hv15]; · iexact Hv15
    isplitl [Hv16]; · iexact Hv16
    isplitl [HC7]; · iexact HC7
    isplitl [HU]; · iexact HU
    isplitl [HO]; · iexact HO
    isplitl [Hf0]; · iexact Hf0
    iexact Hf6
  iintro ⟨HG, HC7, HU, HO, Hy0, Hb0, Hy6, Hb6⟩
  rw [wp_bind]
  iapply (part_31 m ρ K c) $$ [HO Hf3 Hf9 Hf1]
  · isplitr; · iexact HR
    isplitl [HO]; · iexact HO
    isplitl [Hf3]; · iexact Hf3
    isplitl [Hf9]; · iexact Hf9
    iexact Hf1
  iintro ⟨HO, Hy3, Hb3, Hy9, Hb9, Hy1, Hb1⟩
  rw [wp_bind]
  iapply (part_32 m ρ K c) $$ [HO Hf7 Hf4 Hf10 Hf2]
  · isplitr; · iexact HR
    isplitl [HO]; · iexact HO
    isplitl [Hf7]; · iexact Hf7
    isplitl [Hf4]; · iexact Hf4
    isplitl [Hf10]; · iexact Hf10
    iexact Hf2
  iintro ⟨HO, Hy7, Hb7, Hy4, Hb4, Hy10, Hb10, Hy2, Hb2⟩
  rw [wp_bind]
  iapply (part_33 m ρ K c) $$ [HO Hf8 Hf5 Hf11]
  · isplitr; · iexact HR
    isplitl [HO]; · iexact HO
    isplitl [Hf8]; · iexact Hf8
    isplitl [Hf5]; · iexact Hf5
    iexact Hf11
  iintro ⟨HO, Hy8, Hb8, Hy5, Hb5, Hy11, Hb11⟩
  rw [wp_bind]
  iapply (part_34 m ρ K c) $$ [HO Hf12 Hf15 Hf13]
  · isplitr; · iexact HR
    isplitl [HO]; · iexact HO
    isplitl [Hf12]; · iexact Hf12
    isplitl [Hf15]; · iexact Hf15
    iexact Hf13
  iintro ⟨HO, Hy12, Hb12, Hy15, Hb15, Hy13, Hb13⟩
  simp only [Prog.lift, Prog.bind_op, Prog.bind_ret, Prog.pure_eq_ret]
  iapply (step_sent m ρ K c 16 rfl rfl) $$ [HO Hf16]
  · isplitr; · iexact HR
    isplitl [HO]; · iexact HO
    iexact Hf16
  iintro ⟨HO, Hy16, Hb16⟩
  iapply (step_sent m ρ K c 14 rfl rfl) $$ [HO Hf14]
  · isplitr; · iexact HR
    isplitl [HO]; · iexact HO
    iexact Hf14
  iintro ⟨HO, Hy14, Hb14⟩
  rw [wp_ret]; imodintro
  ihave HQ := (q_join m ρ c) $$ [HQ Hb0 Hb3 Hb1 Hb4 Hb2 Hb5]
  · isplitl [HQ]; · iexact HQ
    isplitl [Hb0]; · iexact Hb0
    isplitl [Hb3]; · iexact Hb3
    isplitl [Hb1]; · iexact Hb1
    isplitl [Hb4]; · iexact Hb4
    isplitl [Hb2]; · iexact Hb2
    iexact Hb5
  ihave Hb6 := (Entails.of_eq (sendPay_A m ρ 6 (by decide) c)) $$ Hb6
  ihave Hb7 := (Entails.of_eq (sendPay_A m ρ 7 (by decide) c)) $$ Hb7
  ihave Hb8 := (Entails.of_eq (sendPay_A m ρ 8 (by decide) c)) $$ Hb8
  ihave Hb9 := (Entails.of_eq (sendPay_A m ρ 9 (by decide) c)) $$ Hb9
  ihave Hb10 := (Entails.of_eq (sendPay_A m ρ 10 (by decide) c)) $$ Hb10
  ihave Hb11 := (Entails.of_eq (sendPay_A m ρ 11 (by decide) c)) $$ Hb11
  ihave Hb12 := (Entails.of_eq (sendPay_A m ρ 12 (by decide) c)) $$ Hb12
  ihave Hb13 := (Entails.of_eq (sendPay_A m ρ 13 (by decide) c)) $$ Hb13
  ihave Hb14 := (Entails.of_eq (sendPay_A m ρ 14 (by decide) c)) $$ Hb14
  ihave Hb15 := (Entails.of_eq (sendPay_A m ρ 15 (by decide) c)) $$ Hb15
  ihave Hb16 := (Entails.of_eq (sendPay_A m ρ 16 (by decide) c)) $$ Hb16
  ihave Ha0 := (join_0 m ρ c) $$ [Hg0 Hb8]
  · isplitl [Hg0]; · iexact Hg0
    iexact Hb8
  ihave Ha1 := (join_1 m ρ c) $$ [Hg1 Hb6]
  · isplitl [Hg1]; · iexact Hg1
    iexact Hb6
  ihave Ha2 := (join_2 m ρ c) $$ [Hg2 Hb7]
  · isplitl [Hg2]; · iexact Hg2
    iexact Hb7
  ihave Ha3 := (join_3 m ρ c) $$ [Hg3 Hb11]
  · isplitl [Hg3]; · iexact Hg3
    iexact Hb11
  ihave Ha4 := (join_4 m ρ c) $$ [Hg4 Hb9]
  · isplitl [Hg4]; · iexact Hg4
    iexact Hb9
  ihave Ha5 := (join_5 m ρ c) $$ [Hg5 Hb10]
  · isplitl [Hg5]; · iexact Hg5
    iexact Hb10
  ihave Ha6 := (join_6 m ρ c) $$ [Hg6 Hr6]
  · isplitl [Hg6]; · iexact Hg6
    iexact Hr6
  ihave Ha7 := (join_7 m ρ c) $$ [Hg7 Hb12 Hb15 He7]
  · isplitl [Hg7]; · iexact Hg7
    isplitl [Hb12]; · iexact Hb12
    isplitl [Hb15]; · iexact Hb15
    iexact He7
  ihave Ha8 := (join_8 m ρ c) $$ [Hg8 Hb13 He8]
  · isplitl [Hg8]; · iexact Hg8
    isplitl [Hb13]; · iexact Hb13
    iexact He8
  ihave Ha9 := (join_9 m ρ c) $$ [Hg9 Hb14 He9]
  · isplitl [Hg9]; · iexact Hg9
    isplitl [Hb14]; · iexact Hb14
    iexact He9
  ihave Ha10 := (join_10 m ρ c) $$ [Hg10 Hr10]
  · isplitl [Hg10]; · iexact Hg10
    iexact Hr10
  ihave Ha11 := (join_11 m ρ c) $$ [Hg11 Hb16 He11]
  · isplitl [Hg11]; · iexact Hg11
    isplitl [Hb16]; · iexact Hb16
    iexact He11
  ihave HG := (show aP c (sl 6 Finset.univ c) fullShare (allv m ρ) ⊢ anyA c (sl 6 Finset.univ c) from by unfold anyA; iintro H; iexists (allv m ρ); iexact H) $$ HG
  ihave HA := (join_all c) $$ [Hown HG Ha0 Ha1 Ha2 Ha3 Ha4 Ha5 Ha6 Ha7 Ha8 Ha9 Ha10 Ha11]
  · isplitl [Hown]; · iexact Hown
    isplitl [HG]; · iexact HG
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    iexact Ha11
  ihave HC0 := (anyR_of_hasR cM rC0 c (S0 m ρ c)) $$ HC0
  ihave HC1 := (anyR_of_hasR cM rC1 c (S1 m ρ c)) $$ HC1
  ihave HC2 := (anyR_of_hasR cM rC2 c (S2 m ρ c)) $$ HC2
  ihave HC3 := (anyR_of_hasR cM rC3 c (S3 m ρ c)) $$ HC3
  ihave HC4 := (anyR_of_hasR cM rC4 c (S4 m ρ c)) $$ HC4
  ihave HC5 := (anyR_of_hasR cM rC5 c (S5 m ρ c)) $$ HC5
  ihave HC6 := (anyR_of_hasR cM rC6 c (S6 m ρ c)) $$ HC6
  ihave HC7 := (anyR_of_hasR cM rC7 c (S7 m ρ c)) $$ HC7
  ihave HC := (slots_join c) $$ [HC0 HC1 HC2 HC3 HC4 HC5 HC6 HC7]
  · isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    iexact HC7
  iapply Hk
  isplitl [HO]
  · ihave HO := (show (ow c [] : sProp 𝕄) ⊢ iprop(∃ W, owes (c : Thread nD τ) 0 W) from Entails.refl _) $$ HO
    iexact HO
  isplitl [X0 X1 X2 X3]
  · isplitl [X0]; · iexact X0
    isplitl [X1]; · iexact X1
    isplitl [X2] <;> iassumption
  isplitl [HU]; · iexact HU
  isplitl [HA]
  · iapply (Entails.of_eq (anyA_whole c)); iexact HA
  isplitl [HQ]
  · iapply (q_whole m ρ c); iexact HQ
  isplitl [HC]
  · iapply (Entails.of_eq (cP_whole c)); iexact HC
  isplitl [Hzb]; · iexact Hzb
  isplitl [Hy0 Hy1 Hy2 Hy3 Hy4 Hy5 Hy6 Hy7 Hy8 Hy9 Hy10 Hy11 Hy12 Hy13 Hy14 Hy15 Hy16]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    isplitl [Hy9]; · iexact Hy9
    isplitl [Hy10]; · iexact Hy10
    isplitl [Hy11]; · iexact Hy11
    isplitl [Hy12]; · iexact Hy12
    isplitl [Hy13]; · iexact Hy13
    isplitl [Hy14]; · iexact Hy14
    isplitl [Hy15]; · iexact Hy15
    iexact Hy16
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  isplitl [Hz15]; · iexact Hz15
  iexact Hz16

end Cert.K1

end
-- ==== Proof.Launch.lean ====
/-
# The launch

The proof data of the one region, the cells and tokens dealt out at launch, and the whole program's run: it ends, with
every device's arrays at the contents of the proof data and every semaphore at zero.
-/
module

public import proofs.«01_k».proof.Proof.Run
public import Idealize.ShloMosaic.Lib.Pipeline.Launch
public import Idealize.ShloMosaic.Lib.Pipeline.Kit
public import Idealize.ShloMosaic.Lib.Pipeline.CollectiveSegs

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Seventeen summands, written out. -/
theorem bigSep_17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
omit [FloatOps F] in
theorem bigSep_3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_KI (Φ : KI → sProp 𝕄) : bigSep Finset.univ Φ
    = iprop(Φ none ∗ (bigSep Finset.univ fun i => Φ (some (.inl i))) ∗ bigSep Finset.univ fun i => Φ (some (.inr i))) := by
  rw [show (Finset.univ : Finset KI) = insert none (Finset.univ.map Function.Embedding.some) from rfl, bigSep_insert (by simp), bigSep_map,
    bigSep_univ_sum]
  rfl

/-! ## The region's proof data -/

/-- The two semaphores the kernel allocates and does not use. -/
def spare (c : Dev nD) : sProp 𝕄 := iprop(semVal ((c : Thread nD τ), SemLoc.dma (22 : DmaSem sig)) 0 ∗ semVal ((c : Thread nD τ), SemLoc.dma (40 : DmaSem sig)) 0)

/-- A device's positions at its barrier and receive cells and the tokens it pays with, its place at a send cell with them. -/
def lin (c : Dev nD) : sProp 𝕄 :=
  iprop(atPos ER (barCell c) 0 ∅ 0
    ∗ (dutyTok ER (barCell (nbr 0 c)) 0 0 ∗ dutyTok ER (barCell (nbr 1 c)) 0 1 ∗ dutyTok ER (barCell (nbr 2 c)) 0 2)
    ∗ (bigSep Finset.univ fun i => pay i c) ∗ (bigSep Finset.univ fun i : Fin 17 => atPos ER (recvCell i c) 0 ∅ 0) ∗ spare c)

/-- Every cell's invariant, and that every cell has reached round 0. -/
def recs (K : Dev nD × KI → ℕ) : sProp 𝕄 :=
  iprop((bigSep Finset.univ fun p : Dev nD × KI => cellInv ER (Rd m ρ) (K p) (kcell p))
    ∗ bigSep Finset.univ fun p : Dev nD × KI => reached ER (kcell p) 0)

instance recs_persistent (K : Dev nD × KI → ℕ) : BI.Persistent (recs m ρ K) := by unfold recs; infer_instance

/-- What a device is dealt. -/
def G' (c : Dev nD) : sProp 𝕄 := iprop(∃ K, recs m ρ K ∗ lin c)

/-- What a device's kernel starts from. -/
def start (c : Dev nD) : sProp 𝕄 :=
  iprop((∃ K, records m ρ K ∗ lin c) ∗ cred (tallyAt (barCell c) () 3)
    ∗ bigSep Finset.univ fun i : Fin 17 => cred (tallyAt (recvCell i c) () (amt i)))

/-- The local buffers, whole, at some contents. -/
def bufs (c : Dev nD) : sProp 𝕄 := iprop(bufP c cc0_scratch0 ∗ bufP c cc0_scratch1 ∗ bufP c cc0_scratch2)

/-- Every semaphore of the kernel at zero. -/
def zeros (c : Dev nD) : sProp 𝕄 :=
  iprop(semVal (barCell c) 0 ∗ (bigSep Finset.univ fun i : Fin 17 => semVal (sendCell i c) 0)
    ∗ (bigSep Finset.univ fun i : Fin 17 => semVal (recvCell i c) 0) ∗ spare c)

def Φ₀ (c : Dev nD) : sProp 𝕄 := iprop(start m ρ c ∗ bufs c)
def Φ₁ (c : Dev nD) : sProp 𝕄 := iprop(bufs c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => ixstg m ρ c
    | ⟨3, _⟩ => ewstg m ρ c
    | ⟨4, _⟩ => A7 m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt () t₀.succ ∗ stg c cc0_stg0_0 (xstg m ρ c) ∗ stg c cc0_stg1_0 (rwstg m ρ c)
    ∗ stg c cc0_stg2_0 (ixstg m ρ c) ∗ stg c cc0_stg3_0 (ewstg m ρ c) ∗ stg c cc0_stg4_0 (A7 m ρ c))

theorem fetch_0 (w : Fin 5) (hw : w ≠ 4) (t : Fin cfg0.N) : (cfg0.win w).fetch t = true := by
  rw [fin_N t]; fin_cases w <;> first | rfl | exact absurd rfl hw

set_option maxRecDepth 16000 in
set_option maxHeartbeats 800000 in
/-- The kernel, from what the region hands it to what the region takes back. -/
theorem sound_body (c : Dev nD) :
    bodyPre m ρ c ⊢ wp frame (wpE (defs₀ (F := F)) 𝒱₀ (c : Thread nD τ) none) Set.univ (cc0_body xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4) (fun _ => bodyPost m ρ c) := by
  unfold bodyPre Φ₀ start bufs lin
  iintro ⟨⟨⟨⟨%K, #HR, Hat, Ht, Hpay, Hrat, Hsp⟩, Hc, Hcr⟩, HA, Hq, HC⟩, Ho, ⟨%d0, %g0, %hg0, X0⟩, ⟨%d1, %g1, %hg1, X1⟩, ⟨%d2, %g2, %hg2, X2⟩, ⟨%d3, %g3, %hg3, X3⟩, ⟨%d4, %g4, %hg4, HU⟩⟩
  have h0 : g0 = xstg m ρ c := by rw [hg0]; unfold Dat.before; rw [if_pos (fetch_0 0 (by decide) t₀)]; rfl
  have h1 : g1 = rwstg m ρ c := by rw [hg1]; unfold Dat.before; rw [if_pos (fetch_0 1 (by decide) t₀)]; rfl
  have h2 : g2 = ixstg m ρ c := by rw [hg2]; unfold Dat.before; rw [if_pos (fetch_0 2 (by decide) t₀)]; rfl
  have h3 : g3 = ewstg m ρ c := by rw [hg3]; unfold Dat.before; rw [if_pos (fetch_0 3 (by decide) t₀)]; rfl
  subst h0 h1 h2 h3
  unfold Dat.owesAt Pipeline.owesWithin
  icases Ho with ⟨%W, %hW, HO⟩
  rw [show (dats m ρ 0 c).owed t₀.castSucc = O₀ c from rfl]
  ihave Hpay := (Entails.of_eq (bigSep_17 (fun i => pay i c))) $$ Hpay
  ihave Hin := (show iprop((bigSep Finset.univ fun i : Fin 17 => cred (tallyAt (recvCell i c) () (amt i))) ∗ bigSep Finset.univ fun i : Fin 17 => atPos ER (recvCell i c) 0 ∅ 0)
      ⊢ (bigSep Finset.univ fun i : Fin 17 => iprop(cred (tallyAt (recvCell i c) () (amt i)) ∗ atPos ER (recvCell i c) 0 ∅ 0) : sProp 𝕄) from Entails.of_eq (bigSep_sep' _ _ _).symm) $$ [Hcr Hrat]
  · isplitl [Hcr] <;> iassumption
  ihave Hin := (show (bigSep Finset.univ fun i : Fin 17 => iprop(cred (tallyAt (recvCell i c) () (amt i)) ∗ atPos ER (recvCell i c) 0 ∅ 0) : sProp 𝕄)
    ⊢ iprop(inc 0 c ∗ inc 1 c ∗ inc 2 c ∗ inc 3 c ∗ inc 4 c ∗ inc 5 c ∗ inc 6 c ∗ inc 7 c ∗ inc 8 c ∗ inc 9 c ∗ inc 10 c ∗ inc 11 c ∗ inc 12 c ∗ inc 13 c ∗ inc 14 c ∗ inc 15 c ∗ inc 16 c) from Entails.of_eq (bigSep_17 (fun i => inc i c))) $$ Hin
  ihave HU := (out_any c g4) $$ HU
  iapply (run_body m ρ K c) $$ [HO X0 X1 X2 X3 HU HA Hq HC Ht Hc Hat Hpay Hin]
  · unfold runPre
    isplitr; · iexact HR
    isplitl [HO]; · iexists W; iexact HO
    isplitl [X0 X1 X2 X3]
    · isplitl [X0]; · iexact X0
      isplitl [X1]; · iexact X1
      isplitl [X2] <;> iassumption
    isplitl [HU]; · iexact HU
    isplitl [HA]; · iexact HA
    isplitl [Hq]; · iexact Hq
    isplitl [HC]; · iexact HC
    isplitl [Ht]; · iexact Ht
    isplitl [Hc]; · iexact Hc
    isplitl [Hat]; · iexact Hat
    isplitl [Hpay]; · iexact Hpay
    iexact Hin
  iintro Hpost
  unfold runPost
  icases Hpost with ⟨⟨%W', HO⟩, ⟨X0, X1, X2, X3⟩, HU, HA, Hq, HC, Hzb, Hzs, Hzr⟩
  ihave HU := (out_has c (A7 m ρ c)) $$ HU
  ihave Hzs := (Entails.of_eq (bigSep_17 (fun i => (semVal (sendCell i c) 0 : sProp 𝕄))).symm) $$ Hzs
  ihave Hzr := (Entails.of_eq (bigSep_17 (fun i => (semVal (recvCell i c) 0 : sProp 𝕄))).symm) $$ Hzr
  unfold bodyPost Φ₁ bufs zeros Dat.owesAt Pipeline.owesWithin
  rw [show (dats m ρ 0 c).owed t₀.succ = 0 from rfl]
  isplitl [HA Hq HC Hzb Hzs Hzr Hsp]
  · isplitl [HA Hq HC]
    · isplitl [HA]; · iexact HA
      isplitl [Hq] <;> iassumption
    isplitl [Hzb]; · iexact Hzb
    isplitl [Hzs]; · iexact Hzs
    isplitl [Hzr] <;> iassumption
  isplitl [HO]
  · iexists W'
    isplitr; · ipureintro; exact fun _ _ => Or.inl trivial
    iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  isplitl [X3]
  · iexists _; isplitr; · (ipureintro; rfl)
    iexact X3
  iexists _; isplitr; · (ipureintro; rfl)
  iexact HU

set_option maxRecDepth 16000 in
/-- The region's body obligation on device `c`. -/
theorem body_obligation (c : Dev nD) : BodyObligation (dats (F := F) m ρ 0 c) (defs₀ (F := F)) 𝒱₀ () Set.univ := fun t => by
  rw [fin_N t]
  rw [show (∀ Φ : Fin cfg0.W → sProp 𝕄, bigSep Finset.univ Φ = iprop(Φ (0 : Fin 5) ∗ Φ (1 : Fin 5) ∗ Φ (2 : Fin 5) ∗ Φ (3 : Fin 5) ∗ Φ (4 : Fin 5))) from bigSep_W0,
    show (∀ Φ : Fin cfg0.W → sProp 𝕄, bigSep Finset.univ Φ = iprop(Φ (0 : Fin 5) ∗ Φ (1 : Fin 5) ∗ Φ (2 : Fin 5) ∗ Φ (3 : Fin 5) ∗ Φ (4 : Fin 5))) from bigSep_W0]
  simp only [owns_whole_eq]
  show bodyPre m ρ c ⊢ wp frame (wpE (defs₀ (F := F)) 𝒱₀ (c : Thread nD τ) none) Set.univ (cc0_body xM (Memref.isWhole_whole _) rwM (Memref.isWhole_whole _) ixM (Memref.isWhole_whole _) ewM (Memref.isWhole_whole _) oM (Memref.isWhole_whole _) aM (Memref.isWhole_whole _) qM (Memref.isWhole_whole _) cM (Memref.isWhole_whole _) cc0_scratch3 cc0_scratch4) (fun _ => bodyPost m ρ c)
  exact sound_body m ρ c

end Body

/-! ## The cells and tokens at launch -/

/-- The kernel's own semaphores: sends, receives, the two it does not use. -/
def osem : (Fin 17 ⊕ Fin 17) ⊕ Fin 2 → SemLoc sig
  | .inl (.inl i) => .dma (sendS i)
  | .inl (.inr i) => .dma (recvS i)
  | .inr k => .dma (![22, 40] k)

/-- The semaphore's place in the array of them. -/
def onum : (Fin 17 ⊕ Fin 17) ⊕ Fin 2 → ℕ
  | .inl (.inl i) => 5 + i.val
  | .inl (.inr i) => 23 + i.val
  | .inr k => 22 + 18 * k.val
theorem osem_num (k) : ∃ h, osem k = .dma (⟨onum k, h⟩ : DmaSem sig) := by
  rcases k with (i | i) | k
  · exact ⟨(sendS i).isLt, rfl⟩
  · exact ⟨(recvS i).isLt, rfl⟩
  · fin_cases k
    · exact ⟨(22 : DmaSem sig).isLt, rfl⟩
    · exact ⟨(40 : DmaSem sig).isLt, rfl⟩
theorem onum_inj : Function.Injective onum := by
  rintro ((i | i) | k) ((j | j) | l) h <;> simp only [onum] at h <;> congr 2 <;> first | (apply Fin.ext; omega) | (exfalso; omega) | skip
theorem ownSemFacts : Pipeline.OwnSemFacts cfg0.spec osem where
  isScoped := by
    rintro ((i | i) | k)
    · revert i; decide +kernel
    · revert i; decide +kernel
    · revert k; decide +kernel
  inj a b h := by
    obtain ⟨ha, ea⟩ := osem_num a
    obtain ⟨hb, eb⟩ := osem_num b
    rw [ea, eb] at h
    injection h with h
    exact onum_inj (congrArg Fin.val h)
  disj k w s h := by
    obtain ⟨hk, ek⟩ := osem_num k
    rw [ek] at h
    injection h with h
    have h5 : 5 ≤ onum k := by rcases k with (i | i) | k <;> simp only [onum] <;> omega
    have h6 : ∀ w : Fin 5, ∀ s, (((cfg0.spec w).sem s : DmaSem sig)).val < 5 := by decide
    have h7 : onum k = ((cfg0.spec w).sem s).val := congrArg Fin.val h
    have := h6 w s
    omega

theorem share_eq (c : Dev nD) (w : Fin cfg0.W) : (dats m ρ 0 c).share w = fullShare := by unfold Dat.share; split <;> rfl

theorem ck_csem_inj : Function.Injective csem := by
  intro a b h
  have h' := congrArg ck h
  rcases a with _ | (a | a) <;> rcases b with _ | (b | b) <;> simp only [csem, ck_bar, ck_send, ck_recv] at h' <;>
    first | rfl | (cases h' <;> rfl)

theorem kcell_injective : Function.Injective (kcell : Dev nD × KI → GSem nD τ sig) := by
  rintro ⟨c, k⟩ ⟨c', k'⟩ h
  have h1 : c = c' := congrArg (fun g : GSem nD τ sig => g.1.1) h
  have h2 : csem k = csem k' := congrArg Prod.snd h
  rw [h1, ck_csem_inj h2]
def ringCells : Finset (GSem nD τ sig) := Finset.univ.map ⟨kcell, kcell_injective⟩

/-- The duties of a device's own cells: its barrier's three, its send cells', its receive cells'. -/
abbrev TI : Type := Fin 3 ⊕ (Fin 17 ⊕ Fin 17)
def tokOf (p : Dev nD × TI) : GSem nD τ sig × ℕ × Fin 3 := match p.2 with
  | .inl l => (barCell p.1, 0, l)
  | .inr (.inl i) => (sendCell i p.1, 0, 0)
  | .inr (.inr i) => (recvCell i p.1, 0, 0)
theorem tokOf_injective : Function.Injective (tokOf : Dev nD × TI → GSem nD τ sig × ℕ × Fin 3) := by
  rintro ⟨c, j⟩ ⟨c', j'⟩ h
  have hk : ∀ p : Dev nD × TI, (tokOf p).1.1.1 = p.1 := by rintro ⟨c, l | (i | i)⟩ <;> rfl
  have h0 : (tokOf (c, j)).1.1.1 = (tokOf (c', j')).1.1.1 := by rw [h]
  have h1 : c = c' := by rw [hk, hk] at h0; exact h0
  have h2 := congrArg (fun x : GSem nD τ sig × ℕ × Fin 3 => ck x.1.2) h
  have h3 := congrArg (fun x : GSem nD τ sig × ℕ × Fin 3 => x.2.2) h
  subst h1
  rcases j with l | (i | i) <;> rcases j' with l' | (i' | i') <;> simp only [tokOf, ck_bar, ck_send, ck_recv] at h2 h3 <;>
    first | (subst h3; rfl) | (cases h2 <;> rfl)
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop((dutyTok ER (barCell c) 0 0 ∗ dutyTok ER (barCell c) 0 1 ∗ dutyTok ER (barCell c) 0 2)
    ∗ (bigSep Finset.univ fun i : Fin 17 => dutyTok ER (sendCell i c) 0 0) ∗ bigSep Finset.univ fun i : Fin 17 => dutyTok ER (recvCell i c) 0 0)

/-- What the launch deals a device. -/
def G (c : Dev nD) : sProp 𝕄 :=
  iprop((bigSep Finset.univ fun k : KI => roundState ER (Rd m ρ) (kcell (c, k)) 0)
    ∗ (bigSep Finset.univ fun k : KI => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum, bigSep_3]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun i : Fin 17 => semVal (sendCell i c) 0) ∗ bigSep Finset.univ fun i : Fin 17 => semVal (recvCell i c) 0) ∗ spare c) := by
  unfold Pipeline.ownSems0 spare
  rw [bigSep_univ_sum, bigSep_univ_sum, bigSep_fin_two]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells opened: its semaphores' zero counters put into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KI => iprop(∃ κ : ℕ, cellInv ER (Rd m ρ) κ (kcell (c, k))))
          ∗ (bigSep Finset.univ fun k : KI => iprop(atPos ER (kcell (c, k)) 0 ∅ 0 ∗ reached ER (kcell (c, k)) 0)) ∗ toks c ∗ spare c) := by
  unfold G
  rw [ownSems0_eq, unscopedSems0_eq]
  iintro ⟨⟨⟨HS, HV⟩, Hsp⟩, HB, Hst, Hat, Htok⟩
  ihave Hv := (Entails.of_eq (bigSep_KI (fun k : KI => (semVal (kcell (c, k)) 0 : sProp 𝕄))).symm) $$ [HS HV HB]
  · isplitl [HB]; · iexact HB
    isplitl [HS]
    · iexact HS
    · iexact HV
  imod (show iprop((bigSep Finset.univ fun k : KI => semVal (kcell (c, k)) 0) ∗ bigSep Finset.univ fun k : KI => roundState ER (Rd m ρ) (kcell (c, k)) 0)
      ⊢ (|={Set.univ}=> bigSep Finset.univ fun k : KI => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stays with device `c`: its positions and the tokens of the duties it pays. -/
def linA (c : Dev nD) : sProp 𝕄 :=
  iprop((bigSep Finset.univ fun k : KI => atPos ER (kcell (c, k)) 0 ∅ 0)
    ∗ ((dutyTok ER (barCell (nbr 0 c)) 0 0 ∗ dutyTok ER (barCell (nbr 1 c)) 0 1 ∗ dutyTok ER (barCell (nbr 2 c)) 0 2)
      ∗ (bigSep Finset.univ fun i : Fin 17 => dutyTok ER (sendCell i c) 0 0) ∗ bigSep Finset.univ fun i : Fin 17 => dutyTok ER (recvCell i (peer i c)) 0 0)
    ∗ spare c)

omit [FloatOps F] in
theorem lin_intro (c : Dev nD) : (linA c : sProp 𝕄) ⊢ lin c := by
  unfold linA lin pay
  rw [bigSep_KI, bigSep_sep', bigSep_sep']
  iintro ⟨⟨HaB, HaS, HaR⟩, ⟨Hb, Hs, Hr⟩, Hsp⟩
  isplitl [HaB]; · iexact HaB
  isplitl [Hb]; · iexact Hb
  isplitl [HaS Hs Hr]
  · isplitl [Hs]; · iexact Hs
    isplitl [Hr]; · iexact Hr
    iexact HaS
  isplitl [HaR]; · iexact HaR
  iexact Hsp

omit [FloatOps F] in
/-- The tokens handed over the links: a barrier's to the neighbour that signals it, a receive cell's to the device that
    sends to it. -/
theorem toks_around : (bigSep Finset.univ fun c : Dev nD => (toks c : sProp 𝕄)) ⊢ bigSep Finset.univ fun c : Dev nD =>
    iprop((dutyTok ER (barCell (nbr 0 c)) 0 0 ∗ dutyTok ER (barCell (nbr 1 c)) 0 1 ∗ dutyTok ER (barCell (nbr 2 c)) 0 2)
      ∗ (bigSep Finset.univ fun i : Fin 17 => dutyTok ER (sendCell i c) 0 0) ∗ bigSep Finset.univ fun i : Fin 17 => dutyTok ER (recvCell i (peer i c)) 0 0) := by
  unfold toks
  have hr : (bigSep Finset.univ fun c : Dev nD => bigSep Finset.univ fun i : Fin 17 => (dutyTok ER (recvCell i c) 0 0 : sProp 𝕄))
      = bigSep Finset.univ fun c : Dev nD => bigSep Finset.univ fun i : Fin 17 => dutyTok ER (recvCell i (peer i c)) 0 0 := by
    rw [BI.bigSep_univ_comm, BI.bigSep_univ_comm (fun (c : Dev nD) (i : Fin 17) => (dutyTok ER (recvCell i (peer i c)) 0 0 : sProp 𝕄))]
    exact bigSep_congr fun i _ => bigSep_univ_equiv (peerEquiv i) (fun c : Dev nD => (dutyTok ER (recvCell i c) 0 0 : sProp 𝕄))
  simp only [bigSep_sep']
  rw [hr, bigSep_univ_equiv (nbrEquiv 0) (fun c : Dev nD => (dutyTok ER (barCell c) 0 0 : sProp 𝕄)),
    bigSep_univ_equiv (nbrEquiv 1) (fun c : Dev nD => (dutyTok ER (barCell c) 0 1 : sProp 𝕄)),
    bigSep_univ_equiv (nbrEquiv 2) (fun c : Dev nD => (dutyTok ER (barCell c) 0 2 : sProp 𝕄))]
  exact Entails.refl _

theorem deal (K : Dev nD × KI → ℕ) (c : Dev nD) : iprop(recs m ρ K ∗ linA c) ⊢ G' m ρ c := by
  unfold G'
  iintro ⟨HR, Hl⟩
  iexists K
  isplitl [HR]; · iexact HR
  iapply (lin_intro c); iexact Hl

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KI => iprop(∃ κ : ℕ, cellInv ER (Rd m ρ) κ (kcell (c, k))))
          ∗ (bigSep Finset.univ fun k : KI => iprop(atPos ER (kcell (c, k)) 0 ∅ 0 ∗ reached ER (kcell (c, k)) 0)) ∗ toks c ∗ spare c) : sProp 𝕄)
      ⊢ bigSep Finset.univ (G' m ρ) := by
  rw [bigSep_sep', bigSep_sep', bigSep_sep', ← bigSep_univ_prod (fun ck : Dev nD × KI => iprop(∃ κ : ℕ, cellInv ER (Rd m ρ) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok, Hsp⟩
  ihave HK := (BI.bigSep_exists_pi Finset.univ (fun (ck : Dev nD × KI) (κ : ℕ) => (cellInv ER (Rd m ρ) κ (kcell ck) : sProp 𝕄))) $$ HI
  icases HK with ⟨%K, #HI⟩
  ihave Htk := (toks_around (F := F)) $$ Htok
  iapply (bigSep_with (R := recs m ρ K) fun c _ => deal m ρ K c)
  isplitr
  · unfold recs; isplitl; · iexact HI
    iexact HR
  · have e : (bigSep Finset.univ fun c : Dev nD => (linA c : sProp 𝕄)) = iprop((bigSep Finset.univ fun c : Dev nD => bigSep Finset.univ fun k : KI => atPos ER (kcell (c, k)) 0 ∅ 0)
        ∗ (bigSep Finset.univ fun c : Dev nD => iprop((dutyTok ER (barCell (nbr 0 c)) 0 0 ∗ dutyTok ER (barCell (nbr 1 c)) 0 1 ∗ dutyTok ER (barCell (nbr 2 c)) 0 2)
          ∗ (bigSep Finset.univ fun i : Fin 17 => dutyTok ER (sendCell i c) 0 0) ∗ bigSep Finset.univ fun i : Fin 17 => dutyTok ER (recvCell i (peer i c)) 0 0))
        ∗ bigSep Finset.univ fun c : Dev nD => spare c) := by unfold linA; rw [bigSep_sep', bigSep_sep']
    iapply (Entails.of_eq e.symm)
    isplitl [Hat]; · iexact Hat
    isplitl [Htk]; · iexact Htk
    iexact Hsp

/-- Every device's semaphores and what it was dealt, put together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem cred_bar (l : Fin 3) (c : Dev nD) : (Pipeline.launchCred (fun d => tallyAt (barCell (nbr l d)) () 1) c : sProp 𝕄) ⊢ cred (tallyAt (barCell c) () 1) :=
  Pipeline.launchCred_tallyAt (SemLoc.reg barS) (nbr l) (nbr l) (nbr_nbr l) (nbr_nbr l) () 1 c
omit [FloatOps F] in
theorem cred_recv (i : Fin 17) (c : Dev nD) : (Pipeline.launchCred (fun d => tallyAt (recvCell i (peer i d)) () (amt i)) c : sProp 𝕄) ⊢ cred (tallyAt (recvCell i c) () (amt i)) :=
  Pipeline.launchCred_tallyAt (SemLoc.dma (recvS i)) (peer i) (peer i) (peer_peer i) (peer_peer i) () (amt i) c

omit [FloatOps F] in
theorem cred_list (c : Dev nD) : ∀ l : List (Fin 17), (Pipeline.launchCred (fun d => Or d l) c : sProp 𝕄)
    ⊢ l.foldr (fun i P => iprop(P ∗ cred (tallyAt (recvCell i c) () (amt i)))) iprop(emp)
  | [] => by iintro -; iempintro
  | i :: l => by
    show (Pipeline.launchCred (fun d => Or d l + tallyAt (recvCell i (peer i d)) () (amt i)) c : sProp 𝕄) ⊢ _
    rw [Pipeline.launchCred_add]
    exact BI.sep_mono (cred_list c l) (cred_recv i c)

omit [FloatOps F] in
/-- What a device is credited at launch: its barrier's three units and what each transfer to it brings. -/
theorem creds (c : Dev nD) :
    (Pipeline.launchCred O₀ c : sProp 𝕄) ⊢ iprop(cred (tallyAt (barCell c) () 3) ∗ bigSep Finset.univ fun i : Fin 17 => cred (tallyAt (recvCell i c) () (amt i))) := by
  have e : (Pipeline.launchCred O₀ c : sProp 𝕄) = iprop(((Pipeline.launchCred (fun d => Or d order) c ∗ Pipeline.launchCred (fun d => tallyAt (barCell (nbr 2 d)) () 1) c)
      ∗ Pipeline.launchCred (fun d => tallyAt (barCell (nbr 1 d)) () 1) c) ∗ Pipeline.launchCred (fun d => tallyAt (barCell (nbr 0 d)) () 1) c) := by
    rw [← Pipeline.launchCred_add, ← Pipeline.launchCred_add, ← Pipeline.launchCred_add]; rfl
  rw [e, bigSep_17]
  iintro ⟨⟨⟨H, H2⟩, H1⟩, H0⟩
  ihave H := (show (Pipeline.launchCred (fun d => Or d order) c : sProp 𝕄) ⊢ iprop((((((((((((((((((emp ∗ cred (tallyAt (recvCell 14 c) () (amt 14))) ∗ cred (tallyAt (recvCell 16 c) () (amt 16))) ∗ cred (tallyAt (recvCell 13 c) () (amt 13))) ∗ cred (tallyAt (recvCell 15 c) () (amt 15))) ∗ cred (tallyAt (recvCell 12 c) () (amt 12))) ∗ cred (tallyAt (recvCell 11 c) () (amt 11))) ∗ cred (tallyAt (recvCell 10 c) () (amt 10))) ∗ cred (tallyAt (recvCell 9 c) () (amt 9))) ∗ cred (tallyAt (recvCell 8 c) () (amt 8))) ∗ cred (tallyAt (recvCell 7 c) () (amt 7))) ∗ cred (tallyAt (recvCell 6 c) () (amt 6))) ∗ cred (tallyAt (recvCell 5 c) () (amt 5))) ∗ cred (tallyAt (recvCell 2 c) () (amt 2))) ∗ cred (tallyAt (recvCell 4 c) () (amt 4))) ∗ cred (tallyAt (recvCell 1 c) () (amt 1))) ∗ cred (tallyAt (recvCell 3 c) () (amt 3))) ∗ cred (tallyAt (recvCell 0 c) () (amt 0)))) from cred_list c order) $$ H
  icases H with ⟨⟨⟨⟨⟨⟨⟨⟨⟨⟨⟨⟨⟨⟨⟨⟨⟨-, C14⟩, C16⟩, C13⟩, C15⟩, C12⟩, C11⟩, C10⟩, C9⟩, C8⟩, C7⟩, C6⟩, C5⟩, C2⟩, C4⟩, C1⟩, C3⟩, C0⟩
  ihave H0 := (cred_bar 0 c) $$ H0
  ihave H1 := (cred_bar 1 c) $$ H1
  ihave H2 := (cred_bar 2 c) $$ H2
  isplitl [H0 H1 H2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [H0]; · iexact H0
    iapply (cred_add _ _).2
    isplitl [H1] <;> iassumption
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  iexact C16

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G' recs records
  icases HG with ⟨%K, ⟨HI, HR⟩, Hl⟩
  isplitl
  · isplitl [HI HR Hl Hlev]
    · iexists K
      isplitl [HI HR Hlev]
      · isplitl [HI HR]
        · isplitl [HI] <;> iassumption
        iexact Hlev
      iexact Hl
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs zeros
  iintro ⟨Hr, HzB, HzS, HzV, Hsp⟩
  isplitl [HzB]; · iexact HzB
  isplitl [HzS HzV Hsp]
  · isplitl [HzS HzV]
    · isplitl [HzS] <;> iassumption
    iexact Hsp
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- Device `c`'s array of window `w` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every fair run of the program ends, each device's arrays at `finalA`
    and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin 5) (hw : w ≠ 4) : finalA m ρ c w = (s₀ m ρ).mem ((cfg0.win w).arr.view.loc (c : Thread nD τ)) :=
  (dats (F := F) m ρ 0 c).arrAt_in w (by fin_cases w <;> first | rfl | exact absurd rfl hw) _

end Cert.K1

end
-- ==== Proof.Frames.lean ====
/-
# The frames

The kernel's program ends with its arguments unchanged and every semaphore at zero, whatever its floats are.
-/
module

public import proofs.«01_k».proof.Proof.Launch
public import proofs.«01_k».proof.Defs
public import proofs.«01_k».proof.Proof.Gen.Kernel
public import proofs.«01_k».proof.Proof.Gen.ReferenceIdeal.Run
public import proofs.«01_k».proof.Proof.Gen.WeightedIdeal.Run
public import proofs.«01_k».proof.Proof.Gen.Pre_finite_KernelIdeal
public import proofs.«01_k».proof.Proof.Gen.Pre_finite_ReferenceIdeal

@[expose] public section

noncomputable section

namespace Cert.K1

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The arguments after a run are the arguments before it. -/
theorem args_unchanged (r : PUnit × MemSt nD τ sig (Elt F)) (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c 0).trans (finalA_in m ρ c 0 (by decide)), (h c 1).trans (finalA_in m ρ c 1 (by decide)),
    (h c 2).trans (finalA_in m ρ c 2 (by decide)), (h c 3).trans (finalA_in m ρ c 3 (by decide))⟩

/-- The frame, whatever the floats are. -/
theorem frame_any : θ_run defs (onTc main) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨args_unchanged m ρ r h.1, h.2⟩) (run_main m ρ)

attribute [local instance] Cert.Kernel.Gen.facts

/-- The two programs' body tables of the kernel are one. -/
theorem defs₀_eq : Cert.Kernel.defs₀ (F := Bits) = Cert.KernelIdeal.defs₀ (F := Bits) := by
  refine congrArg Defs.onTc (funext fun ℓ => funext fun g => ?_)
  obtain ⟨ℓ, h⟩ := ℓ
  match ℓ, h with
  | 0, h => obtain ⟨t, s⟩ := g; exact rfl
  | ℓ + 1, h => exact absurd h (Nat.not_lt.2 (Nat.le_add_left _ _))

/-- The two programs' body tables are one. -/
theorem defs_eq : Cert.Kernel.defs (F := Bits) = Cert.KernelIdeal.defs (F := Bits) := congrArg (Pipeline.defs _) defs₀_eq

/-- The frame of the kernel's program as printed. -/
theorem frame_kernel : Cert.quiescent_Kernel := fun m ρ _ =>
  (congrArg (fun D => θ_run D (onTc (Cert.Kernel.main (F := Bits))) ⟨m, fun _ => 0, ρ⟩ (fun r =>
    (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)) defs_eq).mpr (frame_any (F := Bits) m ρ)

/-- The frame of the kernel's program read over the extended reals. -/
theorem frame_ideal : Cert.quiescent_KernelIdeal := fun m ρ _ => frame_any (F := Ideal) m ρ

attribute [local instance] Cert.ReferenceIdeal.Gen.facts

/-- The frame of the reference read over the extended reals: its arguments are unchanged, and it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

attribute [local instance] Cert.Pre_finite_KernelIdeal.Gen.facts Cert.Pre_finite_ReferenceIdeal.Gen.facts Cert.WeightedIdeal.Gen.facts

/-- The kernel's frame where the rows and the router are finite: it holds everywhere. -/
theorem frame_ideal_finite : Cert.quiescent_KernelIdeal_pre_finite_KernelIdeal := fun m ρ _ => frame_ideal m ρ trivial

/-- The reference's frame where the rows and the router are finite: it holds everywhere. -/
theorem frame_reference_finite : Cert.quiescent_ReferenceIdeal_pre_finite_ReferenceIdeal := fun m ρ _ => frame_reference m ρ trivial

/-- The frame of the reference with weighted rows: its arguments are unchanged, and it has no semaphore. -/
theorem frame_weighted : Cert.quiescent_WeightedIdeal := fun m ρ _ =>
  (θ_run Cert.WeightedIdeal.defs _ _).mono
    (fun r h => ⟨fun c => (h c).2, Idealize.ShloMosaic.sem_eq_zero_of_no_sems (by decide) r.2⟩)
    (Cert.WeightedIdeal.Value.run (F := Ideal) m ρ)

end Cert.K1

end
-- ==== Proof.ValK.lean ====
/-
# The kernel's output, read at an index

The kernel's payloads in one shape for every slot, and what they are at an index over the extended reals.
-/
module

public import proofs.«01_k».proof.Proof.Vals
public import Idealize.ShloMosaic.Lib.Pointwise
public import Idealize.ShloMosaic.Lib.Pipeline.ValueKit.Geometry

@[expose] public section

noncomputable section

namespace Cert.K1

open Cert.KernelIdeal Cert.KernelIdeal.Gen
open Idealize.ShloMosaic
open Idealize.ShloMosaic.TcCoe

section Shapes

variable {F : FTy → Type} [FloatOps F]

/-- The rows scaled by the weight that expert `4 o + t` has in them. -/
def xw (t o : BitVec 32) (x : FVec F S512x256 .f32) (i0 i1 : IVec S512x1 32) (g0 g1 : FVec F S512x1 .f32) : FVec F S512x256 .f32 :=
  mulf x (broadcastTo S512x256
    (addf (select (cmpi .eq i0 (broadcast S512x1 (Scalar.addi (Scalar.muli o 4#32) t))) g0 (broadcast S512x1 (Scalar.ofBits .f32 0x00000000#32 : F .f32)))
      (select (cmpi .eq i1 (broadcast S512x1 (Scalar.addi (Scalar.muli o 4#32) t))) g1 (broadcast S512x1 (Scalar.ofBits .f32 0x00000000#32 : F .f32))))
    broadcasts_S512x1_S512x256)

/-- The rows scaled for the four experts of owner `o`, side by side. -/
def slotv (o : BitVec 32) (x : FVec F S512x256 .f32) (i0 i1 : IVec S512x1 32) (g0 g1 : FVec F S512x1 .f32) : FVec F S1x512x1024 .bf16 :=
  shapeCast S1x512x1024 (truncf .bf16 (concatenate S512x1024 1
    [⟨S512x256, xw 0#32 o x i0 i1 g0 g1⟩, ⟨S512x256, xw 1#32 o x i0 i1 g0 g1⟩, ⟨S512x256, xw 2#32 o x i0 i1 g0 g1⟩, ⟨S512x256, xw 3#32 o x i0 i1 g0 g1⟩]
    concatenates_S512x256_S512x256_S512x256_S512x256_S512x1024_d1) bitsLt_bf16_f32) shapeCasts_S512x1024_S1x512x1024

/-- The product of a slot with the four experts of its owner. -/
def prod4 (b : FVec F S4x256x512 .bf16) (s : FVec F S1x512x1024 .bf16) : FVec F S512x512 .f32 :=
  matmul dot_S512x1024_S1024x512_S512x512_1_0_0_1_n_n none (shapeCast S512x1024 s shapeCasts_S1x512x1024_S512x1024)
    (shapeCast S1024x512 b shapeCasts_S4x256x512_S1024x512) (constant S512x512 .f32 0x00000000#32)

/-- A running sum with the product of one more slot added. -/
def accN (b : FVec F S1x4x256x512 .bf16) (s : FVec F S1x512x1024 .bf16) (a : FVec F S512x512 .f32) : FVec F S512x512 .f32 :=
  addf (shapeCast S512x512 a shapeCasts_S512x512_S512x512)
    (prod4 (shapeCast S4x256x512 b shapeCasts_S1x4x256x512_S4x256x512) s)

variable (m : (ℓ : Loc nD τ sig) → Buf (Elt F) ℓ) (ρ : Dev nD → PrngReg)

/-- The slot of owner `o` on device `c`. -/
abbrev slotOf (c : Dev nD) (o : BitVec 32) : FVec F S1x512x1024 .bf16 :=
  slotv o (V95 m ρ c) (V109 m ρ c) (V111 m ρ c) (V126 m ρ c) (V127 m ρ c)

theorem S0_eq (c : Dev nD) : S0 m ρ c = slotOf m ρ c (V2 c) := rfl
theorem S1_eq (c : Dev nD) : S1 m ρ c = slotOf m ρ c (V46 c) := rfl
theorem S2_eq (c : Dev nD) : S2 m ρ c = slotOf m ρ c (V53 c) := rfl
theorem S3_eq (c : Dev nD) : S3 m ρ c = slotOf m ρ c (V60 c) := rfl
theorem S4_eq (c : Dev nD) : S4 m ρ c = slotOf m ρ c (V68 c) := rfl
theorem S5_eq (c : Dev nD) : S5 m ρ c = slotOf m ρ c (V84 c) := rfl
theorem S6_eq (c : Dev nD) : S6 m ρ c = slotOf m ρ c (V76 c) := rfl
theorem S7_eq (c : Dev nD) : S7 m ρ c = slotOf m ρ c (V93 c) := rfl
theorem A0_eq (c : Dev nD) : A0 m ρ c = prod4 (V651 m ρ c) (S0 m ρ c) := rfl
theorem A1_eq (c : Dev nD) : A1 m ρ c = accN (G1 m ρ c) (S1 m ρ c) (A0 m ρ c) := rfl
theorem A2_eq (c : Dev nD) : A2 m ρ c = accN (G2 m ρ c) (S2 m ρ c) (A1 m ρ c) := rfl
theorem A3_eq (c : Dev nD) : A3 m ρ c = accN (G3 m ρ c) (S3 m ρ c) (A2 m ρ c) := rfl
theorem A4_eq (c : Dev nD) : A4 m ρ c = accN (G4 m ρ c) (S4 m ρ c) (A3 m ρ c) := rfl
theorem A5_eq (c : Dev nD) : A5 m ρ c = accN (G5 m ρ c) (S5 m ρ c) (A4 m ρ c) := rfl
theorem A6_eq (c : Dev nD) : A6 m ρ c = accN (G6 m ρ c) (S6 m ρ c) (A5 m ρ c) := rfl
theorem A7_eq (c : Dev nD) : A7 m ρ c = accN (G7 m ρ c) (S7 m ρ c) (A6 m ρ c) := rfl

end Shapes

/-! ## What the kernel reads, at an index -/

section Reads

variable (m : (ℓ : Loc nD τ sig) → Buf (Elt Ideal) ℓ) (ρ : Dev nD → PrngReg)

/-- The device's rows, as it holds them when the kernel starts. -/
abbrev argX (c : Dev nD) : FVec Ideal S512x256 .f32 := m ((c : Thread nD τ).loc main_arg0)
/-- The router, as the device holds it. -/
abbrev argW (c : Dev nD) : FVec Ideal S256x32 .f32 := m ((c : Thread nD τ).loc main_arg1)
/-- The choices of the device's rows. -/
abbrev argI (c : Dev nD) : IVec S512x2 32 := m ((c : Thread nD τ).loc main_arg2)
/-- The device's experts. -/
abbrev argE (c : Dev nD) : FVec Ideal S4x256x512 .f32 := m ((c : Thread nD τ).loc main_arg3)

/-- The staged rows are the device's rows. -/
theorem xstg_eq (c : Dev nD) : xstg m ρ c = argX m c := by
  unfold xstg; funext j
  exact congrArg (m ((c : Thread nD τ).loc main_arg0)) (by
    funext a; apply Fin.ext
    exact Pipeline.Window.rect_emb_val_of_index_zero win0_0 (0 : Fin 1) a (by revert a; decide) j)

/-- The staged router is the device's router. -/
theorem rwstg_eq (c : Dev nD) : rwstg m ρ c = argW m c := by
  unfold rwstg; funext j
  exact congrArg (m ((c : Thread nD τ).loc main_arg1)) (by
    funext a; apply Fin.ext
    exact Pipeline.Window.rect_emb_val_of_index_zero win0_1 (0 : Fin 1) a (by revert a; decide) j)

/-- The staged choices are the device's choices. -/
theorem ixstg_eq (c : Dev nD) : ixstg m ρ c = argI m c := by
  unfold ixstg; funext j
  exact congrArg (m ((c : Thread nD τ).loc main_arg2)) (by
    funext a; apply Fin.ext
    exact Pipeline.Window.rect_emb_val_of_index_zero win0_2 (0 : Fin 1) a (by revert a; decide) j)

/-- The staged experts are the device's experts. -/
theorem ewstg_eq (c : Dev nD) : ewstg m ρ c = argE m c := by
  unfold ewstg; funext j
  exact congrArg (m ((c : Thread nD τ).loc main_arg3)) (by
    funext a; apply Fin.ext
    exact Pipeline.Window.rect_emb_val_of_index_zero win0_3 (0 : Fin 1) a (by revert a; decide) j)

/-- The rows the kernel loads are the device's rows. -/
theorem V94_eq (c : Dev nD) : V94 m ρ c = argX m c :=
  (Memref.readAt_unit_zero _ cc0_stg0_0 (by funext a; fin_cases a <;> rfl) _ _).trans (xstg_eq m ρ c)

/-- The router the kernel loads is the device's router. -/
theorem V96_eq (c : Dev nD) : V96 m ρ c = argW m c :=
  (Memref.readAt_unit_zero _ cc0_stg1_0 (by funext a; fin_cases a <;> rfl) _ _).trans (rwstg_eq m ρ c)

/-- The first choices the kernel loads are the first column of the device's choices. -/
theorem V108_apply (c : Dev nD) (r : Fin 512) : V108 m ρ c (ix2 r 0) = argI m c (ix2 r 0) := by
  rw [← ixstg_eq m ρ c]
  exact congrArg (ixstg m ρ c) (by
    funext a; apply Fin.ext
    refine (ValueKit.rect_emb_unit_val (s := S512x2) ![0, 0] S512x1.size inb_S512x2_S512x1_0_0 (ix2 r 0) a).trans ?_
    fin_cases a <;> simp [ix2])

/-- The second choices the kernel loads are the second column of the device's choices. -/
theorem V110_apply (c : Dev nD) (r : Fin 512) : V110 m ρ c (ix2 r 0) = argI m c (ix2 r 1) := by
  rw [← ixstg_eq m ρ c]
  exact congrArg (ixstg m ρ c) (by
    funext a; apply Fin.ext
    refine (ValueKit.rect_emb_unit_val (s := S512x2) ![0, 1] S512x1.size inb_S512x2_S512x1_0_1 (ix2 r 0) a).trans ?_
    fin_cases a <;> simp [ix2])

/-- The experts a device sends are its experts. -/
theorem qv_apply (c : Dev nD) (t : Fin 4) (d : Fin 256) (h : Fin 512) :
    (qv m ρ c : FVec Ideal S4x256x512 .bf16) (ix3 t d h) = argE m c (ix3 t d h) := by
  unfold qv
  rw [ewstg_eq]
  pointwise [k0_pay12]

/-- The experts the kernel loads of its own are the ones it sends. -/
theorem V651_eq (c : Dev nD) : V651 m ρ c = qv m ρ c :=
  Memref.read_access_unit_zero _ cc0_scratch1 (by funext a; fin_cases a <;> rfl) _ _

/-- A load of one owner's part of the gathered experts is that owner's experts. -/
theorem load_apply (o : Dev nD) {off : Fin 4 → Nat} (ho : off = ![o.val, 0, 0, 0])
    (inb : ∀ a, off a + S1x4x256x512.size a ≤ S8x4x256x512.size a) (t : Fin 4) (d : Fin 256) (h : Fin 512) :
    ((aM.access (Rect.unit (s := S8x4x256x512) off S1x4x256x512.size inb)).read (Elt Ideal) (allv m ρ) : FVec Ideal S1x4x256x512 .bf16) (ix4 0 t d h)
      = argE m o (ix3 t d h) := by
  subst ho
  rw [← qv_apply m ρ o t d h]
  show allv m ρ ((Rect.unit (s := S8x4x256x512) ![o.val, 0, 0, 0] S1x4x256x512.size inb).emb (ix4 0 t d h)) = _
  unfold allv
  have e := ValueKit.rect_emb_unit_val (s := S8x4x256x512) ![o.val, 0, 0, 0] S1x4x256x512.size inb (ix4 0 t d h)
  have e0 : ((Rect.unit (s := S8x4x256x512) ![o.val, 0, 0, 0] S1x4x256x512.size inb).emb (ix4 0 t d h) 0 : Nat) = o.val :=
    (e 0).trans (by simp [ix4])
  have e1 : ((Rect.unit (s := S8x4x256x512) ![o.val, 0, 0, 0] S1x4x256x512.size inb).emb (ix4 0 t d h) 1 : Nat) = t.val :=
    (e 1).trans (by simp [ix4])
  have e2 : ((Rect.unit (s := S8x4x256x512) ![o.val, 0, 0, 0] S1x4x256x512.size inb).emb (ix4 0 t d h) 2 : Nat) = d.val :=
    (e 2).trans (by simp [ix4])
  have e3 : ((Rect.unit (s := S8x4x256x512) ![o.val, 0, 0, 0] S1x4x256x512.size inb).emb (ix4 0 t d h) 3 : Nat) = h.val :=
    (e 3).trans (by simp [ix4])
  refine congr (congrArg (qv m ρ) (Fin.ext e0)) ?_
  funext a; apply Fin.ext
  fin_cases a
  · exact e1
  · exact e2
  · exact e3

end Reads

end Cert.K1

end
-- ==== Proof.Spec.lean ====
/-
# The mathematics of one token

One token's row of the result, as a function of the token's row, the router, the token's two choices and the experts.
-/
module

public import Idealize.ShloMosaic.Lib.Pointwise

@[expose] public section

noncomputable section

namespace Cert.K1

open Idealize.ShloMosaic

/-- The score of an expert for a row. -/
def score (x : Fin 256 → EReal) (w : Fin 256 → Fin 32 → EReal) (e : Fin 32) : EReal := ∑ k : Fin 256, x k * w k e

/-- The exponential of a score less the row's greatest. -/
def expo (x : Fin 256 → EReal) (w : Fin 256 → Fin 32 → EReal) (e : Fin 32) : EReal :=
  Ideal.exp (score x w e - Finset.fold max (Ideal.ofBits FTy.f32 0xFF800000#32) (score x w) Finset.univ)

/-- The probability of an expert for a row. -/
def prob (x : Fin 256 → EReal) (w : Fin 256 → Fin 32 → EReal) (e : Fin 32) : EReal :=
  Ideal.div (expo x w e) (∑ e' : Fin 32, expo x w e')

/-- The probability of the expert that the word `i` names, zero where it names none. -/
def pick (p : Fin 32 → EReal) (i : BitVec 32) : EReal := ∑ e : Fin 32, if i = BitVec.ofNat 32 e.val then p e else 0

/-- The share of an expert in a token's result: what each of the two choices that name it adds. -/
def share (p : Fin 32 → EReal) (i0 i1 : BitVec 32) (e : Fin 32) : EReal :=
  (if i0 = BitVec.ofNat 32 e.val then Ideal.div (pick p i0) (pick p i0 + pick p i1) else 0)
    + (if i1 = BitVec.ofNat 32 e.val then Ideal.div (pick p i1) (pick p i0 + pick p i1) else 0)

/-- One element of a token's result. -/
def outv (x : Fin 256 → EReal) (w : Fin 256 → Fin 32 → EReal) (i0 i1 : BitVec 32) (W : Fin 32 → Fin 256 → EReal) : EReal :=
  ∑ e : Fin 32, ∑ d : Fin 256, x d * share (prob x w) i0 i1 e * W e d

/-- The product of a row with the expert that the word `i` names, zero where it names none. -/
def picked (x : Fin 256 → EReal) (i : BitVec 32) (W : Fin 32 → Fin 256 → EReal) : EReal :=
  ∑ e : Fin 32, if i = BitVec.ofNat 32 e.val then ∑ d : Fin 256, x d * W e d else 0

/-- One element of a token's result, as the two chosen experts' products weighted. -/
def mix (x : Fin 256 → EReal) (w : Fin 256 → Fin 32 → EReal) (i0 i1 : BitVec 32) (W : Fin 32 → Fin 256 → EReal) : EReal :=
  Ideal.div (pick (prob x w) i0) (pick (prob x w) i0 + pick (prob x w) i1) * picked x i0 W
    + Ideal.div (pick (prob x w) i1) (pick (prob x w) i0 + pick (prob x w) i1) * picked x i1 W

end Cert.K1

end
-- ==== Proof.ValSlot.lean ====
/-
# The slots and the products, at an index

A slot of an owner holds the device's rows weighted by the owner's experts' shares; an owner's product adds the four
experts' terms; the device's output adds the eight owners' products.
-/
module

public import proofs.«01_k».proof.Proof.ValK
public import proofs.«01_k».proof.Proof.Spec

@[expose] public section

noncomputable section

namespace Cert.K1

open Cert.KernelIdeal Cert.KernelIdeal.Gen
open Idealize.ShloMosaic
open Idealize.ShloMosaic.TcCoe

/-! ## The words -/

/-- The own owner's word is the number of that owner. -/
theorem word_0 (c : Dev nD) : V2 c = BitVec.ofNat 32 (fl 0 c).val := by revert c; decide +kernel
/-- The first owner's word is the number of that owner. -/
theorem word_1 (c : Dev nD) : V46 c = BitVec.ofNat 32 (fl 1 c).val := by revert c; decide +kernel
/-- The second owner's word is the number of that owner. -/
theorem word_2 (c : Dev nD) : V53 c = BitVec.ofNat 32 (fl 3 c).val := by revert c; decide +kernel
/-- The third owner's word is the number of that owner. -/
theorem word_3 (c : Dev nD) : V60 c = BitVec.ofNat 32 (fl 4 c).val := by revert c; decide +kernel
/-- The fourth owner's word is the number of that owner. -/
theorem word_4 (c : Dev nD) : V68 c = BitVec.ofNat 32 (fl 2 c).val := by revert c; decide +kernel
/-- The fifth owner's word is the number of that owner. -/
theorem word_5 (c : Dev nD) : V84 c = BitVec.ofNat 32 (fl 7 c).val := by revert c; decide +kernel
/-- The sixth owner's word is the number of that owner. -/
theorem word_6 (c : Dev nD) : V76 c = BitVec.ofNat 32 (fl 5 c).val := by revert c; decide +kernel
/-- The seventh owner's word is the number of that owner. -/
theorem word_7 (c : Dev nD) : V93 c = BitVec.ofNat 32 (fl 6 c).val := by revert c; decide +kernel

/-- Expert `t` of owner `o` among all the experts. -/
def exo (o : Fin 8) (t : Fin 4) : Fin 32 := ⟨4 * o.val + t.val, by omega⟩

/-- The word the kernel compares a choice with names expert `t` of owner `o`. -/
theorem exo_word (o : Fin 8) (t : Fin 4) :
    Scalar.addi (Scalar.muli (BitVec.ofNat 32 o.val) 4#32) (BitVec.ofNat 32 t.val) = BitVec.ofNat 32 (exo o t).val := by
  revert o t; decide +kernel

/-- A selection on an equality of words. -/
theorem select_eq {α : Type} (a b : BitVec 32) (x y : α) :
    Scalar.select (IntOp.cmpi CmpIPredicate.eq a b) x y = if a = b then x else y := by
  by_cases h : a = b
  · subst h; simp [IntOp.cmpi, Scalar.select]
  · have hb : (a == b) = false := by simpa using h
    simp [IntOp.cmpi, Scalar.select, h, hb]

section Values

variable (m : (ℓ : Loc nD τ sig) → Buf (Elt Ideal) ℓ) (ρ : Dev nD → PrngReg)

/-- Row `r` of a device's rows. -/
abbrev rowX (c : Dev nD) (r : Fin 512) : Fin 256 → EReal := fun d => argX m c (ix2 r d)
/-- The router, by its coordinates. -/
abbrev routW (c : Dev nD) : Fin 256 → Fin 32 → EReal := fun k e => argW m c (ix2 k e)

/-- The probabilities the kernel computes are the row's. -/
theorem V107_apply (c : Dev nD) (r : Fin 512) (e : Fin 32) :
    V107 m ρ c (ix2 r e) = prob (rowX m c r) (routW m c) e := by
  unfold V107
  rw [V94_eq, V96_eq]
  pointwise [k0_pay2, k0_pay1]
  rfl

/-- The rows the kernel scales are the device's rows. -/
theorem V95_apply (c : Dev nD) (r : Fin 512) (d : Fin 256) : V95 m ρ c (ix2 r d) = argX m c (ix2 r d) := by
  unfold V95; rw [V94_eq]; pointwise [k0_pay1]

/-- The first choices the kernel compares are the first column of the device's choices. -/
theorem V109_apply (c : Dev nD) (r : Fin 512) : V109 m ρ c (ix2 r 0) = argI m c (ix2 r 0) := by
  rw [← V108_apply m ρ c r]; unfold V109; generalize V108 m ρ c = x; pointwise [k0_pay3]

/-- The second choices the kernel compares are the second column of the device's choices. -/
theorem V111_apply (c : Dev nD) (r : Fin 512) : V111 m ρ c (ix2 r 0) = argI m c (ix2 r 1) := by
  rw [← V110_apply m ρ c r]; unfold V111; generalize V110 m ρ c = x; pointwise [k0_pay4]

/-- The first weight the kernel computes, from probabilities and choices. -/
theorem pay10_apply (p : FVec Ideal S512x32 .f32) (i0 i1 : IVec S512x1 32) (io : IVec S512x32 32) (b : IVec S512x32 1) (r : Fin 512) :
    k0_pay10 p i1 io b k0_pay6 (ix2 r 0)
      = Ideal.div (∑ e : Fin 32, Scalar.select (b (ix2 r e)) (p (ix2 r e)) 0)
          (∑ e : Fin 32, Scalar.select (b (ix2 r e)) (p (ix2 r e)) 0
            + ∑ e : Fin 32, Scalar.select (IntOp.cmpi .eq (io (ix2 r e)) (i1 (ix2 r 0))) (p (ix2 r e)) 0) := by
  pointwise [k0_pay10, k0_pay9, k0_pay8, k0_pay7, k0_pay6]

/-- The second weight the kernel computes, from probabilities and choices. -/
theorem pay11_apply (p : FVec Ideal S512x32 .f32) (i0 i1 : IVec S512x1 32) (io : IVec S512x32 32) (b : IVec S512x32 1) (r : Fin 512) :
    k0_pay11 p i1 io b k0_pay6 (ix2 r 0)
      = Ideal.div (∑ e : Fin 32, Scalar.select (IntOp.cmpi .eq (io (ix2 r e)) (i1 (ix2 r 0))) (p (ix2 r e)) 0)
          (∑ e : Fin 32, Scalar.select (b (ix2 r e)) (p (ix2 r e)) 0
            + ∑ e : Fin 32, Scalar.select (IntOp.cmpi .eq (io (ix2 r e)) (i1 (ix2 r 0))) (p (ix2 r e)) 0) := by
  pointwise [k0_pay11, k0_pay9, k0_pay8, k0_pay7, k0_pay6]

/-- The experts' numbers, as words. -/
theorem V112_apply (c : Dev nD) (r : Fin 512) (e : Fin 32) : V112 m ρ c (ix2 r e) = BitVec.ofNat 32 e.val := by
  unfold V112; rw [iota_apply]
  show BitVec.ofNat 32 (0 * 32 + e.val) = _
  rw [Nat.zero_mul, Nat.zero_add]

/-- Where the first choice names the expert. -/
theorem V114_apply (c : Dev nD) (r : Fin 512) (e : Fin 32) :
    V114 m ρ c (ix2 r e) = IntOp.cmpi .eq (BitVec.ofNat 32 e.val) (argI m c (ix2 r 0)) := by
  rw [← V112_apply m ρ c r e, ← V108_apply m ρ c r]
  unfold V114 V112
  generalize V108 m ρ c = i0
  unfold k0_pay5
  generalize iota .tc S512x32 32 [1] iota_S512x32_d1_w32 = io
  pointwise [k0_pay3]

/-- A sum that keeps the experts a word names is the probability it picks. -/
theorem pick_eq (p : Fin 32 → EReal) (i : BitVec 32) :
    ∑ e : Fin 32, Scalar.select (IntOp.cmpi .eq (BitVec.ofNat 32 e.val) i) (p e) 0 = pick p i :=
  Finset.sum_congr rfl fun e _ => by
    rw [select_eq]
    by_cases h : i = BitVec.ofNat 32 e.val
    · rw [if_pos h, if_pos h.symm]
    · rw [if_neg h, if_neg (fun h' => h h'.symm)]

/-- The probability of a row's first choice, over the two choices' sum. -/
theorem V126_apply (c : Dev nD) (r : Fin 512) :
    V126 m ρ c (ix2 r 0) = Ideal.div (pick (prob (rowX m c r) (routW m c)) (argI m c (ix2 r 0)))
      (pick (prob (rowX m c r) (routW m c)) (argI m c (ix2 r 0)) + pick (prob (rowX m c r) (routW m c)) (argI m c (ix2 r 1))) := by
  refine (pay10_apply (V107 m ρ c) (V108 m ρ c) (V111 m ρ c) (V112 m ρ c) (V114 m ρ c) r).trans ?_
  simp only [V112_apply, V114_apply, V111_apply, V107_apply, pick_eq]

/-- The probability of a row's second choice, over the two choices' sum. -/
theorem V127_apply (c : Dev nD) (r : Fin 512) :
    V127 m ρ c (ix2 r 0) = Ideal.div (pick (prob (rowX m c r) (routW m c)) (argI m c (ix2 r 1)))
      (pick (prob (rowX m c r) (routW m c)) (argI m c (ix2 r 0)) + pick (prob (rowX m c r) (routW m c)) (argI m c (ix2 r 1))) := by
  refine (pay11_apply (V107 m ρ c) (V108 m ρ c) (V111 m ρ c) (V112 m ρ c) (V114 m ρ c) r).trans ?_
  simp only [V112_apply, V114_apply, V111_apply, V107_apply, pick_eq]

/-- The rows scaled for one expert, at an index. -/
theorem xw_apply (t o : BitVec 32) (x : FVec Ideal S512x256 .f32) (i0 i1 : IVec S512x1 32) (g0 g1 : FVec Ideal S512x1 .f32)
    (r : Fin 512) (d : Fin 256) :
    xw t o x i0 i1 g0 g1 (ix2 r d) = x (ix2 r d)
      * ((if i0 (ix2 r 0) = Scalar.addi (Scalar.muli o 4#32) t then g0 (ix2 r 0) else 0)
        + (if i1 (ix2 r 0) = Scalar.addi (Scalar.muli o 4#32) t then g1 (ix2 r 0) else 0)) := by
  rw [← select_eq, ← select_eq]
  pointwise [xw]

/-- Column `d` of part `t` of a slot. -/
def col (t : Fin 4) (d : Fin 256) : Fin 1024 := ⟨256 * t.val + d.val, by omega⟩

/-- A slot's part `t` is the rows scaled for expert `t`. -/
theorem slotv_apply (o : BitVec 32) (x : FVec Ideal S512x256 .f32) (i0 i1 : IVec S512x1 32) (g0 g1 : FVec Ideal S512x1 .f32)
    (r : Fin 512) (t : Fin 4) (d : Fin 256) :
    slotv o x i0 i1 g0 g1 (ix3 0 r (col t d)) = xw (BitVec.ofNat 32 t.val) o x i0 i1 g0 g1 (ix2 r d) := by
  fin_cases t
  · pointwise [slotv, col]
  · pointwise [slotv, col]
  · pointwise [slotv, col]
    rw [dif_neg (by omega), dif_neg (by omega), dif_pos (by omega)]
    exact congrArg _ (congrArg (ix2 r) (Fin.ext (by show 512 + d.val - 256 - 256 = d.val; omega)))
  · pointwise [slotv, col]
    rw [dif_neg (by omega), dif_neg (by omega), dif_neg (by omega)]
    exact congrArg _ (congrArg (ix2 r) (Fin.ext (by show 768 + d.val - 256 - 256 - 256 = d.val; omega)))

/-- The product of a slot with four experts, at an index. -/
theorem prod4_apply (b : FVec Ideal S4x256x512 .bf16) (s : FVec Ideal S1x512x1024 .bf16) (r h : Fin 512) :
    prod4 b s (ix2 r h) = ∑ t : Fin 4, ∑ d : Fin 256, s (ix3 0 r (col t d)) * b (ix3 t d h) := by
  pointwise [prod4]
  refine (Fintype.sum_equiv (finProdFinEquiv (m := 4) (n := 256)).symm _ (fun p => s (ix3 0 r (col p.1 p.2)) * b (ix3 p.1 p.2 h)) ?_).trans
    (Fintype.sum_prod_type _)
  intro x
  have e : col (finProdFinEquiv.symm x).1 (finProdFinEquiv.symm x).2 = x := by
    apply Fin.ext; simp only [col, finProdFinEquiv_symm_apply, Fin.coe_divNat, Fin.coe_modNat]; omega
  rw [e]
  rfl

/-- One owner's product added to the sum so far, at an index. -/
theorem accN_apply (b : FVec Ideal S1x4x256x512 .bf16) (s : FVec Ideal S1x512x1024 .bf16) (a : FVec Ideal S512x512 .f32) (r h : Fin 512) :
    accN b s a (ix2 r h) = a (ix2 r h) + ∑ t : Fin 4, ∑ d : Fin 256, s (ix3 0 r (col t d)) * b (ix4 0 t d h) := by
  have e : ∀ (t : Fin 4) (d : Fin 256), shapeCast S4x256x512 b shapeCasts_S1x4x256x512_S4x256x512 (ix3 t d h) = b (ix4 0 t d h) := by
    intro t d; pointwise
  simp only [← e, ← prod4_apply]
  generalize hb : shapeCast S4x256x512 b shapeCasts_S1x4x256x512_S4x256x512 = b'
  unfold accN; rw [hb]
  generalize prod4 b' s = q
  pointwise

/-- The device's slot for owner `o`: each row times the share of each of the owner's experts. -/
theorem slotOf_apply (c : Dev nD) (o : Fin 8) (r : Fin 512) (t : Fin 4) (d : Fin 256) :
    slotOf m ρ c (BitVec.ofNat 32 o.val) (ix3 0 r (col t d))
      = rowX m c r d * share (prob (rowX m c r) (routW m c)) (argI m c (ix2 r 0)) (argI m c (ix2 r 1)) (exo o t) := by
  unfold slotOf
  rw [slotv_apply, xw_apply, exo_word, V95_apply, V109_apply, V111_apply, V126_apply, V127_apply]
  rfl

/-- What owner `o`'s experts add to row `r`, column `h` of device `c`'s output. -/
def term (c o : Dev nD) (r h : Fin 512) : EReal :=
  ∑ t : Fin 4, ∑ d : Fin 256,
    rowX m c r d * share (prob (rowX m c r) (routW m c)) (argI m c (ix2 r 0)) (argI m c (ix2 r 1)) (exo o t) * argE m o (ix3 t d h)

/-- One owner's step of the sum: with the slot and the experts of `o`, it adds `o`'s term. -/
theorem acc_step (c o : Dev nD) (b : FVec Ideal S1x4x256x512 .bf16) (a : FVec Ideal S512x512 .f32) (w : BitVec 32)
    (hw : w = BitVec.ofNat 32 o.val) (hb : ∀ (t : Fin 4) (d : Fin 256) (h : Fin 512), b (ix4 0 t d h) = argE m o (ix3 t d h))
    (r h : Fin 512) : accN b (slotOf m ρ c w) a (ix2 r h) = a (ix2 r h) + term m c o r h := by
  subst hw
  rw [accN_apply]
  refine congrArg (a (ix2 r h) + ·) (Finset.sum_congr rfl fun t _ => Finset.sum_congr rfl fun d _ => ?_)
  rw [slotOf_apply, hb]

/-- Flipping no bit of a device's number leaves it. -/
theorem fl_zero (c : Dev nD) : fl 0 c = c := by revert c; decide

/-- The first step: the device's own experts' term. -/
theorem A0_apply (c : Dev nD) (r h : Fin 512) : A0 m ρ c (ix2 r h) = term m c (fl 0 c) r h := by
  rw [A0_eq, prod4_apply, S0_eq, word_0]
  refine Finset.sum_congr rfl fun t _ => Finset.sum_congr rfl fun d _ => ?_
  rw [slotOf_apply, V651_eq, qv_apply, fl_zero]

/-- The device's output at a row and a column: the eight owners' terms. -/
theorem A7_apply (c : Dev nD) (r h : Fin 512) :
    A7 m ρ c (ix2 r h) = term m c (fl 0 c) r h + term m c (fl 1 c) r h + term m c (fl 3 c) r h + term m c (fl 4 c) r h
      + term m c (fl 2 c) r h + term m c (fl 7 c) r h + term m c (fl 5 c) r h + term m c (fl 6 c) r h := by
  rw [A7_eq, S7_eq, acc_step m ρ c (fl 6 c) _ _ _ (word_7 c) (load_apply m ρ (fl 6 c) (off_eq20 c) _),
    A6_eq, S6_eq, acc_step m ρ c (fl 5 c) _ _ _ (word_6 c) (load_apply m ρ (fl 5 c) (off_eq19 c) _),
    A5_eq, S5_eq, acc_step m ρ c (fl 7 c) _ _ _ (word_5 c) (load_apply m ρ (fl 7 c) (off_eq18 c) _),
    A4_eq, S4_eq, acc_step m ρ c (fl 2 c) _ _ _ (word_4 c) (load_apply m ρ (fl 2 c) (off_eq17 c) _),
    A3_eq, S3_eq, acc_step m ρ c (fl 4 c) _ _ _ (word_3 c) (load_apply m ρ (fl 4 c) (off_eq11 c) _),
    A2_eq, S2_eq, acc_step m ρ c (fl 3 c) _ _ _ (word_2 c) (load_apply m ρ (fl 3 c) (off_eq10 c) _),
    A1_eq, S1_eq, acc_step m ρ c (fl 1 c) _ _ _ (word_1 c) (load_apply m ρ (fl 1 c) (off_eq9 c) _),
    A0_apply]

/-- A function of the owners, added over the flips of a device's number, is added over the owners. -/
theorem sum_fl (f : Fin 8 → EReal) (c : Fin 8) : ∑ k : Fin 8, f (fl k c) = ∑ o : Fin 8, f o := by
  have hb : Function.Bijective (fun k : Fin 8 => (fl k c : Fin 8)) := by revert c; decide +kernel
  exact hb.sum_comp f

/-- The device's output is the sum of the owners' terms. -/
theorem A7_sum (c : Dev nD) (r h : Fin 512) : A7 m ρ c (ix2 r h) = ∑ o : Fin 8, term m c o r h := by
  rw [A7_apply, ← sum_fl (fun o => term m c o r h) c, Fin.sum_univ_eight]
  ac_rfl

/-- A sum over the owners and their experts is a sum over all the experts. -/
theorem sum_exo (f : Fin 32 → EReal) : ∑ o : Fin 8, ∑ t : Fin 4, f (exo o t) = ∑ e : Fin 32, f e := by
  refine ((Fintype.sum_equiv (finProdFinEquiv (m := 8) (n := 4)) (fun p => f (exo p.1 p.2)) f ?_).symm.trans
    (Fintype.sum_prod_type _)).symm
  intro p
  refine congrArg f (Fin.ext ?_)
  simp only [exo, finProdFinEquiv_apply_val]; omega

/-- With experts `W` of which each device holds its four, the device's output is the row's result. -/
theorem A7_outv (W : Fin 32 → Fin 256 → Fin 512 → EReal)
    (hW : ∀ (o : Dev nD) (t : Fin 4) (d : Fin 256) (h : Fin 512), argE m o (ix3 t d h) = W (exo o t) d h) (c : Dev nD) (r h : Fin 512) :
    A7 m ρ c (ix2 r h)
      = outv (rowX m c r) (routW m c) (argI m c (ix2 r 0)) (argI m c (ix2 r 1)) (fun e d => W e d h) := by
  rw [A7_sum]
  unfold outv
  rw [← sum_exo]
  refine Finset.sum_congr rfl fun o _ => Finset.sum_congr rfl fun t _ => Finset.sum_congr rfl fun d _ => ?_
  rw [hW]

end Values

end Cert.K1

end
-- ==== Proof.WeightVal.lean ====
/-
# The reference with weighted rows, read at an index

The result at a token and a column is the token's row of the mathematics.
-/
module

public import proofs.«01_k».proof.Proof.Spec
public import proofs.«01_k».proof.Proof.Gen.WeightedIdeal.Run
public import Idealize.ShloMosaic.Lib.Tactic.CleanTypes

@[expose] public section

noncomputable section

namespace Cert.K1

open Cert.WeightedIdeal Cert.WeightedIdeal.Gen Cert.WeightedIdeal.Value
open Idealize.ShloMosaic
open Idealize.ShloMosaic.TcCoe

/-- An equality test widened to a number is one where the words are equal, and zero elsewhere. -/
theorem bit_eq (a b : BitVec 32) :
    (FloatOps.uitofp (F := Ideal) FTy.f32 (IntOp.cmpi CmpIPredicate.eq a b) : EReal) = if a = b then 1 else 0 := by
  by_cases h : a = b
  · subst h; simp [IntOp.cmpi, FloatOps.uitofp]
  · simp [IntOp.cmpi, FloatOps.uitofp, h]

set_option maxRecDepth 16384 in
/-- The result of the reference with weighted rows at token `R` and column `h`. -/
theorem weighted_apply (m : (ℓ : Loc nD τ sig) → Buf (Elt Ideal) ℓ) (c : Dev nD) (R : Fin 4096) (h : Fin 512) :
    (res_main_v34 m c : FVec Ideal S4096x512 .f32) (ix2 R h)
      = outv (fun d => (m ((c.tc : Thread nD τ).loc main_arg0) : FVec Ideal S4096x256 .f32) (ix2 R d))
          (fun k e => (m ((c.tc : Thread nD τ).loc main_arg1) : FVec Ideal S256x32 .f32) (ix2 k e))
          ((m ((c.tc : Thread nD τ).loc main_arg2) : IVec S4096x2 32) (ix2 R 0))
          ((m ((c.tc : Thread nD τ).loc main_arg2) : IVec S4096x2 32) (ix2 R 1))
          (fun e d => (m ((c.tc : Thread nD τ).loc main_arg3) : FVec Ideal S32x256x512 .f32) (ix3 e d h)) := by
  unfold res_main_v34
  clean_types
  generalize m ((c.tc : Thread nD τ).loc main_arg0) = X
  generalize m ((c.tc : Thread nD τ).loc main_arg1) = RW
  generalize m ((c.tc : Thread nD τ).loc main_arg2) = IX
  generalize m ((c.tc : Thread nD τ).loc main_arg3) = EW
  pointwise
  simp only [bit_eq, Fin.sum_univ_two, mul_ite, mul_one, mul_zero]
  simp only [outv, share, pick, prob, expo, score]
  exact Finset.sum_comm

end Cert.K1

end
-- ==== Proof.RefVal.lean ====
/-
# The reference, read at an index

The reference's result at a token and a column is the token's row of the mathematics.
-/
module

public import proofs.«01_k».proof.Proof.WeightVal
public import proofs.«01_k».proof.Proof.Gen.ReferenceIdeal.Run
public import Idealize.ShloMosaic.Lib.Tactic.CleanTypes

@[expose] public section

noncomputable section

namespace Cert.K1

open Cert.ReferenceIdeal Cert.ReferenceIdeal.Gen Cert.ReferenceIdeal.Value
open Idealize.ShloMosaic
open Idealize.ShloMosaic.TcCoe

set_option maxRecDepth 16384 in
/-- The reference's result at token `R` and column `h`. -/
theorem ref_apply (m : (ℓ : Loc nD τ sig) → Buf (Elt Ideal) ℓ) (c : Dev nD) (R : Fin 4096) (h : Fin 512) :
    (res_main_v35 m c : FVec Ideal S4096x512 .f32) (ix2 R h)
      = mix (fun d => (m ((c.tc : Thread nD τ).loc main_arg0) : FVec Ideal S4096x256 .f32) (ix2 R d))
          (fun k e => (m ((c.tc : Thread nD τ).loc main_arg1) : FVec Ideal S256x32 .f32) (ix2 k e))
          ((m ((c.tc : Thread nD τ).loc main_arg2) : IVec S4096x2 32) (ix2 R 0))
          ((m ((c.tc : Thread nD τ).loc main_arg2) : IVec S4096x2 32) (ix2 R 1))
          (fun e d => (m ((c.tc : Thread nD τ).loc main_arg3) : FVec Ideal S32x256x512 .f32) (ix3 e d h)) := by
  unfold res_main_v35
  clean_types
  generalize m ((c.tc : Thread nD τ).loc main_arg0) = X
  generalize m ((c.tc : Thread nD τ).loc main_arg1) = RW
  generalize m ((c.tc : Thread nD τ).loc main_arg2) = IX
  generalize m ((c.tc : Thread nD τ).loc main_arg3) = EW
  pointwise
  simp only [bit_eq, Fin.sum_univ_two, mul_ite, ite_mul, mul_one, one_mul, zero_mul, mul_zero]
  simp only [mix, picked, pick, prob, expo, score]
  rfl

end Cert.K1

end
-- ==== Proof.Mix.lean ====
/-
# Weighting the row and weighting the product

Where the row and the router are finite, weighting the row before its products with the experts and weighting the two
chosen experts' products give the same result.
-/
module

public import proofs.«01_k».proof.Proof.Spec

@[expose] public section

noncomputable section

namespace Cert.K1

open Idealize.ShloMosaic

/-- The extended real is a real. -/
def IsReal (a : EReal) : Prop := ∃ r : ℝ, a = (r : EReal)

/-- The extended real is a positive real. -/
def IsPos (a : EReal) : Prop := ∃ r : ℝ, 0 < r ∧ a = (r : EReal)

theorem IsPos.fin {a : EReal} (h : IsPos a) : IsReal a := h.imp fun _ h => h.2

/-- A product of reals is a real. -/
theorem IsReal.mul {a b : EReal} : IsReal a → IsReal b → IsReal (a * b) := by
  rintro ⟨r, rfl⟩ ⟨s, rfl⟩; exact ⟨r * s, (EReal.coe_mul r s).symm⟩

/-- A sum of reals is a real. -/
theorem IsReal.add {a b : EReal} : IsReal a → IsReal b → IsReal (a + b) := by
  rintro ⟨r, rfl⟩ ⟨s, rfl⟩; exact ⟨r + s, (EReal.coe_add r s).symm⟩

/-- A difference of reals is a real. -/
theorem IsReal.sub {a b : EReal} : IsReal a → IsReal b → IsReal (a - b) := by
  rintro ⟨r, rfl⟩ ⟨s, rfl⟩; exact ⟨r - s, (EReal.coe_sub r s).symm⟩

/-- A sum of positive reals is one. -/
theorem IsPos.add {a b : EReal} : IsPos a → IsPos b → IsPos (a + b) := by
  rintro ⟨r, hr, rfl⟩ ⟨s, hs, rfl⟩; exact ⟨r + s, add_pos hr hs, (EReal.coe_add r s).symm⟩

/-- A sum of reals over a finite set is a real. -/
theorem fin_sum {ι : Type} (s : Finset ι) (f : ι → EReal) (h : ∀ i, IsReal (f i)) : IsReal (∑ i ∈ s, f i) :=
  Finset.sum_induction f IsReal (fun _ _ => IsReal.add) ⟨0, rfl⟩ fun i _ => h i

/-- A sum of positive reals over the experts is one. -/
theorem pos_sum (f : Fin 32 → EReal) (h : ∀ i, IsPos (f i)) : IsPos (∑ i, f i) :=
  Finset.sum_induction_nonempty f IsPos (fun _ _ => IsPos.add) ⟨0, Finset.mem_univ _⟩ fun i _ => h i

/-- The quotient of positive reals is one. -/
theorem IsPos.div {a b : EReal} : IsPos a → IsPos b → IsPos (Ideal.div a b) := by
  rintro ⟨r, hr, rfl⟩ ⟨s, hs, rfl⟩
  refine ⟨r * s⁻¹, mul_pos hr (inv_pos.mpr hs), ?_⟩
  unfold Ideal.div
  rw [if_neg (by exact_mod_cast hs.ne'), EReal.coe_mul, EReal.coe_inv]

/-- A positive real is nonnegative and not infinite. -/
theorem IsPos.bounds {a : EReal} : IsPos a → 0 ≤ a ∧ a ≠ ⊤ := by
  rintro ⟨r, hr, rfl⟩; exact ⟨by exact_mod_cast hr.le, EReal.coe_ne_top r⟩

/-- The score of a finite row against a finite router is a real. -/
theorem score_fin (x : Fin 256 → EReal) (w : Fin 256 → Fin 32 → EReal) (hx : ∀ d, IsReal (x d)) (hw : ∀ d e, IsReal (w d e))
    (e : Fin 32) : IsReal (score x w e) :=
  fin_sum _ _ fun k => (hx k).mul (hw k e)

/-- The exponential of a score less the greatest is a positive real. -/
theorem expo_pos (x : Fin 256 → EReal) (w : Fin 256 → Fin 32 → EReal) (hx : ∀ d, IsReal (x d)) (hw : ∀ d e, IsReal (w d e))
    (e : Fin 32) : IsPos (expo x w e) := by
  have hm : IsReal (Finset.fold max (Ideal.ofBits FTy.f32 0xFF800000#32) (score x w) Finset.univ) := by
    have hb : Ideal.ofBits FTy.f32 0xFF800000#32 = (⊥ : EReal) := by simp [Ideal.ofBits, Ideal.ieee]
    rw [hb]
    obtain ⟨i, _, hi⟩ := Finset.exists_mem_eq_sup (Finset.univ : Finset (Fin 32)) ⟨0, Finset.mem_univ _⟩ (score x w)
    have : Finset.fold max (⊥ : EReal) (score x w) Finset.univ = score x w i := hi
    rw [this]; exact score_fin x w hx hw i
  obtain ⟨r, hr⟩ := (score_fin x w hx hw e).sub hm
  refine ⟨Real.exp r, Real.exp_pos r, ?_⟩
  unfold expo; rw [hr]; rfl

/-- The probability of an expert for a finite row is a positive real. -/
theorem prob_pos (x : Fin 256 → EReal) (w : Fin 256 → Fin 32 → EReal) (hx : ∀ d, IsReal (x d)) (hw : ∀ d e, IsReal (w d e))
    (e : Fin 32) : IsPos (prob x w e) :=
  (expo_pos x w hx hw e).div (pos_sum _ (expo_pos x w hx hw))

/-- A word names at most one expert. -/
theorem ofNat_inj {e e' : Fin 32} (h : BitVec.ofNat 32 e.val = BitVec.ofNat 32 e'.val) : e = e' := by
  revert e e'; decide +kernel

/-- A word that names an expert picks its probability. -/
theorem pick_name (p : Fin 32 → EReal) (e : Fin 32) : pick p (BitVec.ofNat 32 e.val) = p e := by
  unfold pick
  rw [Finset.sum_eq_single e (fun e' _ h => if_neg fun h' => h (ofNat_inj h').symm) (fun h => absurd (Finset.mem_univ _) h), if_pos rfl]

/-- A word that names no expert picks zero. -/
theorem pick_none (p : Fin 32 → EReal) (i : BitVec 32) (h : ∀ e : Fin 32, i ≠ BitVec.ofNat 32 e.val) : pick p i = 0 :=
  Finset.sum_eq_zero fun e _ => if_neg (h e)

/-- The weight of a choice that names an expert is nonnegative and not infinite, whatever the other choice is. -/
theorem weight_bounds (p : Fin 32 → EReal) (hp : ∀ e, IsPos (p e)) (i j : BitVec 32) (e : Fin 32) (he : i = BitVec.ofNat 32 e.val) :
    0 ≤ Ideal.div (pick p i) (pick p i + pick p j) ∧ Ideal.div (pick p i) (pick p i + pick p j) ≠ ⊤ := by
  subst he
  rw [pick_name]
  by_cases h : ∃ e' : Fin 32, j = BitVec.ofNat 32 e'.val
  · obtain ⟨e', rfl⟩ := h
    rw [pick_name]
    exact ((hp e).div ((hp e).add (hp e'))).bounds
  · rw [pick_none p j fun e' h' => h ⟨e', h'⟩, add_zero]
    exact ((hp e).div (hp e)).bounds

/-- A nonnegative number that is not infinite goes into a sum. -/
theorem mul_sum_of_bounds {ι : Type} (s : Finset ι) (f : ι → EReal) (g : EReal) (h0 : 0 ≤ g) (h1 : g ≠ ⊤) :
    g * ∑ i ∈ s, f i = ∑ i ∈ s, g * f i := by
  classical
  induction s using Finset.induction_on with
  | empty => simp
  | insert a s ha ih => rw [Finset.sum_insert ha, Finset.sum_insert ha, EReal.left_distrib_of_nonneg_of_ne_top h0 h1, ih]

/-- A choice's weighted product is the sum of the row's products with the row weighted. -/
theorem picked_weighted (x : Fin 256 → EReal) (i : BitVec 32) (W : Fin 32 → Fin 256 → EReal) (g : EReal)
    (hg : ∀ e : Fin 32, i = BitVec.ofNat 32 e.val → 0 ≤ g ∧ g ≠ ⊤) :
    g * picked x i W = ∑ e : Fin 32, ∑ d : Fin 256, (x d * W e d) * (if i = BitVec.ofNat 32 e.val then g else 0) := by
  by_cases h : ∃ e : Fin 32, i = BitVec.ofNat 32 e.val
  · obtain ⟨e₀, he₀⟩ := h
    obtain ⟨h0, h1⟩ := hg e₀ he₀
    unfold picked
    rw [mul_sum_of_bounds _ _ g h0 h1]
    refine Finset.sum_congr rfl fun e _ => ?_
    by_cases he : i = BitVec.ofNat 32 e.val
    · rw [if_pos he, mul_sum_of_bounds _ _ g h0 h1]
      exact Finset.sum_congr rfl fun d _ => by rw [if_pos he, mul_comm]
    · rw [if_neg he, mul_zero]
      exact (Finset.sum_eq_zero fun d _ => by rw [if_neg he, mul_zero]).symm
  · have hn : ∀ e : Fin 32, ¬ i = BitVec.ofNat 32 e.val := fun e he => h ⟨e, he⟩
    unfold picked
    rw [Finset.sum_eq_zero fun e _ => if_neg (hn e), mul_zero]
    exact (Finset.sum_eq_zero fun e _ => Finset.sum_eq_zero fun d _ => by rw [if_neg (hn e), mul_zero]).symm

/-- For a finite row and a finite router the two ways of weighting agree. -/
theorem outv_eq_mix (x : Fin 256 → EReal) (w : Fin 256 → Fin 32 → EReal) (i0 i1 : BitVec 32) (W : Fin 32 → Fin 256 → EReal)
    (hx : ∀ d, IsReal (x d)) (hw : ∀ d e, IsReal (w d e)) : outv x w i0 i1 W = mix x w i0 i1 W := by
  have hp := prob_pos x w hx hw
  have b0 : ∀ e : Fin 32, i0 = BitVec.ofNat 32 e.val → _ := fun e he => weight_bounds (prob x w) hp i0 i1 e he
  have b1 : ∀ e : Fin 32, i1 = BitVec.ofNat 32 e.val → 0 ≤ Ideal.div (pick (prob x w) i1) (pick (prob x w) i0 + pick (prob x w) i1)
      ∧ Ideal.div (pick (prob x w) i1) (pick (prob x w) i0 + pick (prob x w) i1) ≠ ⊤ := fun e he => by
    have h := weight_bounds (prob x w) hp i1 i0 e he
    rwa [add_comm (pick (prob x w) i1)] at h
  unfold mix outv share
  generalize Ideal.div (pick (prob x w) i0) (pick (prob x w) i0 + pick (prob x w) i1) = g0 at b0 ⊢
  generalize Ideal.div (pick (prob x w) i1) (pick (prob x w) i0 + pick (prob x w) i1) = g1 at b1 ⊢
  rw [picked_weighted x i0 W g0 b0, picked_weighted x i1 W g1 b1, ← Finset.sum_add_distrib]
  refine Finset.sum_congr rfl fun e _ => ?_
  rw [← Finset.sum_add_distrib]
  refine Finset.sum_congr rfl fun d _ => ?_
  have n0 : 0 ≤ (if i0 = BitVec.ofNat 32 e.val then g0 else 0) := by split_ifs with h; exacts [(b0 e h).1, le_rfl]
  have n1 : 0 ≤ (if i1 = BitVec.ofNat 32 e.val then g1 else 0) := by split_ifs with h; exacts [(b1 e h).1, le_rfl]
  rw [mul_right_comm, EReal.left_distrib_of_nonneg n0 n1]

end Cert.K1

end
-- ==== Proof.Finite.lean ====
/-
# What the precondition says

Where the precondition holds, the rows and the router hold reals.
-/
module

public import proofs.«01_k».proof.Defs
public import proofs.«01_k».proof.Proof.ValSlot
public import proofs.«01_k».proof.Proof.Mix
public import proofs.«01_k».proof.Proof.Gen.Pre_finite_KernelIdeal

@[expose] public section

noncomputable section

namespace Cert.K1

open Idealize.ShloMosaic
open Idealize.ShloMosaic.TcCoe
open Idealize.SL.Sem

attribute [local instance] Cert.KernelIdeal.Gen.facts Cert.Pre_finite_KernelIdeal.Gen.facts

/-- A number below the positive infinity in absolute value is a real. -/
theorem real_of_lt (a : EReal) (h : FloatOps.cmpf (F := Ideal) (φ := .f32) .olt (FloatOps.absf (F := Ideal) (φ := .f32) a) (Ideal.ofBits .f32 0x7F800000#32) = 1#1) :
    IsReal a := by
  have h' : max a (-a) < (⊤ : EReal) := by
    have ht : Ideal.ofBits .f32 0x7F800000#32 = (⊤ : EReal) := by simp [Ideal.ofBits, Ideal.ieee]
    rw [ht] at h
    by_contra hn
    have h0 : BitVec.ofBool (decide (max a (-a) < (⊤ : EReal))) = 1#1 := h
    rw [decide_eq_false hn] at h0
    exact absurd h0 (by decide)
  induction a using EReal.rec with
  | bot => simp at h'
  | coe r => exact ⟨r, rfl⟩
  | top => simp at h'

/-- Where the precondition holds, a device's rows and its router are real. -/
theorem finite_args (m : (ℓ : Loc Cert.KernelIdeal.nD Cert.KernelIdeal.τ Cert.KernelIdeal.sig) → Buf (Elt Ideal) ℓ)
    (hp : Cert.Pre_KernelIdeal_finite_KernelIdeal m) (c : Dev Cert.KernelIdeal.nD) :
    (∀ (r : Fin 512) (d : Fin 256), IsReal (rowX m c r d)) ∧ (∀ (d : Fin 256) (e : Fin 32), IsReal (routW m c d e)) := by
  obtain ⟨h0, h1⟩ := hp c
  refine ⟨fun r d => ?_, fun d e => ?_⟩
  · have h := congrFun h0 (ix2 r d)
    revert h
    show _ → IsReal (argX m c (ix2 r d))
    pointwise [Cert.Pre_finite_KernelIdeal.fn]
    exact real_of_lt _
  · have h := congrFun h1 (ix2 d e)
    revert h
    show _ → IsReal (argW m c (ix2 d e))
    pointwise [Cert.Pre_finite_KernelIdeal.fn]
    exact real_of_lt _

end Cert.K1

end
-- ==== Proof.Alg.lean ====
/-
# The kernel's output is its part of the reference's

The output array ends holding the device's sum, which is the device's block of the reference's result.
-/
module

public import proofs.«01_k».proof.Defs
public import proofs.«01_k».proof.Proof.Frames
public import proofs.«01_k».proof.Proof.ValSlot
public import proofs.«01_k».proof.Proof.RefVal
public import proofs.«01_k».proof.Proof.Mix
public import proofs.«01_k».proof.Proof.Finite
public import Idealize.ShloMosaic.Lib.Layout

@[expose] public section

noncomputable section

namespace Cert.K1

open Idealize.ShloMosaic
open Idealize.ShloMosaic.TcCoe
open Idealize.SL.Sem

section Kernel

open Cert.KernelIdeal Cert.KernelIdeal.Gen

variable (m : (ℓ : Loc nD τ sig) → Buf (Elt Ideal) ℓ) (ρ : Dev nD → PrngReg)

/-- The block of the output is the whole array, so reading it reads the array. -/
theorem read_out (G : FVec Ideal S512x512 .f32) : (win0_4.blk (0 : Fin 1)).view.read (Elt Ideal) G = G := by
  funext j
  exact congrArg G (by
    funext a; apply Fin.ext
    exact Pipeline.Window.rect_emb_val_of_index_zero win0_4 (0 : Fin 1) a (by revert a; decide) j)

/-- What the kernel writes back to the output is the device's sum. -/
theorem flushed_out (c : Dev nD) (t : Fin cfg0.N) :
    (dats m ρ 0 c).flushed 4 t = ((cfg0.win 4).blk t).view.read (Elt Ideal) (A7 m ρ c) := by
  obtain rfl := fin_N t
  exact (show (dats m ρ 0 c).flushed 4 t₀ = A7 m ρ c from rfl).trans (read_out (A7 m ρ c)).symm

/-- Every place of the output is written back. -/
theorem cover_out (i : S512x512.Idx) : ∃ t : Fin cfg0.N, (cfg0.win 4).flush t = true ∧ i ∈ ((cfg0.win 4).blk t).view.set := by
  refine ⟨t₀, by decide, ?_⟩
  have e : (win0_4.blk (0 : Fin 1)).view.emb i = i := by
    funext a; apply Fin.ext
    exact Pipeline.Window.rect_emb_val_of_index_zero win0_4 (0 : Fin 1) a (by revert a; decide) i
  have h := (win0_4.blk (0 : Fin 1)).view.emb_mem_set i
  rw [e] at h
  exact h

/-- The output array ends holding the device's sum. -/
theorem finalA_out (c : Dev nD) : finalA m ρ c 4 = A7 m ρ c :=
  (dats m ρ 0 c).arrAt_eq_of_cover 4 (A7 m ρ c) (fun t _ => flushed_out m ρ c t) cover_out

end Kernel

attribute [local instance] Cert.KernelIdeal.Gen.facts Cert.ReferenceIdeal.Gen.facts Cert.WeightedIdeal.Gen.facts Cert.Pre_finite_KernelIdeal.Gen.facts

/-- Where a device holds its block of the rows, its row `r` is row `R` of all, `c` blocks further. -/
theorem rows_eq (m : (ℓ : Loc Cert.KernelIdeal.nD Cert.KernelIdeal.τ Cert.KernelIdeal.sig) → Buf (Elt Ideal) ℓ) (c : Dev Cert.KernelIdeal.nD)
    (X : FVec Ideal ⟨2, ![4096, 256]⟩ .f32) (hX : argX m c = Layout.block ⟨2, ![512, 256]⟩ ⟨2, ![4096, 256]⟩ 0 8 c X)
    (r : Fin 512) (R : Fin 4096) (hR : R.val = c.val * 512 + r.val) : rowX m c r = fun d => X (ix2 R d) := by
  funext d
  refine (congrFun hX (ix2 r d)).trans (congrArg X ?_)
  funext a; apply Fin.ext
  fin_cases a
  · exact hR.symm
  · rfl

/-- Likewise its choices. -/
theorem choice_eq (m : (ℓ : Loc Cert.KernelIdeal.nD Cert.KernelIdeal.τ Cert.KernelIdeal.sig) → Buf (Elt Ideal) ℓ) (c : Dev Cert.KernelIdeal.nD)
    (I : IVec ⟨2, ![4096, 2]⟩ 32) (hI : argI m c = Layout.block ⟨2, ![512, 2]⟩ ⟨2, ![4096, 2]⟩ 0 8 c I)
    (r : Fin 512) (R : Fin 4096) (hR : R.val = c.val * 512 + r.val) (k : Fin 2) : argI m c (ix2 r k) = I (ix2 R k) := by
  refine (congrFun hI (ix2 r k)).trans (congrArg I ?_)
  funext a; apply Fin.ext
  fin_cases a
  · exact hR.symm
  · rfl

/-- Where each device holds its block of the experts, its expert `t` is its fourth-and-`t` among all. -/
theorem experts_eq (m : (ℓ : Loc Cert.KernelIdeal.nD Cert.KernelIdeal.τ Cert.KernelIdeal.sig) → Buf (Elt Ideal) ℓ)
    (E : FVec Ideal ⟨3, ![32, 256, 512]⟩ .f32)
    (he : ∀ o : Dev Cert.KernelIdeal.nD, argE m o = Layout.block ⟨3, ![4, 256, 512]⟩ ⟨3, ![32, 256, 512]⟩ 0 8 o E)
    (o : Dev Cert.KernelIdeal.nD) (t : Fin 4) (d : Fin 256) (h : Fin 512) :
    argE m o (ix3 t d h) = (fun e d h => E (ix3 e d h)) (exo o t) d h := by
  refine (congrFun (he o) (ix3 t d h)).trans (congrArg E ?_)
  funext a; apply Fin.ext
  fin_cases a
  · show o.val * 4 + t.val = 4 * o.val + t.val; omega
  · rfl
  · rfl

/-- The kernel ends with each device's output the block of an array `V`, where `V` holds at every token and column the
    token's result. -/
theorem kernel_run (m : (ℓ : Loc Cert.KernelIdeal.nD Cert.KernelIdeal.τ Cert.KernelIdeal.sig) → Buf (Elt Ideal) ℓ)
    (g : Dev Cert.KernelIdeal.nD → PrngReg) (E : FVec Ideal ⟨3, ![32, 256, 512]⟩ .f32) (V : FVec Ideal ⟨2, ![4096, 512]⟩ .f32)
    (he : ∀ o : Dev Cert.KernelIdeal.nD, argE m o = Layout.block ⟨3, ![4, 256, 512]⟩ ⟨3, ![32, 256, 512]⟩ 0 8 o E)
    (hV : ∀ (c : Dev Cert.KernelIdeal.nD) (r l : Fin 512) (R : Fin 4096), R.val = c.val * 512 + r.val →
      outv (rowX m c r) (routW m c) (argI m c (ix2 r 0)) (argI m c (ix2 r 1)) (fun e d => E (ix3 e d l)) = V (ix2 R l)) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1) = Layout.block ⟨2, ![512, 512]⟩ ⟨2, ![4096, 512]⟩ 0 8 c V
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run _ _ _).mono (fun r h c => ?_) (run_main m g)
  refine ⟨((h.1 c 4).trans (finalA_out m g c)).trans ?_, args_unchanged m g r h.1 c⟩
  funext i
  obtain ⟨r, l, rfl⟩ : ∃ (r l : Fin 512), i = ix2 r l := ⟨i 0, i 1, by funext a; fin_cases a <;> rfl⟩
  refine (A7_outv m g (fun e d h => E (ix3 e d h)) (experts_eq m E he) c r l).trans ?_
  refine (hV c r l ⟨c.val * 512 + r.val, by have := (show c.val < 8 from c.isLt); have := r.isLt; omega⟩ rfl).trans ?_
  refine congrArg V ?_
  funext a; apply Fin.ext
  fin_cases a <;> rfl

/-- The devices' outputs are the blocks of the result of the reference with weighted rows, for every input, and both
    programs leave their arguments. -/
theorem algebraic_weighted : Cert.algebraic_KernelIdeal_WeightedIdeal := by
  intro m g m' g' _ hargs
  refine ⟨Cert.WeightedIdeal.Value.res_main_v34 m' 0, kernel_run m g _ _ (fun o => (hargs o).2.2.2) (fun c r l R hR => ?_), ?_⟩
  · rw [rows_eq m c _ (hargs c).1 r R hR, choice_eq m c _ (hargs c).2.2.1 r R hR 0, choice_eq m c _ (hargs c).2.2.1 r R hR 1,
      show routW m c = fun k e => _ from funext fun k => funext fun e => congrFun (hargs c).2.1 (ix2 k e)]
    exact (weighted_apply m' 0 R l).symm
  · exact (θ_run _ _ _).mono (fun r h => h 0) (Cert.WeightedIdeal.Value.run m' g')

/-- The devices' outputs are the blocks of the reference's result where the rows and the router are finite, and both
    programs leave their arguments. -/
theorem algebraic : Cert.algebraic_KernelIdeal_ReferenceIdeal_pre_finite_KernelIdeal := by
  intro m g m' g' hp hargs
  refine ⟨Cert.ReferenceIdeal.Value.res_main_v35 m' 0, kernel_run m g _ _ (fun o => (hargs o).2.2.2) (fun c r l R hR => ?_), ?_⟩
  · rw [outv_eq_mix _ _ _ _ _ ((finite_args m hp c).1 r) (finite_args m hp c).2,
      rows_eq m c _ (hargs c).1 r R hR, choice_eq m c _ (hargs c).2.2.1 r R hR 0, choice_eq m c _ (hargs c).2.2.1 r R hR 1,
      show routW m c = fun k e => _ from funext fun k => funext fun e => congrFun (hargs c).2.1 (ix2 k e)]
    exact (ref_apply m' 0 R l).symm
  · exact (θ_run _ _ _).mono (fun r h => h 0) (Cert.ReferenceIdeal.Value.run m' g')

end Cert.K1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.WeightedIdeal
public import proofs.«01_k».proof.Proof.Gen.WeightedIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.WeightedIdeal.Gen.facts, Cert.Pre_finite_KernelIdeal.Gen.facts, Cert.Pre_finite_ReferenceIdeal.Gen.facts,
  Cert.K1.frame_kernel, Cert.K1.frame_ideal, Cert.K1.frame_ideal_finite, Cert.K1.frame_reference,
  Cert.K1.frame_reference_finite, Cert.K1.frame_weighted, trivial, Cert.K1.algebraic, Cert.K1.algebraic_weighted⟩

end Cert.Proof

end
